-- ==== Defs.lean ====
def Pre_Kernel [hPre_in_buckets : Cert.Pre_in_buckets.Facts] (m : (ℓ : Loc Cert.Kernel.nD Cert.Kernel.τ Cert.Kernel.sig) → Buf (Elt Bits) ℓ) : Prop :=
  ∀ c : Dev Cert.Kernel.nD,
    (Cert.Pre_in_buckets.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_buckets : Cert.Pre_in_buckets.Facts] (m : (ℓ : Loc Cert.KernelIdeal.nD Cert.KernelIdeal.τ Cert.KernelIdeal.sig) → Buf (Elt Ideal) ℓ) : Prop :=
  ∀ c : Dev Cert.KernelIdeal.nD,
    (Cert.Pre_in_buckets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_buckets [hPre_in_buckets : Cert.Pre_in_buckets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_buckets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Hash (m : (ℓ : Loc Cert.Hash.nD Cert.Hash.τ Cert.Hash.sig) → Buf (Elt Bits) ℓ) : Prop :=
  True

def Pre_HashIdeal (m : (ℓ : Loc Cert.HashIdeal.nD Cert.HashIdeal.τ Cert.HashIdeal.sig) → Buf (Elt Ideal) ℓ) : Prop :=
  True

def Pre_HashReferenceIdeal (m : (ℓ : Loc Cert.HashReferenceIdeal.nD Cert.HashReferenceIdeal.τ Cert.HashReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_queries [hPre_finite_queries : Cert.Pre_finite_queries.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_queries.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_queries [hPre_finite_queries : Cert.Pre_finite_queries.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_queries.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] [hPre_in_buckets : Cert.Pre_in_buckets.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_buckets : Cert.Pre_in_buckets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_buckets [hReferenceIdeal : Cert.ReferenceIdeal.Facts] [hPre_in_buckets : Cert.Pre_in_buckets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_buckets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Hash [hHash : Cert.Hash.Facts] : Prop :=
  ∀ (m : (ℓ : Loc Cert.Hash.nD Cert.Hash.τ Cert.Hash.sig) → Buf (Elt Bits) ℓ) (g : Dev Cert.Hash.nD → PrngReg), Pre_Hash m →
    θ_run (Cert.Hash.defs (F := Bits)) (onTc (τ := Cert.Hash.τ) (Cert.Hash.main (F := Bits))) ⟨m, fun _ => 0, g⟩ (fun r => (∀ c : Dev Cert.Hash.nD,
      r.2.mem ((c.tc : Thread Cert.Hash.nD Cert.Hash.τ).loc Cert.Hash.main_arg0) = m ((c.tc : Thread Cert.Hash.nD Cert.Hash.τ).loc Cert.Hash.main_arg0)
      ∧ r.2.mem ((c.tc : Thread Cert.Hash.nD Cert.Hash.τ).loc Cert.Hash.main_arg1) = m ((c.tc : Thread Cert.Hash.nD Cert.Hash.τ).loc Cert.Hash.main_arg1)
      ∧ r.2.mem ((c.tc : Thread Cert.Hash.nD Cert.Hash.τ).loc Cert.Hash.main_arg2) = m ((c.tc : Thread Cert.Hash.nD Cert.Hash.τ).loc Cert.Hash.main_arg2))
      ∧ r.2.sem = fun _ => 0)

def quiescent_HashIdeal [hHashIdeal : Cert.HashIdeal.Facts] : Prop :=
  ∀ (m : (ℓ : Loc Cert.HashIdeal.nD Cert.HashIdeal.τ Cert.HashIdeal.sig) → Buf (Elt Ideal) ℓ) (g : Dev Cert.HashIdeal.nD → PrngReg), Pre_HashIdeal m →
    θ_run (Cert.HashIdeal.defs (F := Ideal)) (onTc (τ := Cert.HashIdeal.τ) (Cert.HashIdeal.main (F := Ideal))) ⟨m, fun _ => 0, g⟩ (fun r => (∀ c : Dev Cert.HashIdeal.nD,
      r.2.mem ((c.tc : Thread Cert.HashIdeal.nD Cert.HashIdeal.τ).loc Cert.HashIdeal.main_arg0) = m ((c.tc : Thread Cert.HashIdeal.nD Cert.HashIdeal.τ).loc Cert.HashIdeal.main_arg0)
      ∧ r.2.mem ((c.tc : Thread Cert.HashIdeal.nD Cert.HashIdeal.τ).loc Cert.HashIdeal.main_arg1) = m ((c.tc : Thread Cert.HashIdeal.nD Cert.HashIdeal.τ).loc Cert.HashIdeal.main_arg1)
      ∧ r.2.mem ((c.tc : Thread Cert.HashIdeal.nD Cert.HashIdeal.τ).loc Cert.HashIdeal.main_arg2) = m ((c.tc : Thread Cert.HashIdeal.nD Cert.HashIdeal.τ).loc Cert.HashIdeal.main_arg2))
      ∧ r.2.sem = fun _ => 0)

def quiescent_HashReferenceIdeal [hHashReferenceIdeal : Cert.HashReferenceIdeal.Facts] : Prop :=
  ∀ (m : (ℓ : Loc Cert.HashReferenceIdeal.nD Cert.HashReferenceIdeal.τ Cert.HashReferenceIdeal.sig) → Buf (Elt Ideal) ℓ) (g : Dev Cert.HashReferenceIdeal.nD → PrngReg), Pre_HashReferenceIdeal m →
    θ_run (Cert.HashReferenceIdeal.defs (F := Ideal)) (onTc (τ := Cert.HashReferenceIdeal.τ) (Cert.HashReferenceIdeal.main (F := Ideal))) ⟨m, fun _ => 0, g⟩ (fun r => (∀ c : Dev Cert.HashReferenceIdeal.nD,
      r.2.mem ((c.tc : Thread Cert.HashReferenceIdeal.nD Cert.HashReferenceIdeal.τ).loc Cert.HashReferenceIdeal.main_arg0) = m ((c.tc : Thread Cert.HashReferenceIdeal.nD Cert.HashReferenceIdeal.τ).loc Cert.HashReferenceIdeal.main_arg0)
      ∧ r.2.mem ((c.tc : Thread Cert.HashReferenceIdeal.nD Cert.HashReferenceIdeal.τ).loc Cert.HashReferenceIdeal.main_arg1) = m ((c.tc : Thread Cert.HashReferenceIdeal.nD Cert.HashReferenceIdeal.τ).loc Cert.HashReferenceIdeal.main_arg1)
      ∧ r.2.mem ((c.tc : Thread Cert.HashReferenceIdeal.nD Cert.HashReferenceIdeal.τ).loc Cert.HashReferenceIdeal.main_arg2) = m ((c.tc : Thread Cert.HashReferenceIdeal.nD Cert.HashReferenceIdeal.τ).loc Cert.HashReferenceIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_queries [hAttentionIdeal : Cert.AttentionIdeal.Facts] [hPre_finite_queries : Cert.Pre_finite_queries.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_queries m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_AttentionReferenceIdeal_pre_finite_queries [hAttentionReferenceIdeal : Cert.AttentionReferenceIdeal.Facts] [hPre_finite_queries : Cert.Pre_finite_queries.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_queries m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_buckets : Cert.Pre_in_buckets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Hash_HashIdeal : Prop :=
  True

def algebraic_HashIdeal_HashReferenceIdeal [hHashIdeal : Cert.HashIdeal.Facts] [hHashReferenceIdeal : Cert.HashReferenceIdeal.Facts] : Prop :=
  ∀ (m : (ℓ : Loc Cert.HashIdeal.nD Cert.HashIdeal.τ Cert.HashIdeal.sig) → Buf (Elt Ideal) ℓ) (g : Dev Cert.HashIdeal.nD → PrngReg)
    (m' : (ℓ : Loc Cert.HashReferenceIdeal.nD Cert.HashReferenceIdeal.τ Cert.HashReferenceIdeal.sig) → Buf (Elt Ideal) ℓ) (g' : Dev Cert.HashReferenceIdeal.nD → PrngReg), Pre_HashIdeal m →
    (∀ c : Dev Cert.HashIdeal.nD,
      m' ((c.tc : Thread Cert.HashReferenceIdeal.nD Cert.HashReferenceIdeal.τ).loc Cert.HashReferenceIdeal.main_arg0) = m ((c.tc : Thread Cert.HashIdeal.nD Cert.HashIdeal.τ).loc Cert.HashIdeal.main_arg0)
      ∧ m' ((c.tc : Thread Cert.HashReferenceIdeal.nD Cert.HashReferenceIdeal.τ).loc Cert.HashReferenceIdeal.main_arg1) = m ((c.tc : Thread Cert.HashIdeal.nD Cert.HashIdeal.τ).loc Cert.HashIdeal.main_arg1)
      ∧ m' ((c.tc : Thread Cert.HashReferenceIdeal.nD Cert.HashReferenceIdeal.τ).loc Cert.HashReferenceIdeal.main_arg2) = m ((c.tc : Thread Cert.HashIdeal.nD Cert.HashIdeal.τ).loc Cert.HashIdeal.main_arg2)) →
    ∃ (v0 : (c : Dev Cert.HashIdeal.nD) → Buf (Elt Ideal) ((c.tc : Thread Cert.HashIdeal.nD Cert.HashIdeal.τ).loc Cert.HashIdeal.main_v2_0)) (v1 : (c : Dev Cert.HashIdeal.nD) → Buf (Elt Ideal) ((c.tc : Thread Cert.HashIdeal.nD Cert.HashIdeal.τ).loc Cert.HashIdeal.main_v2_1)),
      θ_run (Cert.HashIdeal.defs (F := Ideal)) (onTc (τ := Cert.HashIdeal.τ) (Cert.HashIdeal.main (F := Ideal))) ⟨m, fun _ => 0, g⟩ (fun r => ∀ c : Dev Cert.HashIdeal.nD,
          r.2.mem ((c.tc : Thread Cert.HashIdeal.nD Cert.HashIdeal.τ).loc Cert.HashIdeal.main_v2_0) = v0 c
          ∧ r.2.mem ((c.tc : Thread Cert.HashIdeal.nD Cert.HashIdeal.τ).loc Cert.HashIdeal.main_v2_1) = v1 c
          ∧ r.2.mem ((c.tc : Thread Cert.HashIdeal.nD Cert.HashIdeal.τ).loc Cert.HashIdeal.main_arg0) = m ((c.tc : Thread Cert.HashIdeal.nD Cert.HashIdeal.τ).loc Cert.HashIdeal.main_arg0)
          ∧ r.2.mem ((c.tc : Thread Cert.HashIdeal.nD Cert.HashIdeal.τ).loc Cert.HashIdeal.main_arg1) = m ((c.tc : Thread Cert.HashIdeal.nD Cert.HashIdeal.τ).loc Cert.HashIdeal.main_arg1)
          ∧ r.2.mem ((c.tc : Thread Cert.HashIdeal.nD Cert.HashIdeal.τ).loc Cert.HashIdeal.main_arg2) = m ((c.tc : Thread Cert.HashIdeal.nD Cert.HashIdeal.τ).loc Cert.HashIdeal.main_arg2))
      ∧ θ_run (Cert.HashReferenceIdeal.defs (F := Ideal)) (onTc (τ := Cert.HashReferenceIdeal.τ) (Cert.HashReferenceIdeal.main (F := Ideal))) ⟨m', fun _ => 0, g'⟩ (fun r => ∀ c : Dev Cert.HashReferenceIdeal.nD,
          r.2.mem ((c.tc : Thread Cert.HashReferenceIdeal.nD Cert.HashReferenceIdeal.τ).loc Cert.HashReferenceIdeal.main_v11) = v0 c
          ∧ r.2.mem ((c.tc : Thread Cert.HashReferenceIdeal.nD Cert.HashReferenceIdeal.τ).loc Cert.HashReferenceIdeal.main_v12) = v1 c
          ∧ r.2.mem ((c.tc : Thread Cert.HashReferenceIdeal.nD Cert.HashReferenceIdeal.τ).loc Cert.HashReferenceIdeal.main_arg0) = m' ((c.tc : Thread Cert.HashReferenceIdeal.nD Cert.HashReferenceIdeal.τ).loc Cert.HashReferenceIdeal.main_arg0)
          ∧ r.2.mem ((c.tc : Thread Cert.HashReferenceIdeal.nD Cert.HashReferenceIdeal.τ).loc Cert.HashReferenceIdeal.main_arg1) = m' ((c.tc : Thread Cert.HashReferenceIdeal.nD Cert.HashReferenceIdeal.τ).loc Cert.HashReferenceIdeal.main_arg1)
          ∧ r.2.mem ((c.tc : Thread Cert.HashReferenceIdeal.nD Cert.HashReferenceIdeal.τ).loc Cert.HashReferenceIdeal.main_arg2) = m' ((c.tc : Thread Cert.HashReferenceIdeal.nD Cert.HashReferenceIdeal.τ).loc Cert.HashReferenceIdeal.main_arg2))

def preserves_Attention_AttentionIdeal : Prop :=
  True

def algebraic_AttentionIdeal_AttentionReferenceIdeal_pre_finite_queries [hAttentionIdeal : Cert.AttentionIdeal.Facts] [hAttentionReferenceIdeal : Cert.AttentionReferenceIdeal.Facts] [hPre_finite_queries : Cert.Pre_finite_queries.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_queries m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v2) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v45) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)) →
    ∃ (v0 : (c : Dev Cert.CombineIdeal.nD) → Buf (Elt Ideal) ((c.tc : Thread Cert.CombineIdeal.nD Cert.CombineIdeal.τ).loc Cert.CombineIdeal.main_v2)) (v1 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_v0) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v19) = v0 c
          ∧ r.2.mem ((c.tc : Thread Cert.CombineReferenceIdeal.nD Cert.CombineReferenceIdeal.τ).loc Cert.CombineReferenceIdeal.main_v20) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0))

def Claim : Prop :=
  ∃ (hKernel : Cert.Kernel.Facts) (hKernelIdeal : Cert.KernelIdeal.Facts) (hReferenceIdeal : Cert.ReferenceIdeal.Facts) (hHash : Cert.Hash.Facts) (hHashIdeal : Cert.HashIdeal.Facts) (hHashReferenceIdeal : Cert.HashReferenceIdeal.Facts) (hAttention : Cert.Attention.Facts) (hAttentionIdeal : Cert.AttentionIdeal.Facts) (hAttentionReferenceIdeal : Cert.AttentionReferenceIdeal.Facts) (hCombine : Cert.Combine.Facts) (hCombineIdeal : Cert.CombineIdeal.Facts) (hCombineReferenceIdeal : Cert.CombineReferenceIdeal.Facts) (hPre_in_buckets : Cert.Pre_in_buckets.Facts) (hPre_finite_queries : Cert.Pre_finite_queries.Facts),
    quiescent_Kernel (hKernel := hKernel) (hPre_in_buckets := hPre_in_buckets)
    ∧ quiescent_KernelIdeal (hKernelIdeal := hKernelIdeal) (hPre_in_buckets := hPre_in_buckets)
    ∧ quiescent_ReferenceIdeal (hReferenceIdeal := hReferenceIdeal)
    ∧ quiescent_ReferenceIdeal_pre_in_buckets (hReferenceIdeal := hReferenceIdeal) (hPre_in_buckets := hPre_in_buckets)
    ∧ quiescent_Hash (hHash := hHash)
    ∧ quiescent_HashIdeal (hHashIdeal := hHashIdeal)
    ∧ quiescent_HashReferenceIdeal (hHashReferenceIdeal := hHashReferenceIdeal)
    ∧ quiescent_Attention (hAttention := hAttention)
    ∧ quiescent_AttentionIdeal (hAttentionIdeal := hAttentionIdeal)
    ∧ quiescent_AttentionIdeal_pre_finite_queries (hAttentionIdeal := hAttentionIdeal) (hPre_finite_queries := hPre_finite_queries)
    ∧ quiescent_AttentionReferenceIdeal (hAttentionReferenceIdeal := hAttentionReferenceIdeal)
    ∧ quiescent_AttentionReferenceIdeal_pre_finite_queries (hAttentionReferenceIdeal := hAttentionReferenceIdeal) (hPre_finite_queries := hPre_finite_queries)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal (hKernelIdeal := hKernelIdeal) (hReferenceIdeal := hReferenceIdeal) (hPre_in_buckets := hPre_in_buckets)
    ∧ preserves_Hash_HashIdeal
    ∧ algebraic_HashIdeal_HashReferenceIdeal (hHashIdeal := hHashIdeal) (hHashReferenceIdeal := hHashReferenceIdeal)
    ∧ preserves_Attention_AttentionIdeal
    ∧ algebraic_AttentionIdeal_AttentionReferenceIdeal_pre_finite_queries (hAttentionIdeal := hAttentionIdeal) (hAttentionReferenceIdeal := hAttentionReferenceIdeal) (hPre_finite_queries := hPre_finite_queries)
    ∧ preserves_Combine_CombineIdeal
    ∧ algebraic_CombineIdeal_CombineReferenceIdeal (hCombineIdeal := hCombineIdeal) (hCombineReferenceIdeal := hCombineReferenceIdeal)
-- ==== Pre_finite_queries.lean ====
abbrev S4x16384x128 : Shape := ⟨3, ![4, 16384, 128]⟩
abbrev S4x16384 : Shape := ⟨2, ![4, 16384]⟩
abbrev S4x16384x64 : Shape := ⟨3, ![4, 16384, 64]⟩
abbrev S_ : Shape := ⟨0, ![]⟩

class Facts : Prop where
  slices_S4x16384x128_S4x16384x64_0_0_0 : S4x16384x128.Slices ![0, 0, 0] S4x16384x64
  bcast_S_S4x16384x64 : S_.BroadcastsInDim S4x16384x64 (![] : Fin 0 → Fin S4x16384x64.rank)

variable [Facts]

def fn {F : FTy → Type} [FloatOps F] (main_arg0 : FVec F S4x16384x128 .f32) (main_arg1 : IVec S4x16384 32) : IVec S4x16384x64 1 :=
  let main_v0 : FVec F S4x16384x64 .f32 := (extractStridedSlice S4x16384x64 ![0, 0, 0] · slices_S4x16384x128_S4x16384x64_0_0_0) main_arg0
  let main_v1 : FVec F S4x16384x64 .f32 := Host.absf main_v0
  let main_cst : FVec F S_ .f32 := constant S_ .f32 0x7F800000#32
  let main_v2 : FVec F S4x16384x64 .f32 := broadcastInDim S4x16384x64 ![] bcast_S_S4x16384x64 main_cst
  let main_v3 : IVec S4x16384x64 1 := cmpf .olt main_v1 main_v2
  main_v3
-- ==== Pre_in_buckets.lean ====
abbrev S4x4096x128 : Shape := ⟨3, ![4, 4096, 128]⟩
abbrev S4x4x4096 : Shape := ⟨3, ![4, 4, 4096]⟩
abbrev S4x16384x128 : Shape := ⟨3, ![4, 16384, 128]⟩
abbrev S4 : Shape := ⟨1, ![4]⟩
abbrev S1x4x1 : Shape := ⟨3, ![1, 4, 1]⟩
abbrev S_ : Shape := ⟨0, ![]⟩

class Facts : Prop where
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S1x4x1_S4x4x4096_0_1_2 : S1x4x1.BroadcastsInDim S4x4x4096 (![0, 1, 2] : Fin 3 → Fin S4x4x4096.rank)

variable [Facts]

def fn {F : FTy → Type} [FloatOps F] (main_arg0 : FVec F S4x4096x128 .f32) (main_arg1 : IVec S4x4x4096 32) (main_arg2 : FVec F S4x16384x128 .f32) : IVec S4x4x4096 1 :=
  let main_v0 : IVec S4 32 := iotaInDim S4 32 0
  let main_v1 : IVec S1x4x1 32 := broadcastInDim S1x4x1 ![1] bcast_S4_S1x4x1_1 main_v0
  let main_c : IVec S_ 32 := constantI S_ 32 64#32
  let main_v2 : IVec S1x4x1 32 := broadcastInDim S1x4x1 ![] bcast_S_S1x4x1 main_c
  let main_v3 : IVec S1x4x1 32 := muli main_v1 main_v2
  let main_v4 : IVec S4x4x4096 32 := broadcastInDim S4x4x4096 ![0, 1, 2] bcast_S1x4x1_S4x4x4096_0_1_2 main_v3
  let main_v5 : IVec S4x4x4096 1 := cmpi .sge main_arg1 main_v4
  let main_c_0 : IVec S_ 32 := constantI S_ 32 64#32
  let main_v6 : IVec S1x4x1 32 := broadcastInDim S1x4x1 ![] bcast_S_S1x4x1 main_c_0
  let main_v7 : IVec S1x4x1 32 := addi main_v3 main_v6
  let main_v8 : IVec S4x4x4096 32 := broadcastInDim S4x4x4096 ![0, 1, 2] bcast_S1x4x1_S4x4x4096_0_1_2 main_v7
  let main_v9 : IVec S4x4x4096 1 := cmpi .slt main_arg1 main_v8
  let main_v10 : IVec S4x4x4096 1 := andi main_v5 main_v9
  main_v10
-- ==== Kernel.lean ====
abbrev S4x4096x128 : Shape := ⟨3, ![4, 4096, 128]⟩
abbrev S4x4x4096 : Shape := ⟨3, ![4, 4, 4096]⟩
abbrev S4x16384x128 : Shape := ⟨3, ![4, 16384, 128]⟩
abbrev S4x16384 : Shape := ⟨2, ![4, 16384]⟩
abbrev S4096 : Shape := ⟨1, ![4096]⟩
abbrev S1024 : Shape := ⟨1, ![1024]⟩
abbrev S_ : Shape := ⟨0, ![]⟩
abbrev S1x1x4096 : Shape := ⟨3, ![1, 1, 4096]⟩
abbrev S16 : Shape := ⟨1, ![16]⟩
abbrev S1x4096 : Shape := ⟨2, ![1, 4096]⟩
abbrev S4 : Shape := ⟨1, ![4]⟩
abbrev S4x1 : Shape := ⟨2, ![4, 1]⟩
abbrev S65536 : Shape := ⟨1, ![65536]⟩
abbrev S16384x128 : Shape := ⟨2, ![16384, 128]⟩
abbrev S65536x128 : Shape := ⟨2, ![65536, 128]⟩
abbrev S128 : Shape := ⟨1, ![128]⟩
abbrev S128x128 : Shape := ⟨2, ![128, 128]⟩

abbrev nBuf : Table → Nat
  | .hbm => 27
  | .local .scVector .vmem => 10
  | _ => 0

abbrev bufTy : (tb : Table) → Fin (nBuf tb) → BufTy
  | .hbm, ⟨0, _⟩ => ⟨S4x4096x128, .f32⟩
  | .hbm, ⟨1, _⟩ => ⟨S4x4x4096, .i32⟩
  | .hbm, ⟨2, _⟩ => ⟨S4x16384x128, .f32⟩
  | .hbm, ⟨3, _⟩ => ⟨S4x16384, .i32⟩
  | .hbm, ⟨4, _⟩ => ⟨S4x16384, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4x1, .i32⟩
  | .hbm, ⟨10, _⟩ => ⟨S4x16384, .i32⟩
  | .hbm, ⟨11, _⟩ => ⟨S4x16384, .i32⟩
  | .hbm, ⟨12, _⟩ => ⟨S65536, .i32⟩
  | .hbm, ⟨13, _⟩ => ⟨S16384x128, .f32⟩
  | .hbm, ⟨14, _⟩ => ⟨S65536x128, .f32⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4x1, .i32⟩
  | .hbm, ⟨20, _⟩ => ⟨S4x16384, .i32⟩
  | .hbm, ⟨21, _⟩ => ⟨S4x16384, .i32⟩
  | .hbm, ⟨22, _⟩ => ⟨S65536, .i32⟩
  | .hbm, ⟨23, _⟩ => ⟨S65536x128, .f32⟩
  | .hbm, ⟨24, _⟩ => ⟨S65536x128, .f32⟩
  | .hbm, ⟨25, _⟩ => ⟨S4x16384x128, .f32⟩
  | .hbm, ⟨26, _⟩ => ⟨S4x16384x128, .f32⟩
  | .local .scVector .vmem, ⟨0, _⟩ => ⟨S4096, .i32⟩
  | .local .scVector .vmem, ⟨1, _⟩ => ⟨S4096, .i32⟩
  | .local .scVector .vmem, ⟨2, _⟩ => ⟨S4096, .i32⟩
  | .local .scVector .vmem, ⟨3, _⟩ => ⟨S4096, .i32⟩
  | .local .scVector .vmem, ⟨4, _⟩ => ⟨S1024, .i32⟩
  | .local .scVector .vmem, ⟨5, _⟩ => ⟨S1024, .i32⟩
  | .local .scVector .vmem, ⟨6, _⟩ => ⟨S128, .i32⟩
  | .local .scVector .vmem, ⟨7, _⟩ => ⟨S128x128, .f32⟩
  | .local .scVector .vmem, ⟨8, _⟩ => ⟨S128, .i32⟩
  | .local .scVector .vmem, ⟨9, _⟩ => ⟨S128x128, .f32⟩
  | _, _ => ⟨S4x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_arg1_scv : Ref sig .scVector := ⟨.hbm, 1, rfl⟩
abbrev main_v0_0_scv : Ref sig .scVector := ⟨.hbm, 3, rfl⟩
abbrev main_v0_1_scv : Ref sig .scVector := ⟨.hbm, 4, rfl⟩
abbrev main_v8_scv : Ref sig .scVector := ⟨.hbm, 13, rfl⟩
abbrev main_v7_scv : Ref sig .scVector := ⟨.hbm, 12, rfl⟩
abbrev main_v9_scv : Ref sig .scVector := ⟨.hbm, 14, rfl⟩
abbrev main_v17_scv : Ref sig .scVector := ⟨.hbm, 23, rfl⟩
abbrev main_v16_scv : Ref sig .scVector := ⟨.hbm, 22, rfl⟩
abbrev main_v18_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc2_scratch0 : Ref sig .scVector := ⟨.vmem, 8, rfl⟩
abbrev cc2_scratch1 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c4_i32 : BitVec 32 := 4#32
  let c0_i32_2 : BitVec 32 := 0#32
  let v11 : BitVec 1 := Scalar.cmpi .sgt c4_i32 c0_i32_2
  let v12 : BitVec 32 := Scalar.extui v11
  let c0_i32_3 : BitVec 32 := 0#32
  let v13 : BitVec 1 := Scalar.cmpi .slt c4_i32 c0_i32_3
  let v14 : BitVec 32 := Scalar.extui v13
  let v15 : BitVec 32 := Scalar.subi v12 v14
  let v16 : BitVec 1 := Scalar.cmpi .ne v10 v15
  let v17 : BitVec 32 := Scalar.remsi v1 c4_i32
  let c0_i32_4 : BitVec 32 := 0#32
  let v18 : BitVec 1 := Scalar.cmpi .ne v17 c0_i32_4
  let v19 : BitVec 1 := Scalar.andi v16 v18
  let v5 : BitVec 32 := Scalar.divsi v1 c4_i32
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c0_i32_32_r0 : BitVec 32 := 0#32
  ![v21.toNat, v31.toNat, 0]
@[reducible] def k0_t1_loop : Scf.Loop 32 :=
  let c0_i32_13 : BitVec 32 := 0#32
  let c64_i32_14 : BitVec 32 := 64#32
  let v35 : BitVec 32 := Scalar.addi c0_i32_13 c64_i32_14
  let c1_i32_15 : BitVec 32 := 1#32
  ⟨c0_i32_13, v35, c1_i32_15⟩
def k0_off2 (k0_t1 : Fin k0_t1_loop.trips) : Fin 1 → Nat :=
  let c0_i32_13 : BitVec 32 := 0#32
  let c1_i32_15 : BitVec 32 := 1#32
  let arg11 : BitVec 32 := Scf.iv c0_i32_13 c1_i32_15 k0_t1
  let c16_i32_32 : BitVec 32 := 16#32
  let v42 : BitVec 32 := Scalar.muli arg11 c16_i32_32
  let v43 : Index := Scalar.indexCast v42
  ![v43.toNat]
@[reducible] def k0_t2_loop : Scf.Loop 32 :=
  let c0_i32_18 : BitVec 32 := 0#32
  let c256_i32 : BitVec 32 := 256#32
  let v36 : BitVec 32 := Scalar.addi c0_i32_18 c256_i32
  let c1_i32_19 : BitVec 32 := 1#32
  ⟨c0_i32_18, v36, c1_i32_19⟩

def k0_chk1 (i : grid0.Coords) (v45 : IVec S16 32) : Prop :=
  (∀ (k0_h1 : k0_cond1 i = 1#1), ∀ a x, ((![v45] : Fin 1 → IVec S16 32) a x).toNat < S4096.size a)
theorem k0_idx1_inb : ∀ (i : grid0.Coords) (v45 : IVec S16 32) (k0_hw1 : k0_chk1 i v45), ∀ (k0_h1 : k0_cond1 i = 1#1), ∀ a x, ((![v45] : Fin 1 → IVec S16 32) a x).toNat < S4096.size a := fun i v45 k0_hw1 k0_h1 => k0_hw1 k0_h1
def k0_off3 (k0_t2 : Fin k0_t2_loop.trips) : Fin 1 → Nat :=
  let c0_i32_18 : BitVec 32 := 0#32
  let c1_i32_19 : BitVec 32 := 1#32
  let arg11 : BitVec 32 := Scf.iv c0_i32_18 c1_i32_19 k0_t2
  let c16_i32_34 : BitVec 32 := 16#32
  let v53 : BitVec 32 := Scalar.muli arg11 c16_i32_34
  let v54 : Index := Scalar.indexCast v53
  ![v54.toNat]

def k0_chk2 (i : grid0.Coords) (v51 : IVec S16 32) : Prop :=
  (∀ (k0_h1 : k0_cond1 i = 1#1), ∀ a x, ((![v51] : Fin 1 → IVec S16 32) a x).toNat < S1024.size a) ∧
  (∀ (k0_h1 : k0_cond1 i = 1#1), ∀ a x, ((![v51] : Fin 1 → IVec S16 32) a x).toNat < S1024.size a)
theorem k0_idx2_inb : ∀ (i : grid0.Coords) (v51 : IVec S16 32) (k0_hw2 : k0_chk2 i v51), ∀ (k0_h1 : k0_cond1 i = 1#1), ∀ a x, ((![v51] : Fin 1 → IVec S16 32) a x).toNat < S1024.size a := fun i v51 k0_hw2 k0_h1 => k0_hw2.1 k0_h1
theorem k0_idx3_inb : ∀ (i : grid0.Coords) (v51 : IVec S16 32) (k0_hw2 : k0_chk2 i v51), ∀ (k0_h1 : k0_cond1 i = 1#1), ∀ a x, ((![v51] : Fin 1 → IVec S16 32) a x).toNat < S1024.size a := fun i v51 k0_hw2 k0_h1 => k0_hw2.2 k0_h1
@[reducible] def k0_t3_loop : Scf.Loop 32 :=
  let c0_i32_22 : BitVec 32 := 0#32
  let c64_i32_23 : BitVec 32 := 64#32
  let v37 : BitVec 32 := Scalar.addi c0_i32_22 c64_i32_23
  let c1_i32_24 : BitVec 32 := 1#32
  ⟨c0_i32_22, v37, c1_i32_24⟩
def k0_off4 (k0_t3 : Fin k0_t3_loop.trips) : Fin 1 → Nat :=
  let c0_i32_22 : BitVec 32 := 0#32
  let c1_i32_24 : BitVec 32 := 1#32
  let arg11 : BitVec 32 := Scf.iv c0_i32_22 c1_i32_24 k0_t3
  let c16_i32_32 : BitVec 32 := 16#32
  let v42 : BitVec 32 := Scalar.muli arg11 c16_i32_32
  let v43 : Index := Scalar.indexCast v42
  ![v43.toNat]
@[reducible] def k0_t4_loop : Scf.Loop 32 :=
  let c0_i32_27 : BitVec 32 := 0#32
  let c256_i32_28 : BitVec 32 := 256#32
  let v39 : BitVec 32 := Scalar.addi c0_i32_27 c256_i32_28
  let c1_i32_29 : BitVec 32 := 1#32
  ⟨c0_i32_27, v39, c1_i32_29⟩

def k0_chk4 (i : grid0.Coords) (v51 : IVec S16 32) : Prop :=
  (∀ (k0_h1 : k0_cond1 i = 1#1), ∀ a x, ((![v51] : Fin 1 → IVec S16 32) a x).toNat < S1024.size a)
theorem k0_idx5_inb : ∀ (i : grid0.Coords) (v51 : IVec S16 32) (k0_hw4 : k0_chk4 i v51), ∀ (k0_h1 : k0_cond1 i = 1#1), ∀ a x, ((![v51] : Fin 1 → IVec S16 32) a x).toNat < S1024.size a := fun i v51 k0_hw4 k0_h1 => k0_hw4 k0_h1
def k0_off5 (k0_t4 : Fin k0_t4_loop.trips) : Fin 1 → Nat :=
  let c0_i32_27 : BitVec 32 := 0#32
  let c1_i32_29 : BitVec 32 := 1#32
  let arg11 : BitVec 32 := Scf.iv c0_i32_27 c1_i32_29 k0_t4
  let c16_i32_34 : BitVec 32 := 16#32
  let v53 : BitVec 32 := Scalar.muli arg11 c16_i32_34
  let v54 : Index := Scalar.indexCast v53
  ![v54.toNat]

def k0_chk5 (i : grid0.Coords) (v56 : IVec S16 32) : Prop :=
  (∀ (k0_h1 : k0_cond1 i = 1#1), ∀ a x, ((![v56] : Fin 1 → IVec S16 32) a x).toNat < S4096.size a)
theorem k0_idx6_inb : ∀ (i : grid0.Coords) (v56 : IVec S16 32) (k0_hw5 : k0_chk5 i v56), ∀ (k0_h1 : k0_cond1 i = 1#1), ∀ a x, ((![v56] : Fin 1 → IVec S16 32) a x).toNat < S4096.size a := fun i v56 k0_hw5 k0_h1 => k0_hw5 k0_h1

def k0_chk3 (i : grid0.Coords) (v45 : IVec S16 32) : Prop :=
  (∀ (k0_h1 : k0_cond1 i = 1#1), ∀ a x, ((![v45] : Fin 1 → IVec S16 32) a x).toNat < S4096.size a) ∧
  (∀ (k0_h1 : k0_cond1 i = 1#1), ∀ a x, ((![v45] : Fin 1 → IVec S16 32) a x).toNat < S4096.size a)
theorem k0_idx4_inb : ∀ (i : grid0.Coords) (v45 : IVec S16 32) (k0_hw3 : k0_chk3 i v45), ∀ (k0_h1 : k0_cond1 i = 1#1), ∀ a x, ((![v45] : Fin 1 → IVec S16 32) a x).toNat < S4096.size a := fun i v45 k0_hw3 k0_h1 => k0_hw3.1 k0_h1
theorem k0_idx7_inb : ∀ (i : grid0.Coords) (v45 : IVec S16 32) (k0_hw3 : k0_chk3 i v45), ∀ (k0_h1 : k0_cond1 i = 1#1), ∀ a x, ((![v45] : Fin 1 → IVec S16 32) a x).toNat < S4096.size a := fun i v45 k0_hw3 k0_h1 => k0_hw3.2 k0_h1
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c4_i32 : BitVec 32 := 4#32
  let c0_i32_2 : BitVec 32 := 0#32
  let v11 : BitVec 1 := Scalar.cmpi .sgt c4_i32 c0_i32_2
  let v12 : BitVec 32 := Scalar.extui v11
  let c0_i32_3 : BitVec 32 := 0#32
  let v13 : BitVec 1 := Scalar.cmpi .slt c4_i32 c0_i32_3
  let v14 : BitVec 32 := Scalar.extui v13
  let v15 : BitVec 32 := Scalar.subi v12 v14
  let v16 : BitVec 1 := Scalar.cmpi .ne v10 v15
  let v17 : BitVec 32 := Scalar.remsi v1 c4_i32
  let c0_i32_4 : BitVec 32 := 0#32
  let v18 : BitVec 1 := Scalar.cmpi .ne v17 c0_i32_4
  let v19 : BitVec 1 := Scalar.andi v16 v18
  let v5 : BitVec 32 := Scalar.divsi v1 c4_i32
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c4096_i32 : BitVec 32 := 4096#32
  let v40 : BitVec 32 := Scalar.muli v31 c4096_i32
  ![v21.toNat, v40.toNat]
abbrev grid1 : Pipeline.Grid := ⟨2, ![2, 16], ![false, false]⟩

@[reducible] def k1_t1_loop : Scf.Loop 32 :=
  let c0_i32_0 : BitVec 32 := 0#32
  let c16_i32 : BitVec 32 := 16#32
  let v2 : BitVec 32 := Scalar.addi c0_i32_0 c16_i32
  let c1_i32 : BitVec 32 := 1#32
  ⟨c0_i32_0, v2, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v3 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  let v5 : BitVec 32 := Scalar.addi v3 v4
  let c0_i32_6_r1 : BitVec 32 := 0#32
  ![v5.toNat, 0]
abbrev grid2 : Pipeline.Grid := ⟨2, ![2, 16], ![false, false]⟩

@[reducible] def k2_t1_loop : Scf.Loop 32 :=
  let c0_i32_0 : BitVec 32 := 0#32
  let c16_i32 : BitVec 32 := 16#32
  let v2 : BitVec 32 := Scalar.addi c0_i32_0 c16_i32
  let c1_i32 : BitVec 32 := 1#32
  ⟨c0_i32_0, v2, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v3 v4
  ![v5.toNat]
def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_0 : BitVec 32 := 0#32
  let c1_i32 : BitVec 32 := 1#32
  let arg8 : BitVec 32 := Scf.iv c0_i32_0 c1_i32 k2_t1
  let c128_i32 : BitVec 32 := 128#32
  let v4 : BitVec 32 := Scalar.muli arg8 c128_i32
  let v5 : BitVec 32 := Scalar.addi v3 v4
  let c0_i32_6_r1 : BitVec 32 := 0#32
  ![v5.toNat, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S4x4096x128 : Shape := ⟨3, ![4, 4096, 128]⟩
abbrev S4x4x4096 : Shape := ⟨3, ![4, 4, 4096]⟩
abbrev S4x16384x128 : Shape := ⟨3, ![4, 16384, 128]⟩
abbrev S4x16384 : Shape := ⟨2, ![4, 16384]⟩
abbrev S16384 : Shape := ⟨1, ![16384]⟩
abbrev S1x16384 : Shape := ⟨2, ![1, 16384]⟩
abbrev S_ : Shape := ⟨0, ![]⟩
abbrev S4x16384x1 : Shape := ⟨3, ![4, 16384, 1]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4x4096, .i32⟩
  | .hbm, ⟨2, _⟩ => ⟨S4x16384x128, .f32⟩
  | .hbm, ⟨3, _⟩ => ⟨S4x16384, .i32⟩
  | .hbm, ⟨4, _⟩ => ⟨S16384, .i32⟩
  | .hbm, ⟨5, _⟩ => ⟨S1x16384, .i32⟩
  | .hbm, ⟨6, _⟩ => ⟨S4x16384, .i32⟩
  | .hbm, ⟨7, _⟩ => ⟨S_, .i32⟩
  | .hbm, ⟨8, _⟩ => ⟨S4x16384, .i32⟩
  | .hbm, ⟨9, _⟩ => ⟨S4x16384, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4x16384, .i32⟩
  | .hbm, ⟨17, _⟩ => ⟨S4x16384, .i32⟩
  | .hbm, ⟨18, _⟩ => ⟨S_, .i32⟩
  | .hbm, ⟨19, _⟩ => ⟨S4x16384, .i32⟩
  | .hbm, ⟨20, _⟩ => ⟨S4x16384, .i1⟩
  | .hbm, ⟨21, _⟩ => ⟨S_, .i32⟩
  | .hbm, ⟨22, _⟩ => ⟨S4x16384, .i32⟩
  | .hbm, ⟨23, _⟩ => ⟨S4x16384, .i1⟩
  | .hbm, ⟨24, _⟩ => ⟨S_, .i32⟩
  | .hbm, ⟨25, _⟩ => ⟨S_, .i1⟩
  | .hbm, ⟨26, _⟩ => ⟨S4x16384, .i1⟩
  | .hbm, ⟨27, _⟩ => ⟨S4x16384, .i1⟩
  | .hbm, ⟨28, _⟩ => ⟨S4x16384, .i1⟩
  | .hbm, ⟨29, _⟩ => ⟨S4x16384, .i32⟩
  | .hbm, ⟨30, _⟩ => ⟨S4x16384, .i32⟩
  | .hbm, ⟨31, _⟩ => ⟨S4x16384, .i32⟩
  | .hbm, ⟨32, _⟩ => ⟨S4x16384, .i32⟩
  | .hbm, ⟨33, _⟩ => ⟨S4x16384, .i32⟩
  | .hbm, ⟨34, _⟩ => ⟨S4x16384, .i32⟩
  | .hbm, ⟨35, _⟩ => ⟨S4x16384, .i32⟩
  | .hbm, ⟨36, _⟩ => ⟨S4x16384, .i32⟩
  | .hbm, ⟨37, _⟩ => ⟨S4x16384, .i32⟩
  | .hbm, ⟨38, _⟩ => ⟨S4x16384, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S4x16384, .i32⟩
  | .hbm, ⟨46, _⟩ => ⟨S4x16384, .i32⟩
  | .hbm, ⟨47, _⟩ => ⟨S_, .i32⟩
  | .hbm, ⟨48, _⟩ => ⟨S4x16384, .i32⟩
  | .hbm, ⟨49, _⟩ => ⟨S4x16384, .i1⟩
  | .hbm, ⟨50, _⟩ => ⟨S_, .i32⟩
  | .hbm, ⟨51, _⟩ => ⟨S4x16384, .i32⟩
  | .hbm, ⟨52, _⟩ => ⟨S4x16384, .i1⟩
  | .hbm, ⟨53, _⟩ => ⟨S_, .i32⟩
  | .hbm, ⟨54, _⟩ => ⟨S_, .i1⟩
  | .hbm, ⟨55, _⟩ => ⟨S4x16384, .i1⟩
  | .hbm, ⟨56, _⟩ => ⟨S4x16384, .i1⟩
  | .hbm, ⟨57, _⟩ => ⟨S4x16384, .i1⟩
  | .hbm, ⟨58, _⟩ => ⟨S4x16384, .i32⟩
  | .hbm, ⟨59, _⟩ => ⟨S4x16384, .i32⟩
  | .hbm, ⟨60, _⟩ => ⟨S4x16384, .i32⟩
  | .hbm, ⟨61, _⟩ => ⟨S_, .i32⟩
  | .hbm, ⟨62, _⟩ => ⟨S4x16384, .i32⟩
  | .hbm, ⟨63, _⟩ => ⟨S4x16384, .i1⟩
  | .hbm, ⟨64, _⟩ => ⟨S_, .i32⟩
  | .hbm, ⟨65, _⟩ => ⟨S4x16384, .i32⟩
  | .hbm, ⟨66, _⟩ => ⟨S4x16384, .i32⟩
  | .hbm, ⟨67, _⟩ => ⟨S4x16384, .i32⟩
  | .hbm, ⟨68, _⟩ => ⟨S4x16384x1, .i32⟩
  | .hbm, ⟨69, _⟩ => ⟨S4x16384x128, .f32⟩
  | .hbm, ⟨70, _⟩ => ⟨S_, .i32⟩
  | .hbm, ⟨71, _⟩ => ⟨S4x16384, .i32⟩
  | .hbm, ⟨72, _⟩ => ⟨S4x16384, .i1⟩
  | .hbm, ⟨73, _⟩ => ⟨S_, .i32⟩
  | .hbm, ⟨74, _⟩ => ⟨S4x16384, .i32⟩
  | .hbm, ⟨75, _⟩ => ⟨S4x16384, .i32⟩
  | .hbm, ⟨76, _⟩ => ⟨S4x16384, .i32⟩
  | .hbm, ⟨77, _⟩ => ⟨S4x16384x1, .i32⟩
  | .hbm, ⟨78, _⟩ => ⟨S4x16384x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_call1_v1_0 : Ref sig .tc := ⟨.hbm, 34, rfl⟩
abbrev main_v8 : Ref sig .tc := ⟨.hbm, 35, rfl⟩
abbrev main_call2_v0 : Ref sig .tc := ⟨.hbm, 36, rfl⟩
abbrev main_call2_v1_0 : Ref sig .tc := ⟨.hbm, 37, rfl⟩
abbrev main_v9 : Ref sig .tc := ⟨.hbm, 38, rfl⟩
abbrev main_c_1 : Ref sig .tc := ⟨.hbm, 39, rfl⟩
abbrev main_call3_v0 : Ref sig .tc := ⟨.hbm, 40, rfl⟩
abbrev main_call3_c : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_c_1 : Ref sig .tc := ⟨.hbm, 47, rfl⟩
abbrev main_call3_v5 : Ref sig .tc := ⟨.hbm, 48, rfl⟩
abbrev main_call3_v6 : Ref sig .tc := ⟨.hbm, 49, rfl⟩
abbrev main_call3_c_2 : Ref sig .tc := ⟨.hbm, 50, rfl⟩
abbrev main_call3_v7 : Ref sig .tc := ⟨.hbm, 51, rfl⟩
abbrev main_call3_v8 : Ref sig .tc := ⟨.hbm, 52, rfl⟩
abbrev main_call3_c_3 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_v12 : Ref sig .tc := ⟨.hbm, 57, rfl⟩
abbrev main_call3_v13 : Ref sig .tc := ⟨.hbm, 58, rfl⟩
abbrev main_call3_v14 : Ref sig .tc := ⟨.hbm, 59, rfl⟩
abbrev main_v10 : Ref sig .tc := ⟨.hbm, 60, rfl⟩
abbrev main_c_2 : Ref sig .tc := ⟨.hbm, 61, rfl⟩
abbrev main_v11 : Ref sig .tc := ⟨.hbm, 62, rfl⟩
abbrev main_v12 : Ref sig .tc := ⟨.hbm, 63, rfl⟩
abbrev main_c_3 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_c_4 : Ref sig .tc := ⟨.hbm, 70, rfl⟩
abbrev main_v18 : Ref sig .tc := ⟨.hbm, 71, rfl⟩
abbrev main_v19 : Ref sig .tc := ⟨.hbm, 72, rfl⟩
abbrev main_c_5 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩

abbrev nD : Nat := 1
abbrev τ : Topo := Topo.v7x

variable {F : FTy → Type} [FloatOps F]
-- ==== Hash.lean ====
abbrev S4x4096x64 : Shape := ⟨3, ![4, 4096, 64]⟩
abbrev S1x64x4x32 : Shape := ⟨4, ![1, 64, 4, 32]⟩
abbrev S64x4x32 : Shape := ⟨3, ![64, 4, 32]⟩
abbrev S64x128 : Shape := ⟨2, ![64, 128]⟩
abbrev S4x4x4096 : Shape := ⟨3, ![4, 4, 4096]⟩
abbrev S4x4096x128 : Shape := ⟨3, ![4, 4096, 128]⟩
abbrev S1x4096x64 : Shape := ⟨3, ![1, 4096, 64]⟩
abbrev S1x4x4096 : Shape := ⟨3, ![1, 4, 4096]⟩
abbrev S1x4096x128 : Shape := ⟨3, ![1, 4096, 128]⟩
abbrev S4096x64 : Shape := ⟨2, ![4096, 64]⟩
abbrev S4096x128 : Shape := ⟨2, ![4096, 128]⟩
abbrev S4096x32 : Shape := ⟨2, ![4096, 32]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x64x4x32, .f32⟩
  | .hbm, ⟨3, _⟩ => ⟨S64x4x32, .f32⟩
  | .hbm, ⟨4, _⟩ => ⟨S64x128, .f32⟩
  | .hbm, ⟨5, _⟩ => ⟨S4x4x4096, .i32⟩
  | .hbm, ⟨6, _⟩ => ⟨S4x4096x128, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S64x128, .f32⟩
  | .local _ .vmem, ⟨5, _⟩ => ⟨S1x4x4096, .i32⟩
  | .local _ .vmem, ⟨6, _⟩ => ⟨S1x4x4096, .i32⟩
  | .local _ .vmem, ⟨7, _⟩ => ⟨S1x4096x128, .f32⟩
  | .local _ .vmem, ⟨8, _⟩ => ⟨S1x4096x128, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HashReferenceIdeal.lean ====
abbrev S4x4096x64 : Shape := ⟨3, ![4, 4096, 64]⟩
abbrev S1x64x4x32 : Shape := ⟨4, ![1, 64, 4, 32]⟩
abbrev S64x4x32 : Shape := ⟨3, ![64, 4, 32]⟩
abbrev S4x32x4x4096 : Shape := ⟨4, ![4, 32, 4, 4096]⟩
abbrev S4x4x4096x32 : Shape := ⟨4, ![4, 4, 4096, 32]⟩
abbrev S4x4x4096x64 : Shape := ⟨4, ![4, 4, 4096, 64]⟩
abbrev S_ : Shape := ⟨0, ![]⟩
abbrev S4x4x4096 : Shape := ⟨3, ![4, 4, 4096]⟩
abbrev S4 : Shape := ⟨1, ![4]⟩
abbrev S1x4x1 : Shape := ⟨3, ![1, 4, 1]⟩
abbrev S4x4096x128 : Shape := ⟨3, ![4, 4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x64x4x32, .f32⟩
  | .hbm, ⟨3, _⟩ => ⟨S64x4x32, .f32⟩
  | .hbm, ⟨4, _⟩ => ⟨S4x32x4x4096, .f32⟩
  | .hbm, ⟨5, _⟩ => ⟨S4x4x4096x32, .f32⟩
  | .hbm, ⟨6, _⟩ => ⟨S4x4x4096x32, .f32⟩
  | .hbm, ⟨7, _⟩ => ⟨S4x4x4096x64, .f32⟩
  | .hbm, ⟨8, _⟩ => ⟨S4x4x4096x64, .i32⟩
  | .hbm, ⟨9, _⟩ => ⟨S_, .f32⟩
  | .hbm, ⟨10, _⟩ => ⟨S_, .i32⟩
  | .hbm, ⟨11, _⟩ => ⟨S4x4x4096, .f32⟩
  | .hbm, ⟨12, _⟩ => ⟨S4x4x4096, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x4x1, .i32⟩
  | .hbm, ⟨18, _⟩ => ⟨S4x4x4096, .i32⟩
  | .hbm, ⟨19, _⟩ => ⟨S4x4x4096, .i32⟩
  | .hbm, ⟨20, _⟩ => ⟨S4x4096x128, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Attention.lean ====
abbrev S4x16384x128 : Shape := ⟨3, ![4, 16384, 128]⟩
abbrev S4x16384 : Shape := ⟨2, ![4, 16384]⟩
abbrev S4x256x64x128 : Shape := ⟨4, ![4, 256, 64, 128]⟩
abbrev S4x256x1x64 : Shape := ⟨4, ![4, 256, 1, 64]⟩
abbrev S1x8x64x128 : Shape := ⟨4, ![1, 8, 64, 128]⟩
abbrev S1x1x64x128 : Shape := ⟨4, ![1, 1, 64, 128]⟩
abbrev S1x8x1x64 : Shape := ⟨4, ![1, 8, 1, 64]⟩
abbrev S1x1x1x64 : Shape := ⟨4, ![1, 1, 1, 64]⟩
abbrev S8x64x128 : Shape := ⟨3, ![8, 64, 128]⟩
abbrev S512x128 : Shape := ⟨2, ![512, 128]⟩
abbrev S512x64 : Shape := ⟨2, ![512, 64]⟩
abbrev S64x128 : Shape := ⟨2, ![64, 128]⟩
abbrev S576x128 : Shape := ⟨2, ![576, 128]⟩
abbrev S576x64 : Shape := ⟨2, ![576, 64]⟩
abbrev S576 : Shape := ⟨1, ![576]⟩
abbrev S576x1 : Shape := ⟨2, ![576, 1]⟩
abbrev S64x64 : Shape := ⟨2, ![64, 64]⟩
abbrev S128x64 : Shape := ⟨2, ![128, 64]⟩
abbrev S64 : Shape := ⟨1, ![64]⟩
abbrev S128 : Shape := ⟨1, ![128]⟩
abbrev S64x1 : Shape := ⟨2, ![64, 1]⟩
abbrev S1x128 : Shape := ⟨2, ![1, 128]⟩
abbrev S512 : Shape := ⟨1, ![512]⟩
abbrev S512x1 : Shape := ⟨2, ![512, 1]⟩
abbrev S64x63 : Shape := ⟨2, ![64, 63]⟩

abbrev nBuf : Space → Nat
  | .hbm => 5
  | .vmem => 10
  | .smem => 0
  | _ => 0

abbrev bufTy : (tb : Table) → Fin (tcTables nBuf tb) → BufTy
  | .hbm, ⟨0, _⟩ => ⟨S4x16384x128, .f32⟩
  | .hbm, ⟨1, _⟩ => ⟨S4x16384, .i32⟩
  | .hbm, ⟨2, _⟩ => ⟨S4x256x64x128, .f32⟩
  | .hbm, ⟨3, _⟩ => ⟨S4x256x1x64, .i32⟩
  | .hbm, ⟨4, _⟩ => ⟨S4x256x64x128, .f32⟩
  | .local _ .vmem, ⟨0, _⟩ => ⟨S1x8x64x128, .f32⟩
  | .local _ .vmem, ⟨1, _⟩ => ⟨S1x8x64x128, .f32⟩
  | .local _ .vmem, ⟨2, _⟩ => ⟨S1x1x64x128, .f32⟩
  | .local _ .vmem, ⟨3, _⟩ => ⟨S1x1x64x128, .f32⟩
  | .local _ .vmem, ⟨4, _⟩ => ⟨S1x8x1x64, .i32⟩
  | .local _ .vmem, ⟨5, _⟩ => ⟨S1x8x1x64, .i32⟩
  | .local _ .vmem, ⟨6, _⟩ => ⟨S1x1x1x64, .i32⟩
  | .local _ .vmem, ⟨7, _⟩ => ⟨S1x1x1x64, .i32⟩
  | .local _ .vmem, ⟨8, _⟩ => ⟨S1x8x64x128, .f32⟩
  | .local _ .vmem, ⟨9, _⟩ => ⟨S1x8x64x128, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c256_i32 : BitVec 32 := 256#32
  let c0_i32 : BitVec 32 := 0#32
  let v2 : BitVec 1 := Scalar.cmpi .eq c256_i32 c0_i32
  let c1_i32_0 : BitVec 32 := 1#32
  let v3 : BitVec 32 := Scalar.select v2 c1_i32_0 c256_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![arg0.toNat, v11.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionReferenceIdeal.lean ====
abbrev S4x16384x128 : Shape := ⟨3, ![4, 16384, 128]⟩
abbrev S4x16384 : Shape := ⟨2, ![4, 16384]⟩
abbrev S4x16384x64 : Shape := ⟨3, ![4, 16384, 64]⟩
abbrev S4x256x64 : Shape := ⟨3, ![4, 256, 64]⟩
abbrev S4x256x64x64 : Shape := ⟨4, ![4, 256, 64, 64]⟩
abbrev S_ : Shape := ⟨0, ![]⟩
abbrev S4x256x64x1 : Shape := ⟨4, ![4, 256, 64, 1]⟩
abbrev S4x1x64x64 : Shape := ⟨4, ![4, 1, 64, 64]⟩
abbrev S4x255x64x64 : Shape := ⟨4, ![4, 255, 64, 64]⟩
abbrev S4x256x128x64 : Shape := ⟨4, ![4, 256, 128, 64]⟩
abbrev S4x1x64 : Shape := ⟨3, ![4, 1, 64]⟩
abbrev S4x255x64 : Shape := ⟨3, ![4, 255, 64]⟩
abbrev S4x256x128 : Shape := ⟨3, ![4, 256, 128]⟩
abbrev S4x256x64x128 : Shape := ⟨4, ![4, 256, 64, 128]⟩
abbrev S4x256x1x128 : Shape := ⟨4, ![4, 256, 1, 128]⟩
abbrev S4x256x64x63 : Shape := ⟨4, ![4, 256, 64, 63]⟩

abbrev nBuf : Space → Nat
  | .hbm => 60
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S4x16384, .i32⟩
  | .hbm, ⟨2, _⟩ => ⟨S4x16384x64, .f32⟩
  | .hbm, ⟨3, _⟩ => ⟨S4x16384x64, .f32⟩
  | .hbm, ⟨4, _⟩ => ⟨S4x256x64, .i32⟩
  | .hbm, ⟨5, _⟩ => ⟨S4x256x64x64, .f32⟩
  | .hbm, ⟨6, _⟩ => ⟨S4x256x64x64, .f32⟩
  | .hbm, ⟨7, _⟩ => ⟨S4x256x64x64, .f32⟩
  | .hbm, ⟨8, _⟩ => ⟨S_, .f32⟩
  | .hbm, ⟨9, _⟩ => ⟨S4x256x64, .f32⟩
  | .hbm, ⟨10, _⟩ => ⟨S4x256x64x1, .f32⟩
  | .hbm, ⟨11, _⟩ => ⟨S4x256x64x1, .f32⟩
  | .hbm, ⟨12, _⟩ => ⟨S_, .f32⟩
  | .hbm, ⟨13, _⟩ => ⟨S4x256x64x1, .f32⟩
  | .hbm, ⟨14, _⟩ => ⟨S4x256x64x1, .f32⟩
  | .hbm, ⟨15, _⟩ => ⟨S4x256x64x64, .f32⟩
  | .hbm, ⟨16, _⟩ => ⟨S4x256x64x64, .f32⟩
  | .hbm, ⟨17, _⟩ => ⟨S4x1x64x64, .f32⟩
  | .hbm, ⟨18, _⟩ => ⟨S4x255x64x64, .f32⟩
  | .hbm, ⟨19, _⟩ => ⟨S4x256x64x64, .f32⟩
  | .hbm, ⟨20, _⟩ => ⟨S4x256x128x64, .f32⟩
  | .hbm, ⟨21, _⟩ => ⟨S4x1x64x64, .f32⟩
  | .hbm, ⟨22, _⟩ => ⟨S4x255x64x64, .f32⟩
  | .hbm, ⟨23, _⟩ => ⟨S4x256x64x64, .f32⟩
  | .hbm, ⟨24, _⟩ => ⟨S4x256x128x64, .f32⟩
  | .hbm, ⟨25, _⟩ => ⟨S4x1x64, .i32⟩
  | .hbm, ⟨26, _⟩ => ⟨S4x255x64, .i32⟩
  | .hbm, ⟨27, _⟩ => ⟨S4x256x64, .i32⟩
  | .hbm, ⟨28, _⟩ => ⟨S4x256x128, .i32⟩
  | .hbm, ⟨29, _⟩ => ⟨S4x256x64x128, .f32⟩
  | .hbm, ⟨30, _⟩ => ⟨S_, .f32⟩
  | .hbm, ⟨31, _⟩ => ⟨S4x256x64x128, .f32⟩
  | .hbm, ⟨32, _⟩ => ⟨S4x256x64x128, .f32⟩
  | .hbm, ⟨33, _⟩ => ⟨S4x256x64x1, .i32⟩
  | .hbm, ⟨34, _⟩ => ⟨S4x256x1x128, .i32⟩
  | .hbm, ⟨35, _⟩ => ⟨S4x256x64x128, .i32⟩
  | .hbm, ⟨36, _⟩ => ⟨S4x256x64x128, .i32⟩
  | .hbm, ⟨37, _⟩ => ⟨S4x256x64x128, .i1⟩
  | .hbm, ⟨38, _⟩ => ⟨S_, .f32⟩
  | .hbm, ⟨39, _⟩ => ⟨S_, .f32⟩
  | .hbm, ⟨40, _⟩ => ⟨S4x256x64x128, .f32⟩
  | .hbm, ⟨41, _⟩ => ⟨S4x256x64x128, .f32⟩
  | .hbm, ⟨42, _⟩ => ⟨S_, .f32⟩
  | .hbm, ⟨43, _⟩ => ⟨S4x256x64, .f32⟩
  | .hbm, ⟨44, _⟩ => ⟨S4x256x64x1, .f32⟩
  | .hbm, ⟨45, _⟩ => ⟨S4x256x64x128, .f32⟩
  | .hbm, ⟨46, _⟩ => ⟨S4x256x64x128, .f32⟩
  | .hbm, ⟨47, _⟩ => ⟨S4x256x64x128, .f32⟩
  | .hbm, ⟨48, _⟩ => ⟨S_, .f32⟩
  | .hbm, ⟨49, _⟩ => ⟨S4x256x64, .f32⟩
  | .hbm, ⟨50, _⟩ => ⟨S4x256x64x1, .f32⟩
  | .hbm, ⟨51, _⟩ => ⟨S4x256x64x1, .f32⟩
  | .hbm, ⟨52, _⟩ => ⟨S4x256x64x1, .f32⟩
  | .hbm, ⟨53, _⟩ => ⟨S4x256x64x128, .f32⟩
  | .hbm, ⟨54, _⟩ => ⟨S4x256x64x128, .f32⟩
  | .hbm, ⟨55, _⟩ => ⟨S4x256x64x128, .f32⟩
  | .hbm, ⟨56, _⟩ => ⟨S4x256x64x64, .f32⟩
  | .hbm, ⟨57, _⟩ => ⟨S_, .f32⟩
  | .hbm, ⟨58, _⟩ => ⟨S4x256x64x63, .f32⟩
  | .hbm, ⟨59, _⟩ => ⟨S4x256x64x128, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Combine.lean ====
abbrev S4x16384x128 : Shape := ⟨3, ![4, 16384, 128]⟩
abbrev S_ : Shape := ⟨0, ![]⟩
abbrev S0 : Shape := ⟨1, ![0]⟩
abbrev S4x4x4096x128 : Shape := ⟨4, ![4, 4, 4096, 128]⟩
abbrev S4x4096x64 : Shape := ⟨3, ![4, 4096, 64]⟩
abbrev S1x4x512x128 : Shape := ⟨4, ![1, 4, 512, 128]⟩
abbrev S1x512x64 : Shape := ⟨3, ![1, 512, 64]⟩
abbrev S4x512x128 : Shape := ⟨3, ![4, 512, 128]⟩
abbrev S4x512x1 : Shape := ⟨3, ![4, 512, 1]⟩
abbrev S4x512 : Shape := ⟨2, ![4, 512]⟩
abbrev S512 : Shape := ⟨1, ![512]⟩
abbrev S1x512 : Shape := ⟨2, ![1, 512]⟩
abbrev S4x512x64 : Shape := ⟨3, ![4, 512, 64]⟩
abbrev S512x64 : Shape := ⟨2, ![512, 64]⟩

abbrev nBuf : Space → Nat
  | .hbm => 5
  | .vmem => 4
  | .smem => 0
  | _ => 0

abbrev bufTy : (tb : Table) → Fin (tcTables nBuf tb) → BufTy
  | .hbm, ⟨0, _⟩ => ⟨S4x16384x128, .f32⟩
  | .hbm, ⟨1, _⟩ => ⟨S_, .f32⟩
  | .hbm, ⟨2, _⟩ => ⟨S0, .f32⟩
  | .hbm, ⟨3, _⟩ => ⟨S4x4x4096x128, .f32⟩
  | .hbm, ⟨4, _⟩ => ⟨S4x4096x64, .f32⟩
  | .local _ .vmem, ⟨0, _⟩ => ⟨S1x4x512x128, .f32⟩
  | .local _ .vmem, ⟨1, _⟩ => ⟨S1x4x512x128, .f32⟩
  | .local _ .vmem, ⟨2, _⟩ => ⟨S1x512x64, .f32⟩
  | .local _ .vmem, ⟨3, _⟩ => ⟨S1x512x64, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CombineReferenceIdeal.lean ====
abbrev S4x16384x128 : Shape := ⟨3, ![4, 16384, 128]⟩
abbrev S4x16384x64 : Shape := ⟨3, ![4, 16384, 64]⟩
abbrev S4x16384x1 : Shape := ⟨3, ![4, 16384, 1]⟩
abbrev S4x16384 : Shape := ⟨2, ![4, 16384]⟩
abbrev S4x4x4096x64 : Shape := ⟨4, ![4, 4, 4096, 64]⟩
abbrev S4x4x4096x1 : Shape := ⟨4, ![4, 4, 4096, 1]⟩
abbrev S_ : Shape := ⟨0, ![]⟩
abbrev S4x4096x1 : Shape := ⟨3, ![4, 4096, 1]⟩
abbrev S4x1x4096x1 : Shape := ⟨4, ![4, 1, 4096, 1]⟩
abbrev S4x4096x64 : Shape := ⟨3, ![4, 4096, 64]⟩
abbrev S0 : Shape := ⟨1, ![0]⟩

abbrev nBuf : Space → Nat
  | .hbm => 26
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S4x16384x64, .f32⟩
  | .hbm, ⟨2, _⟩ => ⟨S4x16384x1, .f32⟩
  | .hbm, ⟨3, _⟩ => ⟨S4x16384, .f32⟩
  | .hbm, ⟨4, _⟩ => ⟨S4x4x4096x64, .f32⟩
  | .hbm, ⟨5, _⟩ => ⟨S4x4x4096x1, .f32⟩
  | .hbm, ⟨6, _⟩ => ⟨S_, .f32⟩
  | .hbm, ⟨7, _⟩ => ⟨S4x4096x1, .f32⟩
  | .hbm, ⟨8, _⟩ => ⟨S4x1x4096x1, .f32⟩
  | .hbm, ⟨9, _⟩ => ⟨S4x4x4096x1, .f32⟩
  | .hbm, ⟨10, _⟩ => ⟨S4x4x4096x1, .f32⟩
  | .hbm, ⟨11, _⟩ => ⟨S4x4x4096x1, .f32⟩
  | .hbm, ⟨12, _⟩ => ⟨S_, .f32⟩
  | .hbm, ⟨13, _⟩ => ⟨S4x4096x1, .f32⟩
  | .hbm, ⟨14, _⟩ => ⟨S4x1x4096x1, .f32⟩
  | .hbm, ⟨15, _⟩ => ⟨S4x1x4096x1, .f32⟩
  | .hbm, ⟨16, _⟩ => ⟨S4x1x4096x1, .f32⟩
  | .hbm, ⟨17, _⟩ => ⟨S4x4x4096x1, .f32⟩
  | .hbm, ⟨18, _⟩ => ⟨S4x4x4096x1, .f32⟩
  | .hbm, ⟨19, _⟩ => ⟨S4x4x4096x1, .f32⟩
  | .hbm, ⟨20, _⟩ => ⟨S4x4x4096x64, .f32⟩
  | .hbm, ⟨21, _⟩ => ⟨S4x4x4096x64, .f32⟩
  | .hbm, ⟨22, _⟩ => ⟨S_, .f32⟩
  | .hbm, ⟨23, _⟩ => ⟨S4x4096x64, .f32⟩
  | .hbm, ⟨24, _⟩ => ⟨S_, .f32⟩
  | .hbm, ⟨25, _⟩ => ⟨S0, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Setup.lean ====
/-
  The three SparseCore calls' common setting: the program as the launch theorem sees it, the thread of a task, and the read shares
  the tasks are dealt.
-/
module

public import proofs.«01_k».proof.Defs
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 3) (Elt F) ℕ UU ℕ

/-- The handshakes' ghost state, the left factor; the transfers' counters are the right one. -/
abbrev EH : Emb UH (MT nD τ sig (HIx 3) (Elt F) ℕ UU ℕ) := embL

/-- The processor of the task at coordinates `L` (all three calls run on the same grid). -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's number. -/
abbrev wid (L : grid0.Coords) : ℕ := 2 * (L 1).val + (L 0).val

/-- The coordinates of the task on subcore `s` of SparseCore `c`. -/
def at2 (c : Fin (grid0.bound 0)) (s : Fin (grid0.bound 1)) : grid0.Coords :=
  fun | 0 => c | 1 => s | ⟨_ + 2, h⟩ => absurd h (Nat.not_lt.2 (Nat.le_add_left _ _))

/-- Task `(c, s)`'s read share. -/
def sh (c : Fin 2) (s : Fin 16) : PosShare TreeShare := pieceOf (pieceOf fullShare 2 (by decide) c) 16 (by decide) s

/-- A whole array held outright is its thirty-two read shares. -/
theorem deal_shares {ℓ : Loc nD τ sig} (f : Buf (Elt F) ℓ) :
    (ℓ ↦{fullShare} f : sProp 𝕄) = bigSep Finset.univ fun c : Fin 2 => bigSep Finset.univ fun s : Fin 16 => ℓ ↦{sh c s} f := by
  rw [pointsTo_piecesOf Finset.univ f (o := 2) (by decide) fullShare]
  exact bigSep_congr fun c _ => pointsTo_piecesOf Finset.univ f (o := 16) (by decide) _

/-- An array whose elements are sorted by the number of the task that writes them is dealt to the thirty-two tasks. -/
theorem deal_sets {ℓ : Loc nD τ sig} (f : Buf (Elt F) ℓ) (own : Idx ℓ → ℕ) (hown : ∀ x, own x < 32) :
    (ℓ ↦{fullShare} f : sProp 𝕄) = bigSep Finset.univ fun c : Fin 2 => bigSep Finset.univ fun s : Fin 16 =>
      ℓ ↦[Finset.univ.filter fun x => own x = wid (at2 c s)]{fullShare} f := by
  have hset : ∀ (c : Fin 2) (s : Fin 16) (x : Idx ℓ), x ∈ (Finset.univ.filter fun x => own x = wid (at2 c s)) ↔ own x = 2 * s.val + c.val :=
    fun c s x => by rw [Finset.mem_filter]; exact ⟨fun h => h.2, fun h => ⟨Finset.mem_univ _, h⟩⟩
  have h1 : (ℓ ↦{fullShare} f : sProp 𝕄) = ℓ ↦[Finset.univ.biUnion fun c : Fin 2 => Finset.univ.biUnion fun s : Fin 16 =>
      Finset.univ.filter fun x => own x = wid (at2 c s)]{fullShare} f := by
    congr 1
    refine (Finset.eq_univ_iff_forall.mpr fun x => ?_).symm
    have hx := hown x
    refine Finset.mem_biUnion.mpr ⟨⟨own x % 2, by omega⟩, Finset.mem_univ _, Finset.mem_biUnion.mpr
      ⟨⟨own x / 2, by omega⟩, Finset.mem_univ _, (hset _ _ x).mpr ?_⟩⟩
    dsimp only; omega
  rw [h1, pointsTo_biUnion Finset.univ (ℓ := ℓ) (fun c : Fin 2 => Finset.univ.biUnion fun s : Fin 16 => Finset.univ.filter fun x => own x = wid (at2 c s))
    fun c _ c' _ h => Finset.disjoint_left.mpr fun x hx hx' => h (Fin.ext (by
      obtain ⟨s, -, hs⟩ := Finset.mem_biUnion.mp hx
      obtain ⟨s', -, hs'⟩ := Finset.mem_biUnion.mp hx'
      have := (hset c s x).mp hs; have := (hset c' s' x).mp hs'; have := c.isLt; have := c'.isLt; omega))]
  exact bigSep_congr fun c _ => pointsTo_biUnion Finset.univ (ℓ := ℓ) _ fun s _ s' _ h => Finset.disjoint_left.mpr fun x hx hx' => h (Fin.ext (by
    have := (hset c s x).mp hx; have := (hset c s' x).mp hx'; omega))

end Cert.Proof.Rows

end
-- ==== Proof.Count.lean ====
/-
  Counting sort over the numbers below 4096, as arithmetic: a number `s` is put in the slot `16 · (its bucket) + s / 256`, the
  slots are counted in 256 rounds (round `i` takes the sixteen numbers `256 l + i`), and the place a number gets is the count of
  the slots before its own plus the count of its own slot in the rounds before its own. That place is the number's rank by
  (bucket, number).
-/
module

public import Mathlib.Data.Finset.Card
public import Mathlib.Data.Fintype.EquivFin
public import Mathlib.Tactic.Ring
public import Mathlib.Tactic.Linarith

@[expose] public section

namespace Cert.Proof.Count

variable (b : ℕ → ℕ)

/-- The slot of `s`. -/
def slot (s : ℕ) : ℕ := b s * 16 + s / 256

/-- How many numbers of the rounds before `i` fall in slot `x`. -/
def cnt (i x : ℕ) : ℕ := ((Finset.range 4096).filter fun s => s % 256 < i ∧ slot b s = x).card

/-- How many numbers fall in a slot before `x`. -/
def below (x : ℕ) : ℕ := ((Finset.range 4096).filter fun s => slot b s < x).card

/-- The place of `s`. -/
def pos (s : ℕ) : ℕ := below b (slot b s) + cnt b (s % 256) (slot b s)

/-- The rank of `s` by (bucket, number). -/
def rk (s : ℕ) : ℕ := ((Finset.range 4096).filter fun q => b q * 4096 + q < b s * 4096 + s).card

theorem cnt_zero (x : ℕ) : cnt b 0 x = 0 := by
  unfold cnt; rw [Finset.card_eq_zero, Finset.filter_eq_empty_iff]; intro s _; omega

theorem cnt_le (i x : ℕ) : cnt b i x ≤ 4096 := (Finset.card_filter_le _ _).trans (by simp)
theorem below_le (x : ℕ) : below b x ≤ 4096 := (Finset.card_filter_le _ _).trans (by simp)

theorem below_zero : below b 0 = 0 := by
  unfold below; rw [Finset.card_eq_zero, Finset.filter_eq_empty_iff]; intro s _; omega

theorem below_succ (x : ℕ) : below b (x + 1) = below b x + cnt b 256 x := by
  unfold below cnt
  rw [← Finset.card_union_of_disjoint]
  · congr 1; ext s; simp only [Finset.mem_union, Finset.mem_filter, Finset.mem_range]
    have := Nat.mod_lt s (show 256 > 0 by decide)
    constructor
    · rintro ⟨h, h'⟩
      rcases Nat.lt_or_ge (slot b s) x with h1 | h1
      · exact .inl ⟨h, h1⟩
      · exact .inr ⟨h, this, by omega⟩
    · rintro (⟨h, h'⟩ | ⟨h, -, h'⟩) <;> exact ⟨h, by omega⟩
  · rw [Finset.disjoint_filter]; intro s _; omega

/-- One round adds one to the slot of each number it takes. -/
theorem cnt_succ_hit {s : ℕ} (hs : s < 4096) : cnt b (s % 256 + 1) (slot b s) = cnt b (s % 256) (slot b s) + 1 := by
  unfold cnt
  rw [← Finset.card_insert_of_notMem (a := s) (by simp)]
  congr 1; ext q; simp only [Finset.mem_insert, Finset.mem_filter, Finset.mem_range]
  constructor
  · rintro ⟨h, h', h''⟩
    by_cases e : q % 256 = s % 256
    · left; unfold slot at h''; omega
    · exact .inr ⟨h, by omega, h''⟩
  · rintro (rfl | ⟨h, h', h''⟩)
    · exact ⟨hs, by omega, rfl⟩
    · exact ⟨h, by omega, h''⟩

/-- One round leaves every other slot. -/
theorem cnt_succ_miss {i x : ℕ} (h : ∀ s, s < 4096 → s % 256 = i → slot b s ≠ x) : cnt b (i + 1) x = cnt b i x := by
  unfold cnt
  congr 1; ext q; simp only [Finset.mem_filter, Finset.mem_range]
  constructor
  · rintro ⟨h1, h2, h3⟩
    refine ⟨h1, ?_, h3⟩
    by_contra hc
    exact h q h1 (by omega) h3
  · rintro ⟨h1, h2, h3⟩; exact ⟨h1, by omega, h3⟩

theorem slot_lt_iff {q s : ℕ} (hq : q < 4096) (hs : s < 4096) :
    (slot b q < slot b s ∨ (q % 256 < s % 256 ∧ slot b q = slot b s)) ↔ b q * 4096 + q < b s * 4096 + s := by
  unfold slot; omega

theorem pos_eq_rk {s : ℕ} (hs : s < 4096) : pos b s = rk b s := by
  unfold pos below cnt rk
  rw [← Finset.card_union_of_disjoint]
  · congr 1; ext q; simp only [Finset.mem_union, Finset.mem_filter, Finset.mem_range]
    constructor
    · rintro (⟨h, h'⟩ | ⟨h, h'⟩)
      · exact ⟨h, (slot_lt_iff b h hs).mp (.inl h')⟩
      · exact ⟨h, (slot_lt_iff b h hs).mp (.inr h')⟩
    · rintro ⟨h, h'⟩
      rcases (slot_lt_iff b h hs).mpr h' with h1 | h1
      · exact .inl ⟨h, h1⟩
      · exact .inr ⟨h, h1⟩
  · rw [Finset.disjoint_filter]; intro q _; omega

theorem rk_lt {s : ℕ} (hs : s < 4096) : rk b s < 4096 := by
  unfold rk
  have : ((Finset.range 4096).filter fun q => b q * 4096 + q < b s * 4096 + s) ⊂ Finset.range 4096 :=
    Finset.filter_ssubset.mpr ⟨s, by simpa using hs, by omega⟩
  simpa using Finset.card_lt_card this

theorem rk_lt_of {s t : ℕ} (hs : s < 4096) (h : b s * 4096 + s < b t * 4096 + t) : rk b s < rk b t := by
  unfold rk
  refine Finset.card_lt_card (Finset.ssubset_iff_of_subset ?_ |>.mpr ⟨s, ?_, ?_⟩)
  · intro q; simp only [Finset.mem_filter, Finset.mem_range]; omega
  · simp only [Finset.mem_filter, Finset.mem_range]; omega
  · simp

theorem rk_inj {s t : ℕ} (hs : s < 4096) (ht : t < 4096) (h : rk b s = rk b t) : s = t := by
  rcases Nat.lt_trichotomy (b s * 4096 + s) (b t * 4096 + t) with h1 | h1 | h1
  · have := rk_lt_of b hs h1; omega
  · omega
  · have := rk_lt_of b ht h1; omega

/-- Every place below 4096 is some number's. -/
theorem rk_surj {r : ℕ} (hr : r < 4096) : ∃ s, s < 4096 ∧ rk b s = r := by
  have hi : Function.Injective fun s : Fin 4096 => (⟨rk b s, rk_lt b s.isLt⟩ : Fin 4096) := by
    intro s t h; exact Fin.ext (rk_inj b s.isLt t.isLt (congrArg Fin.val h))
  obtain ⟨s, hs⟩ := (Finite.injective_iff_surjective.mp hi) ⟨r, hr⟩
  exact ⟨s.val, s.isLt, congrArg Fin.val hs⟩

end Cert.Proof.Count

end
-- ==== Proof.SortVal.lean ====
/-
  The vectors of the counting sort, as values: what an indexed store of sixteen distinct elements leaves, what a running sum of
  sixteen words holds, and what one trip of each loop makes of the counts, the places and the two results.
-/
module

public import proofs.«01_k».proof.Defs
public import Idealize.ShloMosaic.Lib.Tactic
public import proofs.«01_k».proof.Proof.Gen.KernelIdeal
public import proofs.«01_k».proof.Proof.Gen.KernelIdeal.Skeleton
public import proofs.«01_k».proof.Proof.Count

@[expose] public section

noncomputable section

namespace Cert.Proof.SortVal

open Cert.KernelIdeal Cert.KernelIdeal.Gen
open Idealize.ShloMosaic
open Cert.Proof.Count

variable {F : FTy → Type}

/-! ## Indexed stores -/

section Store
variable {s : Shape} {e : EltTy} {d : Fin 1 → Nat} [FloatOps F]

/-- One lane's write. -/
def put (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq (f : Vec F s e) (idxs : Fin s.rank → IVec ⟨1, d⟩ 32) (v : Vec F ⟨1, d⟩ e) (h : ∀ a x, (idxs a x).toNat < s.size a) :
    storeIdx f idxs v (fun _ => 1#1) false h = (List.finRange (d 0)).foldl (put idxs v h) f := by
  unfold storeIdx
  refine congrArg (fun st => List.foldl st f (List.finRange (d 0))) (funext fun g => funext fun k => ?_)
  exact (if_pos rfl).trans (by simp only [Bool.false_eq_true, if_false]; rfl)

theorem put_miss (idxs : Fin s.rank → IVec ⟨1, d⟩ 32) (v : Vec F ⟨1, d⟩ e) (h : ∀ a x, (idxs a x).toNat < s.size a) (j : s.Idx) :
    ∀ (l : List (Fin (d 0))) (f : Vec F s e), (∀ k ∈ l, idxAt idxs h (Shape.ofLane k) ≠ j) → (l.foldl (put idxs v h) f) j = f j
  | [], _, _ => rfl
  | k :: l, f, hl => by
    rw [List.foldl_cons, put_miss idxs v h j l _ fun k' hk' => hl k' (List.mem_cons_of_mem _ hk')]
    exact if_neg fun hc => hl k List.mem_cons_self (funext fun a => Fin.ext (hc a).symm)

/-- A store at distinct elements leaves an element no lane names. -/
theorem store_miss (f : Vec F s e) (idxs : Fin s.rank → IVec ⟨1, d⟩ 32) (v : Vec F ⟨1, d⟩ e) (h : ∀ a x, (idxs a x).toNat < s.size a)
    (j : s.Idx) (hj : ∀ x, idxAt idxs h x ≠ j) : storeIdx f idxs v (fun _ => 1#1) false h j = f j := by
  rw [storeIdx_eq]; exact put_miss idxs v h j _ f fun k _ => hj _

/-- A store at distinct elements holds each lane's word at the element it names. -/
theorem store_hit (f : Vec F s e) (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k') (k : Fin (d 0)) (j : s.Idx)
    (hj : idxAt idxs h (Shape.ofLane k) = j) :
    storeIdx f idxs v (fun _ => 1#1) false h j = v (Shape.ofLane k) := by
  rw [storeIdx_eq]
  obtain ⟨l₁, l₂, hl⟩ := List.append_of_mem (List.mem_finRange k)
  have hn : (l₁ ++ k :: l₂).Nodup := hl ▸ List.nodup_finRange _
  have hk : k ∉ l₂ := (List.nodup_cons.mp (List.nodup_append.mp hn).2.1).1
  rw [hl, List.foldl_append, List.foldl_cons, put_miss idxs v h j l₂ _ fun k' hk' e => hk (by rw [hinj k k' (hj.trans e.symm)]; exact hk')]
  exact if_pos fun a => by rw [hj]

end Store

/-! ## The running sum -/

abbrev lane (l : Fin 16) : S16.Idx := Shape.ofLane (d := S16.size) l

theorem scan_zero (v : IVec S16 32) : scan .sum v (lane 0) = v (lane 0) := rfl

theorem scan_succ (v : IVec S16 32) (l : ℕ) (h : l + 1 < 16) :
    scan .sum v (lane ⟨l + 1, h⟩) = scan .sum v (lane ⟨l, by omega⟩) + v (lane ⟨l + 1, h⟩) := by
  have hf : ∀ j : Fin 15, ((List.finRange 16).filter fun k => decide (0 < k.val ∧ k.val ≤ j.val + 1))
      = ((List.finRange 16).filter fun k => decide (0 < k.val ∧ k.val ≤ j.val)) ++ [j.succ] := by decide
  exact (congrArg (List.foldl (fun r (k : Fin 16) => r + v (lane k)) (v (lane 0))) (hf ⟨l, by omega⟩)).trans List.foldl_append

/-! ## Words and numbers -/

/-- Element `s` (modulo the extent) of a vector of 4096, of 1024. -/
def at4096 (s : ℕ) : S4096.Idx := fun a => match a with | 0 => ⟨s % 4096, Nat.mod_lt _ (by decide)⟩
def at1024 (s : ℕ) : S1024.Idx := fun a => match a with | 0 => ⟨s % 1024, Nat.mod_lt _ (by decide)⟩

theorem at4096_val {s : ℕ} (hs : s < 4096) : (at4096 s 0).val = s := Nat.mod_eq_of_lt hs
theorem at1024_val {s : ℕ} (hs : s < 1024) : (at1024 s 0).val = s := Nat.mod_eq_of_lt hs
theorem eq_at4096 (x : S4096.Idx) {s : ℕ} (h : (x 0).val = s) : x = at4096 s := by
  funext a; match a with | 0 => exact Fin.ext (by subst h; exact (Nat.mod_eq_of_lt (x 0).isLt).symm)
theorem eq_at1024 (x : S1024.Idx) {s : ℕ} (h : (x 0).val = s) : x = at1024 s := by
  funext a; match a with | 0 => exact Fin.ext (by subst h; exact (Nat.mod_eq_of_lt (x 0).isLt).symm)

theorem toNat_lt {n : ℕ} (h : n < 4294967296) : (BitVec.ofNat 32 n).toNat = n := by
  rw [BitVec.toNat_ofNat]; exact Nat.mod_eq_of_lt h

/-- The bucket of number `s` among the 64 of hash `h`. -/
def bkt (f : S4096.Idx → BitVec 32) (h s : ℕ) : ℕ := (f (at4096 s)).toNat - h * 64

/-- The words are buckets of hash `h`. -/
def InB (f : S4096.Idx → BitVec 32) (h : ℕ) : Prop := ∀ j, h * 64 ≤ (f j).toNat ∧ (f j).toNat < h * 64 + 64

theorem bkt_lt {f : S4096.Idx → BitVec 32} {h : ℕ} (hf : InB f h) (s : ℕ) : bkt f h s < 64 := by
  have := hf (at4096 s); unfold bkt; omega

theorem slot_lt {f : S4096.Idx → BitVec 32} {h : ℕ} (hf : InB f h) {s : ℕ} (hs : s < 4096) : slot (bkt f h) s < 1024 := by
  have := bkt_lt hf s; unfold slot; omega

/-- The number lane `l` takes in round `i`. -/
abbrev num (l : Fin 16) (i : ℕ) : ℕ := l.val * 256 + i

abbrev iotaV : IVec S16 32 := iota .scVector S16 32 [0] iota_S16_d0_w32_scVector

theorem iotaV_lane (l : Fin 16) : iotaV (lane l) = BitVec.ofNat 32 l.val := by
  revert l; decide

/-- The numbers of a round. -/
def nums (v : IVec S16 32) (i : ℕ) : Prop := ∀ l : Fin 16, v (lane l) = BitVec.ofNat 32 (num l i)

theorem pay1_nums (t : Fin k0_t2_loop.trips) : nums (k0_pay1 iotaV t) t.val := by
  intro l
  have ht : t.val < 256 := Nat.lt_of_lt_of_le t.isLt k0_t2_abs.2.1
  show iotaV (lane l) * 256#32 + (0#32 + BitVec.ofNat 32 t.val * 1#32) = _
  rw [iotaV_lane]
  apply BitVec.eq_of_toNat_eq
  have := l.isLt
  simp only [BitVec.toNat_add, BitVec.toNat_mul, BitVec.toNat_ofNat]
  unfold num; omega

theorem pay6_nums (t : Fin k0_t4_loop.trips) : nums (k0_pay6 iotaV t) t.val := by
  intro l
  have ht : t.val < 256 := Nat.lt_of_lt_of_le t.isLt k0_t4_abs.2.1
  show iotaV (lane l) * 256#32 + (0#32 + BitVec.ofNat 32 t.val * 1#32) = _
  rw [iotaV_lane]
  apply BitVec.eq_of_toNat_eq
  have := l.isLt
  simp only [BitVec.toNat_add, BitVec.toNat_mul, BitVec.toNat_ofNat]
  unfold num; omega

theorem nums_lt {v : IVec S16 32} {i : ℕ} (hv : nums v i) (hi : i < 256) : ∀ x, (v x).toNat < 4096 := by
  intro x
  obtain ⟨l, rfl⟩ : ∃ l, x = lane l := ⟨x 0, by funext a; match a with | 0 => rfl⟩
  rw [hv l, toNat_lt (by unfold num; omega)]; unfold num; omega

/-- The slots of a round's numbers. -/
def slots (f : S4096.Idx → BitVec 32) (h : ℕ) (v : IVec S16 32) (i : ℕ) : Prop :=
  ∀ l : Fin 16, v (lane l) = BitVec.ofNat 32 (slot (bkt f h) (num l i))

theorem pay_slots {f : S4096.Idx → BitVec 32} {h : ℕ} (hf : InB f h) (hh : h < 4) {i : ℕ} (hi : i < 256) (w : IVec S16 32)
    (hw : ∀ l : Fin 16, w (lane l) = f (at4096 (num l i))) :
    slots f h (addi (muli (subi w (broadcast S16 (BitVec.ofNat 32 (h * 64)))) (broadcast S16 16#32)) iotaV) i := by
  intro l
  show (w (lane l) - BitVec.ofNat 32 (h * 64)) * 16#32 + iotaV (lane l) = _
  rw [iotaV_lane, hw]
  have := hf (at4096 (num l i))
  apply BitVec.eq_of_toNat_eq
  have hl := l.isLt
  have hq : num l i / 256 = l.val := by unfold num; omega
  unfold slot bkt; rw [hq]
  simp only [BitVec.toNat_add, BitVec.toNat_sub, BitVec.toNat_mul, BitVec.toNat_ofNat]
  omega

/-! ## One trip of each loop -/

theorem ex_lane (x : S16.Idx) : ∃ l : Fin 16, x = lane l := ⟨x 0, by funext a; match a with | 0 => rfl⟩

/-- Sixteen consecutive counts summed: the numbers before each slot, and before the next sixteen. -/
theorem prefix_step (b : ℕ → ℕ) (v : IVec S16 32) (run : BitVec 32) (x₀ : ℕ) (hv : ∀ l : Fin 16, v (lane l) = BitVec.ofNat 32 (cnt b 256 (x₀ + l.val)))
    (hrun : run = BitVec.ofNat 32 (below b x₀)) (l : Fin 16) :
    run + scan .sum v (lane l) = BitVec.ofNat 32 (below b (x₀ + l.val + 1)) := by
  obtain ⟨l, hl⟩ := l
  induction l with
  | zero => rw [show (⟨0, hl⟩ : Fin 16) = 0 from rfl, scan_zero, hv, hrun, below_succ, BitVec.ofNat_add]; rfl
  | succ l ih =>
    rw [scan_succ, ← BitVec.add_assoc, ih (by omega), hv, below_succ b (x₀ + (l + 1)), BitVec.ofNat_add]; rfl

theorem prefix_off (b : ℕ → ℕ) (v : IVec S16 32) (run : BitVec 32) (x₀ : ℕ) (hv : ∀ l : Fin 16, v (lane l) = BitVec.ofNat 32 (cnt b 256 (x₀ + l.val)))
    (hrun : run = BitVec.ofNat 32 (below b x₀)) (l : Fin 16) :
    k0_pay4 (F := F) run v (lane l) = BitVec.ofNat 32 (below b (x₀ + l.val)) := by
  have h := prefix_step b v run x₀ hv hrun l
  show (scan .sum v (lane l) - v (lane l)) + run = _
  rw [below_succ, BitVec.ofNat_add, ← hv l] at h
  generalize scan .sum v (lane l) = a at h ⊢
  generalize v (lane l) = c at h ⊢
  generalize BitVec.ofNat 32 (below b (x₀ + l.val)) = e at h ⊢
  bv_omega

section Trips
variable [FloatOps F]

/-- One round of counting: each number's slot is raised by one. -/
theorem count_step {f : S4096.Idx → BitVec 32} {h : ℕ} (hf : InB f h) {i : ℕ} (hi : i < 256) (H : Vec F S1024 .i32)
    (hH : ∀ x, x < 1024 → H (at1024 x) = BitVec.ofNat 32 (cnt (bkt f h) i x)) (ix : IVec S16 32) (hix : slots f h ix i)
    (hb : ∀ a x, ((![ix] : Fin 1 → IVec S16 32) a x).toNat < S1024.size a) (v : IVec S16 32)
    (hv : ∀ l : Fin 16, v (lane l) = BitVec.ofNat 32 (cnt (bkt f h) i (slot (bkt f h) (num l i)) + 1)) :
    ∀ x, x < 1024 → storeIdx (F := F) (e := .i32) H ![ix] v (fun _ => 1#1) false hb (at1024 x) = BitVec.ofNat 32 (cnt (bkt f h) (i + 1) x) := by
  have hn : ∀ l : Fin 16, num l i < 4096 ∧ num l i % 256 = i ∧ num l i / 256 = l.val := fun l => by unfold num; omega
  have hat : ∀ l : Fin 16, idxAt (s := S1024) ![ix] hb (lane l) = at1024 (slot (bkt f h) (num l i)) := fun l => eq_at1024 _ (by
    show (ix (lane l)).toNat = _
    rw [hix l, toNat_lt (by have := slot_lt hf (hn l).1; omega)])
  have hinj : ∀ k k' : Fin 16, idxAt (s := S1024) ![ix] hb (lane k) = idxAt (s := S1024) ![ix] hb (lane k') → k = k' := fun k k' e => by
    rw [hat, hat] at e
    have e' := congrArg (fun z : S1024.Idx => (z 0).val) e
    simp only [at1024_val (slot_lt hf (hn k).1), at1024_val (slot_lt hf (hn k').1)] at e'
    unfold slot at e'; rw [(hn k).2.2, (hn k').2.2] at e'
    exact Fin.ext (by omega)
  intro x hx
  by_cases hex : ∃ l : Fin 16, slot (bkt f h) (num l i) = x
  · obtain ⟨l, hl⟩ := hex
    rw [store_hit H ![ix] v hb hinj l (at1024 x) (by rw [← hl]; exact hat l)]
    refine (hv l).trans ?_
    have := cnt_succ_hit (bkt f h) (hn l).1
    rw [(hn l).2.1] at this
    rw [← hl, this]
  · rw [store_miss H ![ix] v hb (at1024 x) fun y hy => by
      obtain ⟨l, rfl⟩ := ex_lane y
      rw [hat] at hy
      have e' := congrArg (fun z : S1024.Idx => (z 0).val) hy
      exact hex ⟨l, by simpa only [at1024_val (slot_lt hf (hn l).1), at1024_val hx] using e'⟩, hH x hx]
    congr 1
    refine (cnt_succ_miss (bkt f h) fun s hs hsi e => hex ⟨⟨s / 256, by omega⟩, ?_⟩).symm
    rw [← e]; congr 1; unfold num; simp only; omega

/-- One round of placing: the sixteen numbers are stored at their places, their places at them. -/
theorem place_step {f : S4096.Idx → BitVec 32} {h : ℕ} {i : ℕ} (hi : i < 256) (g u : Vec F S4096 .i32) (c : ℕ)
    (hg : ∀ s, s < 4096 → s % 256 < i → g (at4096 (rk (bkt f h) s)) = BitVec.ofNat 32 s)
    (hu : ∀ s, s < 4096 → s % 256 < i → u (at4096 s) = BitVec.ofNat 32 (rk (bkt f h) s + c))
    (n p w : IVec S16 32) (hn : nums n i) (hp : ∀ l : Fin 16, p (lane l) = BitVec.ofNat 32 (rk (bkt f h) (num l i)))
    (hw : ∀ l : Fin 16, w (lane l) = BitVec.ofNat 32 (rk (bkt f h) (num l i) + c))
    (hb : ∀ a x, ((![p] : Fin 1 → IVec S16 32) a x).toNat < S4096.size a) (hb' : ∀ a x, ((![n] : Fin 1 → IVec S16 32) a x).toNat < S4096.size a) :
    (∀ s, s < 4096 → s % 256 < i + 1 → storeIdx (F := F) (e := .i32) g ![p] n (fun _ => 1#1) false hb (at4096 (rk (bkt f h) s)) = BitVec.ofNat 32 s)
    ∧ (∀ s, s < 4096 → s % 256 < i + 1 → storeIdx (F := F) (e := .i32) u ![n] w (fun _ => 1#1) false hb' (at4096 s) = BitVec.ofNat 32 (rk (bkt f h) s + c)) := by
  have hl : ∀ l : Fin 16, num l i < 4096 ∧ num l i % 256 = i ∧ num l i / 256 = l.val := fun l => by unfold num; omega
  have hr := fun l : Fin 16 => rk_lt (bkt f h) (hl l).1
  have hatp : ∀ l : Fin 16, idxAt (s := S4096) ![p] hb (lane l) = at4096 (rk (bkt f h) (num l i)) := fun l => eq_at4096 _ (by
    show (p (lane l)).toNat = _
    rw [hp l, toNat_lt (by have := hr l; omega)])
  have hatn : ∀ l : Fin 16, idxAt (s := S4096) ![n] hb' (lane l) = at4096 (num l i) := fun l => eq_at4096 _ (by
    show (n (lane l)).toNat = _
    rw [hn l, toNat_lt (by have := (hl l).1; omega)])
  have back : ∀ a b : ℕ, a < 4096 → b < 4096 → at4096 a = at4096 b → a = b := fun a b ha hb e => by
    have e' := congrArg (fun z : S4096.Idx => (z 0).val) e
    simpa only [at4096_val ha, at4096_val hb] using e'
  have hinjp : ∀ k k' : Fin 16, idxAt (s := S4096) ![p] hb (lane k) = idxAt (s := S4096) ![p] hb (lane k') → k = k' := fun k k' e => by
    rw [hatp, hatp] at e
    have := rk_inj (bkt f h) (hl k).1 (hl k').1 (back _ _ (hr k) (hr k') e)
    exact Fin.ext (by unfold num at this; omega)
  have hinjn : ∀ k k' : Fin 16, idxAt (s := S4096) ![n] hb' (lane k) = idxAt (s := S4096) ![n] hb' (lane k') → k = k' := fun k k' e => by
    rw [hatn, hatn] at e
    have := back _ _ (hl k).1 (hl k').1 e
    exact Fin.ext (by unfold num at this; omega)
  have hof : ∀ s, s < 4096 → s % 256 = i → ∃ l : Fin 16, num l i = s := fun s hs e => ⟨⟨s / 256, by omega⟩, by unfold num; simp only; omega⟩
  constructor
  · intro s hs hsi
    by_cases e : s % 256 = i
    · obtain ⟨l, rfl⟩ := hof s hs e
      rw [store_hit g ![p] n hb hinjp l _ (hatp l)]; exact hn l
    · rw [store_miss g ![p] n hb _ fun y hy => e (by
        obtain ⟨l, rfl⟩ := ex_lane y
        rw [hatp] at hy
        rw [← rk_inj (bkt f h) (hl _).1 hs (back _ _ (hr _) (rk_lt _ hs) hy)]; exact (hl _).2.1)]
      exact hg s hs (by omega)
  · intro s hs hsi
    by_cases e : s % 256 = i
    · obtain ⟨l, rfl⟩ := hof s hs e
      rw [store_hit u ![n] w hb' hinjn l _ (hatn l)]; exact hw l
    · rw [store_miss u ![n] w hb' _ fun y hy => e (by
        obtain ⟨l, rfl⟩ := ex_lane y
        rw [hatn] at hy
        rw [← back _ _ (hl _).1 hs hy]; exact (hl _).2.1)]
      exact hu s hs (by omega)

end Trips

/-! ## The sort's two results -/

open Classical in
/-- The number at place `r`. -/
def inv (b : ℕ → ℕ) (r : ℕ) : ℕ := if h : ∃ s, s < 4096 ∧ rk b s = r then h.choose else 0

theorem inv_rk (b : ℕ → ℕ) {s : ℕ} (hs : s < 4096) : inv b (rk b s) = s := by
  have h : ∃ t, t < 4096 ∧ rk b t = rk b s := ⟨s, hs, rfl⟩
  unfold inv; rw [dif_pos h]
  exact rk_inj b h.choose_spec.1 hs h.choose_spec.2

theorem inv_lt (b : ℕ → ℕ) (r : ℕ) : inv b r < 4096 := by
  unfold inv; split
  · next h => exact h.choose_spec.1
  · decide

theorem rk_inv (b : ℕ → ℕ) {r : ℕ} (hr : r < 4096) : rk b (inv b r) = r := by
  obtain ⟨s, hs, rfl⟩ := rk_surj b hr
  rw [inv_rk b hs]

end Cert.Proof.SortVal

end
-- ==== Proof.SortTile.lean ====
/-
  One vector subcore's task of the counting sort: the task of number `4 b + h` (below sixteen) sorts the 4096 buckets of sequence
  `b` and hash `h`.
-/
module

public import proofs.«01_k».proof.Proof.Setup
public import proofs.«01_k».proof.Proof.SortVal
public import Idealize.ShloMosaic.Lib.SparseCore.Ops

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count Cert.Proof.SortVal

variable {F : FTy → Type}

local notation "𝕄" => MT nD τ sig (HIx 3) (Elt F) ℕ UU ℕ

abbrev bV : Memref sig .scVector .hbm S4x4x4096 .i32 := Memref.whole main_arg1_scv
abbrev stV : Memref sig .scVector .hbm S4x16384 .i32 := Memref.whole main_v0_0_scv
abbrev unV : Memref sig .scVector .hbm S4x16384 .i32 := Memref.whole main_v0_1_scv
abbrev sBk : Memref sig .scVector .vmem S4096 .i32 := Memref.whole cc0_scratch0
abbrev sRk : Memref sig .scVector .vmem S4096 .i32 := Memref.whole cc0_scratch1
abbrev sSt : Memref sig .scVector .vmem S4096 .i32 := Memref.whole cc0_scratch2
abbrev sUn : Memref sig .scVector .vmem S4096 .i32 := Memref.whole cc0_scratch3
abbrev sHi : Memref sig .scVector .vmem S1024 .i32 := Memref.whole cc0_scratch4
abbrev sOf : Memref sig .scVector .vmem S1024 .i32 := Memref.whole cc0_scratch5

/-- The numbers and slots of a round are in range. -/
theorem chk_of {n : ℕ} {v : IVec S16 32} (h : ∀ x, (v x).toNat < n) : ∀ a x, ((![v] : Fin 1 → IVec S16 32) a x).toNat < (⟨1, ![n]⟩ : Shape).size a :=
  fun a x => match a with | 0 => h x

theorem slots_lt {f : S4096.Idx → BitVec 32} {h i : ℕ} (hf : InB f h) (hi : i < 256) {v : IVec S16 32} (hv : slots f h v i) : ∀ x, (v x).toNat < 1024 := by
  intro x
  obtain ⟨l, rfl⟩ := ex_lane x
  have hn : num l i < 4096 := by unfold num; omega
  have := slot_lt hf hn
  rw [hv l, toNat_lt (by omega)]; exact this

section Rects
variable (m : Memref sig .scVector .vmem S1024 .i32) (m' : Memref sig .scVector .vmem S4096 .i32)

/-- Sixteen words stored at `n` of a vector: the words, and what lies before and after them. -/
theorem stored1024 (H : m.view.ty.Contents (Elt F)) (o : Fin 1 → ℕ) (ho : ∀ a, o a + S16.size a ≤ S1024.size a) (w : S16.Idx → BitVec 32)
    {n : ℕ} (hn : o 0 = n) (l : Fin 16) {x : ℕ} (hx : x = n + l.val) (hx' : x < 1024) :
    m.view.read (Elt F) (m.view.writes (Elt F) H [⟨Rect.unit (s := S1024) o S16.size ho, w⟩]) (at1024 x) = w (lane l) :=
  View.read_writes_cons_hit_of_coords (Val := Elt F) m.view H (Rect.unit (s := S1024) o S16.size ho) w [] (lane l) (at1024 x) fun a => match a with
    | 0 => by show (at1024 x 0).val = o 0 + 1 * l.val; rw [at1024_val hx', hn]; omega

theorem kept1024 (H : m.view.ty.Contents (Elt F)) (o : Fin 1 → ℕ) (ho : ∀ a, o a + S16.size a ≤ S1024.size a) (w : S16.Idx → BitVec 32)
    {n : ℕ} (hn : o 0 = n) {x : ℕ} (hx : x < n) :
    m.view.read (Elt F) (m.view.writes (Elt F) H [⟨Rect.unit (s := S1024) o S16.size ho, w⟩]) (at1024 x) = m.view.read (Elt F) H (at1024 x) :=
  View.read_writes_cons_miss_of_axis (Val := Elt F) m.view H ⟨Rect.unit (s := S1024) o S16.size ho, w⟩ [] (at1024 x) 0 n 16 hn rfl rfl
    (.inl (lt_of_le_of_lt (Nat.mod_le x 1024) hx))

theorem stored4096 (H : m'.view.ty.Contents (Elt F)) (o : Fin 1 → ℕ) (ho : ∀ a, o a + S16.size a ≤ S4096.size a) (w : S16.Idx → BitVec 32)
    {n : ℕ} (hn : o 0 = n) (l : Fin 16) {x : ℕ} (hx : x = n + l.val) (hx' : x < 4096) :
    m'.view.read (Elt F) (m'.view.writes (Elt F) H [⟨Rect.unit (s := S4096) o S16.size ho, w⟩]) (at4096 x) = w (lane l) :=
  View.read_writes_cons_hit_of_coords (Val := Elt F) m'.view H (Rect.unit (s := S4096) o S16.size ho) w [] (lane l) (at4096 x) fun a => match a with
    | 0 => by show (at4096 x 0).val = o 0 + 1 * l.val; rw [at4096_val hx', hn]; omega

theorem kept4096 (H : m'.view.ty.Contents (Elt F)) (o : Fin 1 → ℕ) (ho : ∀ a, o a + S16.size a ≤ S4096.size a) (w : S16.Idx → BitVec 32)
    {n : ℕ} (hn : o 0 = n) {x : ℕ} (hx : x < n) :
    m'.view.read (Elt F) (m'.view.writes (Elt F) H [⟨Rect.unit (s := S4096) o S16.size ho, w⟩]) (at4096 x) = m'.view.read (Elt F) H (at4096 x) :=
  View.read_writes_cons_miss_of_axis (Val := Elt F) m'.view H ⟨Rect.unit (s := S4096) o S16.size ho, w⟩ [] (at4096 x) 0 n 16 hn rfl rfl
    (.inl (lt_of_le_of_lt (Nat.mod_le x 4096) hx))

/-- Sixteen words loaded from `n` on. -/
theorem read1024 (H : m.view.ty.Contents (Elt F)) (o : Fin 1 → ℕ) (ho : ∀ a, o a + S16.size a ≤ S1024.size a) {n : ℕ} (hn : o 0 = n) (l : Fin 16)
    (hx : n + l.val < 1024) :
    m.view.readAt (Elt F) (Rect.unit (s := S1024) o S16.size ho).toLoadRect H (lane l) = m.view.read (Elt F) H (at1024 (n + l.val)) := by
  refine congrArg (m.view.read (Elt F) H) (eq_at1024 _ ?_)
  show o 0 + 1 * l.val = _; omega

theorem read4096 (H : m'.view.ty.Contents (Elt F)) (o : Fin 1 → ℕ) (ho : ∀ a, o a + S16.size a ≤ S4096.size a) {n : ℕ} (hn : o 0 = n) (l : Fin 16)
    (hx : n + l.val < 4096) :
    m'.view.readAt (Elt F) (Rect.unit (s := S4096) o S16.size ho).toLoadRect H (lane l) = m'.view.read (Elt F) H (at4096 (n + l.val)) := by
  refine congrArg (m'.view.read (Elt F) H) (eq_at4096 _ ?_)
  show o 0 + 1 * l.val = _; omega

end Rects

section Rules
variable [FloatOps F] {α : Type} {thr' : Thread nD τ} {s : Shape} {m : Memref sig thr'.2.kind .vmem s .i32}

/-- An indexed load of a vector held whole. -/
theorem wp_gather {t : Shape} {idxs : Fin s.rank → IVec t 32} {h : ∀ a x, (idxs a x).toNat < s.size a} {hl : m.view.Loads}
    {k : Vec F t .i32 → Prog (TpuEff nD τ sig (Elt F) Λ₀ thr'.2) α} {Q : α → sProp 𝕄} {f : Buf (Elt F) (m.view.loc thr')} {g : Vec F s .i32}
    (hg : (m.access (.whole s)).read (Elt F) f = g) :
    (m.view.loc thr' ↦{fullShare} f)
      ⊢ iprop(((m.view.loc thr' ↦{fullShare} f) -∗ wp frame (wpE (defs₀ (F := F)) 𝒱₀ thr' none) Set.univ (k (loadIdx g idxs h)) Q)
        -∗ wp frame (wpE (defs₀ (F := F)) 𝒱₀ thr' none) Set.univ (SparseCore.vectorLoadIdx m idxs h hl >>= k) Q) := by
  subst hg
  exact SparseCore.wp_vectorLoadIdx 𝒱₀ thr' none Set.univ (base := m) (S := Finset.univ) (q := fullShare) (Finset.subset_univ _)

/-- An indexed store into a vector held whole. -/
theorem wp_scatter {n : Fin 1 → ℕ} {idxs : Fin s.rank → IVec ⟨1, n⟩ 32} {v : Vec F ⟨1, n⟩ .i32} {mask : IVec ⟨1, n⟩ 1} {add : Bool}
    {h : ∀ a x, (idxs a x).toNat < s.size a} {hs : (m.access (.whole s)).Stores Finset.univ}
    {k : PUnit → Prog (TpuEff nD τ sig (Elt F) Λ₀ thr'.2) α} {Q : α → sProp 𝕄} {f g' : Buf (Elt F) (m.view.loc thr')} {g : Vec F s .i32}
    (hset : (m.access (.whole s)).set = Finset.univ) (hg : (m.access (.whole s)).read (Elt F) f = g)
    (hw : (m.access (.whole s)).write (Elt F) f (storeIdx g idxs v mask add h) Finset.univ = g') :
    (m.view.loc thr' ↦{fullShare} f)
      ⊢ iprop(((m.view.loc thr' ↦{fullShare} g') -∗ wp frame (wpE (defs₀ (F := F)) 𝒱₀ thr' none) Set.univ (k ⟨⟩) Q)
        -∗ wp frame (wpE (defs₀ (F := F)) 𝒱₀ thr' none) Set.univ (SparseCore.vectorStoreIdx m idxs v mask add h hs >>= k) Q) := by
  subst hg hw
  have hr := SparseCore.wp_vectorStoreIdx (defs := defs₀ (F := F)) 𝒱₀ thr' none Set.univ (base := m) (idxs := idxs) (v := v) (mask := mask) (add := add)
    (h := h) (hs := hs) (k := k) (Q := Q) (f := f)
  rw [hset] at hr
  exact hr

end Rules

section Tile
variable (d : Dev nD) (L : grid0.Coords) (hL : k0_cond1 L = 1#1) [FloatOps F]

/-! ## The histogram is cleared -/

def inv1 (k : Nat) (_ : Unit) : sProp 𝕄 :=
  iprop(∃ H : S1024.Idx → BitVec 32, ⌜∀ x, x < 16 * k → H (at1024 x) = 0#32⌝ ∗ (sHi).view.loc (thr d L) ↦{fullShare} H)

theorem trip1 (k : Fin k0_t1_loop.trips) (u : Unit) :
    inv1 (F := F) d L k.val u
      ⊢ wp frame (wpE (defs₀ (F := F)) 𝒱₀ (thr d L) none) Set.univ
          (k0_t1_body L bV (Memref.isWhole_whole _) stV (Memref.isWhole_whole _) unV (Memref.isWhole_whole _)
            sBk (Memref.isWhole_whole _) sRk (Memref.isWhole_whole _) sSt (Memref.isWhole_whole _) sUn (Memref.isWhole_whole _)
            sHi (Memref.isWhole_whole _) sOf (Memref.isWhole_whole _) cc0_scoped0 cc0_scoped1 cc0_scoped2 hL k0_pay9 k u)
          fun u' => inv1 (F := F) d L (k.val + 1) u' := by
  unfold inv1 k0_t1_body
  iintro ⟨%H, %hH, HH⟩
  sl_exec
  sl_step
  iexists (sHi).view.writes (Elt F) H [⟨Rect.unit (s := S1024) (k0_off2 k) S16.size (k0_off2_inb L k hL), k0_pay9⟩]
  isplitr [HH]
  · ipureintro
    have hk : k.val < 64 := Nat.lt_of_lt_of_le k.isLt k0_t1_abs.2.1
    have ho : k0_off2 k 0 = 16 * k.val := congrFun (k0_off2_eq k) 0
    intro x hx
    by_cases hx' : x < 16 * k.val
    · exact (kept1024 (F := F) (sHi) H _ _ k0_pay9 ho hx').trans (hH x hx')
    · exact (stored1024 (F := F) (sHi) H _ _ k0_pay9 ho ⟨x - 16 * k.val, by omega⟩ (by dsimp only; omega) (by omega))
  · iexact HH

/-! ## The numbers are counted -/

def inv2 (f : S4096.Idx → BitVec 32) (h : ℕ) (k : Nat) (_ : Unit) : sProp 𝕄 :=
  iprop(((sBk).view.loc (thr d L) ↦{fullShare} f) ∗ ∃ (H : S1024.Idx → BitVec 32) (R : S4096.Idx → BitVec 32),
    ⌜(∀ x, x < 1024 → H (at1024 x) = BitVec.ofNat 32 (cnt (bkt f h) k x))
      ∧ ∀ j, j < k → ∀ l : Fin 16, R (at4096 (16 * j + l.val)) = BitVec.ofNat 32 (cnt (bkt f h) j (slot (bkt f h) (num l j)))⌝
    ∗ ((sHi).view.loc (thr d L) ↦{fullShare} H) ∗ (sRk).view.loc (thr d L) ↦{fullShare} R)

theorem loaded {f : S4096.Idx → BitVec 32} {v : IVec S16 32} {i : ℕ} (hv : nums v i) (hi : i < 256)
    (hb : ∀ a x, ((![v] : Fin 1 → IVec S16 32) a x).toNat < S4096.size a) (l : Fin 16) :
    loadIdx (F := F) (e := .i32) f ![v] hb (lane l) = f (at4096 (num l i)) :=
  congrArg f (eq_at4096 _ (by
    show (v (lane l)).toNat = _
    rw [hv l, toNat_lt (by unfold num; omega)]))

theorem loaded_slot {f : S4096.Idx → BitVec 32} {h : ℕ} {H : S1024.Idx → BitVec 32} {v : IVec S16 32} {i : ℕ} (hf : InB f h) (hv : slots f h v i) (hi : i < 256)
    (hb : ∀ a x, ((![v] : Fin 1 → IVec S16 32) a x).toNat < S1024.size a) (l : Fin 16) :
    loadIdx (F := F) (e := .i32) H ![v] hb (lane l) = H (at1024 (slot (bkt f h) (num l i))) :=
  congrArg H (eq_at1024 _ (by
    show (v (lane l)).toNat = _
    have hn : num l i < 4096 := by unfold num; omega
    have := slot_lt hf hn
    rw [hv l, toNat_lt (by omega)]))

theorem trip2 (f : S4096.Idx → BitVec 32) (h : ℕ) (hf : InB f h) (hh : h < 4) (k : Fin k0_t2_loop.trips) (u : Unit) :
    inv2 (F := F) d L f h k.val u
      ⊢ wp frame (wpE (defs₀ (F := F)) 𝒱₀ (thr d L) none) Set.univ
          (k0_t2_body L bV (Memref.isWhole_whole _) stV (Memref.isWhole_whole _) unV (Memref.isWhole_whole _)
            sBk (Memref.isWhole_whole _) sRk (Memref.isWhole_whole _) sSt (Memref.isWhole_whole _) sUn (Memref.isWhole_whole _)
            sHi (Memref.isWhole_whole _) sOf (Memref.isWhole_whole _) cc0_scoped0 cc0_scoped1 cc0_scoped2 hL (BitVec.ofNat 32 (h * 64)) iotaV k u)
          fun u' => inv2 (F := F) d L f h (k.val + 1) u' := by
  have hk : k.val < 256 := Nat.lt_of_lt_of_le k.isLt k0_t2_abs.2.1
  have hn : nums (k0_pay1 iotaV k) k.val := pay1_nums k
  have hc1 := chk_of (n := 4096) (nums_lt hn hk)
  have hs : slots f h (k0_pay2 (BitVec.ofNat 32 (h * 64)) iotaV (loadIdx (F := F) (e := .i32) f ![k0_pay1 iotaV k] hc1)) k.val :=
    pay_slots hf hh hk _ (loaded hn hk hc1)
  have hc2 := chk_of (n := 1024) (slots_lt hf hk hs)
  unfold inv2 k0_t2_body
  iintro ⟨Hb, %H, %R, %hHR, HH, HR⟩
  have hk1 : k0_chk1 L (k0_pay1 iotaV k) := fun _ => hc1
  have hk2 : k0_chk2 L (k0_pay2 (BitVec.ofNat 32 (h * 64)) iotaV (loadIdx (F := F) (e := .i32) f ![k0_pay1 iotaV k] hc1)) := ⟨fun _ => hc2, fun _ => hc2⟩
  sl_exec
  iapply (wp_gather (thr' := thr d L) (m := sBk) (Memref.read_access_whole (Elt F) cc0_scratch0 f)) $$ Hb
  iintro Hb
  sl_exec
  iapply (wp_gather (thr' := thr d L) (m := sHi) (Memref.read_access_whole (Elt F) cc0_scratch4 H)) $$ HH
  iintro HH
  sl_exec
  iapply (wp_scatter (thr' := thr d L) (m := sHi) (Memref.set_access_whole cc0_scratch4) (Memref.read_access_whole (Elt F) cc0_scratch4 H)
    (Memref.write_access_whole_univ (Elt F) cc0_scratch4 _ _)) $$ HH
  iintro HH
  sl_step
  isplitl [Hb]
  · iexact Hb
  iexists _, _
  isplitr [HH HR]
  rotate_left
  · isplitl [HH]
    · iexact HH
    · iexact HR
  · ipureintro
    have hv := loaded_slot (F := F) (H := H) hf hs hk hc2
    have hw : ∀ l : Fin 16, loadIdx (F := F) (e := .i32) H ![k0_pay2 (BitVec.ofNat 32 (h * 64)) iotaV (loadIdx (F := F) (e := .i32) f ![k0_pay1 iotaV k] hc1)] hc2 (lane l)
        = BitVec.ofNat 32 (cnt (bkt f h) k.val (slot (bkt f h) (num l k.val))) := fun l => by
      rw [hv l]; exact hHR.1 _ (slot_lt hf (by unfold num; omega))
    refine ⟨count_step (F := F) hf hk H hHR.1 _ hs hc2 _ fun l => ?_, fun j hj l => ?_⟩
    · show loadIdx (F := F) (e := .i32) H ![k0_pay2 (BitVec.ofNat 32 (h * 64)) iotaV (loadIdx (F := F) (e := .i32) f ![k0_pay1 iotaV k] hc1)] hc2 (lane l) + 1#32 = _
      rw [hw l, BitVec.ofNat_add]
    · have ho : k0_off3 k 0 = 16 * k.val := congrFun (k0_off3_eq k) 0
      by_cases hj' : j < k.val
      · exact (kept4096 (F := F) (sRk) R _ _ _ ho (by omega)).trans (hHR.2 j hj' l)
      · obtain rfl : j = k.val := by omega
        exact (stored4096 (F := F) (sRk) R _ _ _ ho l rfl (by omega)).trans (hw l)

/-! ## The counts are summed -/

def inv3 (f : S4096.Idx → BitVec 32) (h : ℕ) (H : S1024.Idx → BitVec 32) (k : Nat) (run : BitVec 32) : sProp 𝕄 :=
  iprop(((sHi).view.loc (thr d L) ↦{fullShare} H) ∗ ∃ G : S1024.Idx → BitVec 32,
    ⌜run = BitVec.ofNat 32 (below (bkt f h) (16 * k)) ∧ ∀ x, x < 16 * k → G (at1024 x) = BitVec.ofNat 32 (below (bkt f h) x)⌝
    ∗ (sOf).view.loc (thr d L) ↦{fullShare} G)

theorem trip3 (f : S4096.Idx → BitVec 32) (h : ℕ) (H : S1024.Idx → BitVec 32)
    (hH : ∀ x, x < 1024 → H (at1024 x) = BitVec.ofNat 32 (cnt (bkt f h) 256 x)) (k : Fin k0_t3_loop.trips) (run : BitVec 32) :
    inv3 (F := F) d L f h H k.val run
      ⊢ wp frame (wpE (defs₀ (F := F)) 𝒱₀ (thr d L) none) Set.univ
          (k0_t3_body L bV (Memref.isWhole_whole _) stV (Memref.isWhole_whole _) unV (Memref.isWhole_whole _)
            sBk (Memref.isWhole_whole _) sRk (Memref.isWhole_whole _) sSt (Memref.isWhole_whole _) sUn (Memref.isWhole_whole _)
            sHi (Memref.isWhole_whole _) sOf (Memref.isWhole_whole _) cc0_scoped0 cc0_scoped1 cc0_scoped2 hL k run)
          fun run' => inv3 (F := F) d L f h H (k.val + 1) run' := by
  have hk : k.val < 64 := Nat.lt_of_lt_of_le k.isLt k0_t3_abs.2.1
  have ho : k0_off4 k 0 = 16 * k.val := congrFun (k0_off4_eq k) 0
  have hv : ∀ l : Fin 16, (sHi).view.readAt (Elt F) (Rect.unit (s := S1024) (k0_off4 k) S16.size (k0_off4_inb L k hL)).toLoadRect H (lane l)
      = BitVec.ofNat 32 (cnt (bkt f h) 256 (16 * k.val + l.val)) := fun l =>
    (read1024 (F := F) (sHi) H _ _ ho l (by omega)).trans (hH _ (by omega))
  unfold inv3 k0_t3_body
  iintro ⟨HH, %G, %hG, HG⟩
  sl_exec
  sl_step
  isplitl [HH]
  · iexact HH
  iexists _
  isplitr [HG]
  rotate_left
  · iexact HG
  · ipureintro
    refine ⟨?_, fun x hx => ?_⟩
    · exact (prefix_step (bkt f h) _ run (16 * k.val) hv hG.1 15).trans (by congr 2)
    · by_cases hx' : x < 16 * k.val
      · exact (kept1024 (F := F) (sOf) G _ _ _ ho hx').trans (hG.2 x hx')
      · refine (stored1024 (F := F) (sOf) G _ _ _ ho ⟨x - 16 * k.val, by omega⟩ (by dsimp only; omega) (by omega)).trans
          ((prefix_off (F := F) (bkt f h) _ run (16 * k.val) hv hG.1 _).trans ?_)
        congr 2; dsimp only; omega

/-! ## The numbers are placed -/

def inv4 (f : S4096.Idx → BitVec 32) (h : ℕ) (G : S1024.Idx → BitVec 32) (R : S4096.Idx → BitVec 32) (k : Nat) (_ : Unit) : sProp 𝕄 :=
  iprop(((sBk).view.loc (thr d L) ↦{fullShare} f) ∗ ((sOf).view.loc (thr d L) ↦{fullShare} G) ∗ ((sRk).view.loc (thr d L) ↦{fullShare} R)
    ∗ ∃ (g u : S4096.Idx → BitVec 32),
      ⌜(∀ s, s < 4096 → s % 256 < k → g (at4096 (rk (bkt f h) s)) = BitVec.ofNat 32 s)
        ∧ ∀ s, s < 4096 → s % 256 < k → u (at4096 s) = BitVec.ofNat 32 (rk (bkt f h) s + h * 4096)⌝
      ∗ ((sSt).view.loc (thr d L) ↦{fullShare} g) ∗ (sUn).view.loc (thr d L) ↦{fullShare} u)

theorem trip4 (f : S4096.Idx → BitVec 32) (h : ℕ) (hf : InB f h) (hh : h < 4) (G : S1024.Idx → BitVec 32) (R : S4096.Idx → BitVec 32)
    (hG : ∀ x, x < 1024 → G (at1024 x) = BitVec.ofNat 32 (below (bkt f h) x))
    (hR : ∀ j, j < 256 → ∀ l : Fin 16, R (at4096 (16 * j + l.val)) = BitVec.ofNat 32 (cnt (bkt f h) j (slot (bkt f h) (num l j))))
    (k : Fin k0_t4_loop.trips) (u : Unit) :
    inv4 (F := F) d L f h G R k.val u
      ⊢ wp frame (wpE (defs₀ (F := F)) 𝒱₀ (thr d L) none) Set.univ
          (k0_t4_body L bV (Memref.isWhole_whole _) stV (Memref.isWhole_whole _) unV (Memref.isWhole_whole _)
            sBk (Memref.isWhole_whole _) sRk (Memref.isWhole_whole _) sSt (Memref.isWhole_whole _) sUn (Memref.isWhole_whole _)
            sHi (Memref.isWhole_whole _) sOf (Memref.isWhole_whole _) cc0_scoped0 cc0_scoped1 cc0_scoped2 hL
            (BitVec.ofNat 32 h) (BitVec.ofNat 32 (h * 64)) iotaV k u)
          fun u' => inv4 (F := F) d L f h G R (k.val + 1) u' := by
  have hk : k.val < 256 := Nat.lt_of_lt_of_le k.isLt k0_t4_abs.2.1
  have ho : k0_off5 k 0 = 16 * k.val := congrFun (k0_off5_eq k) 0
  have hn : nums (k0_pay6 iotaV k) k.val := pay6_nums k
  have hc1 := chk_of (n := 4096) (nums_lt hn hk)
  have hs : slots f h (k0_pay7 (BitVec.ofNat 32 (h * 64)) iotaV (loadIdx (F := F) (e := .i32) f ![k0_pay6 iotaV k] hc1)) k.val :=
    pay_slots hf hh hk _ (loaded hn hk hc1)
  have hc2 := chk_of (n := 1024) (slots_lt hf hk hs)
  have hp : ∀ l : Fin 16, addi (loadIdx (F := F) (e := .i32) G ![k0_pay7 (BitVec.ofNat 32 (h * 64)) iotaV (loadIdx (F := F) (e := .i32) f ![k0_pay6 iotaV k] hc1)] hc2)
      ((sRk).view.readAt (Elt F) (Rect.unit (s := S4096) (k0_off5 k) S16.size (k0_off5_inb L k hL)).toLoadRect R) (lane l)
      = BitVec.ofNat 32 (rk (bkt f h) (num l k.val)) := fun l => by
    have hl : num l k.val < 4096 ∧ num l k.val % 256 = k.val := by unfold num; omega
    show loadIdx (F := F) (e := .i32) G ![k0_pay7 (BitVec.ofNat 32 (h * 64)) iotaV (loadIdx (F := F) (e := .i32) f ![k0_pay6 iotaV k] hc1)] hc2 (lane l)
      + (sRk).view.readAt (Elt F) (Rect.unit (s := S4096) (k0_off5 k) S16.size (k0_off5_inb L k hL)).toLoadRect R (lane l) = _
    rw [loaded_slot (F := F) (H := G) hf hs hk hc2 l, hG _ (slot_lt hf hl.1), read4096 (F := F) (sRk) R _ _ ho l (by omega)]
    refine (congrArg _ (hR k.val hk l)).trans ?_
    rw [← pos_eq_rk (bkt f h) hl.1, ← BitVec.ofNat_add]
    unfold pos; rw [hl.2]
  have hrk : ∀ l : Fin 16, rk (bkt f h) (num l k.val) < 4096 := fun l => rk_lt _ (by unfold num; omega)
  have hc3 := chk_of (n := 4096) (v := addi (loadIdx (F := F) (e := .i32) G ![k0_pay7 (BitVec.ofNat 32 (h * 64)) iotaV (loadIdx (F := F) (e := .i32) f ![k0_pay6 iotaV k] hc1)] hc2)
      ((sRk).view.readAt (Elt F) (Rect.unit (s := S4096) (k0_off5 k) S16.size (k0_off5_inb L k hL)).toLoadRect R)) (fun x => by
    obtain ⟨l, rfl⟩ := ex_lane x
    rw [hp l, toNat_lt (by have := hrk l; omega)]; exact hrk l)
  have hk1 : k0_chk3 L (k0_pay6 iotaV k) := ⟨fun _ => hc1, fun _ => hc1⟩
  have hk2 : k0_chk4 L (k0_pay7 (BitVec.ofNat 32 (h * 64)) iotaV (loadIdx (F := F) (e := .i32) f ![k0_pay6 iotaV k] hc1)) := fun _ => hc2
  have hk3 : k0_chk5 L (addi (loadIdx (F := F) (e := .i32) G ![k0_pay7 (BitVec.ofNat 32 (h * 64)) iotaV (loadIdx (F := F) (e := .i32) f ![k0_pay6 iotaV k] hc1)] hc2)
      ((sRk).view.readAt (Elt F) (Rect.unit (s := S4096) (k0_off5 k) S16.size (k0_off5_inb L k hL)).toLoadRect R)) := fun _ => hc3
  unfold inv4 k0_t4_body
  iintro ⟨Hb, HG, HR, %g, %w, %hgw, Hs, Hu⟩
  sl_exec
  iapply (wp_gather (thr' := thr d L) (m := sBk) (Memref.read_access_whole (Elt F) cc0_scratch0 f)) $$ Hb
  iintro Hb
  sl_exec
  iapply (wp_gather (thr' := thr d L) (m := sOf) (Memref.read_access_whole (Elt F) cc0_scratch5 G)) $$ HG
  iintro HG
  sl_exec
  iapply (wp_scatter (thr' := thr d L) (m := sSt) (Memref.set_access_whole cc0_scratch2) (Memref.read_access_whole (Elt F) cc0_scratch2 g)
    (Memref.write_access_whole_univ (Elt F) cc0_scratch2 _ _)) $$ Hs
  iintro Hs
  iapply (wp_scatter (thr' := thr d L) (m := sUn) (Memref.set_access_whole cc0_scratch3) (Memref.read_access_whole (Elt F) cc0_scratch3 w)
    (Memref.write_access_whole_univ (Elt F) cc0_scratch3 _ _)) $$ Hu
  iintro Hu
  sl_step
  isplitl [Hb]
  · iexact Hb
  isplitl [HG]
  · iexact HG
  isplitl [HR]
  · iexact HR
  iexists _, _
  isplitr [Hs Hu]
  rotate_left
  · isplitl [Hs]
    · iexact Hs
    · iexact Hu
  · ipureintro
    exact place_step (F := F) hk g w (h * 4096) hgw.1 hgw.2 _ _ _ hn hp (fun l => by
      refine (congrArg (· + BitVec.ofNat 32 h * 4096#32) (hp l)).trans ?_
      show BitVec.ofNat 32 (rk (bkt f h) (num l k.val)) + BitVec.ofNat 32 h * BitVec.ofNat 32 4096 = _
      rw [← BitVec.ofNat_mul, ← BitVec.ofNat_add]) hc3 hc1

end Tile

end Cert.Proof.Rows

end
-- ==== Proof.SortTask.lean ====
/-
  The counting sort's task, whole: from the buckets to its 4096 elements of each of the two results.
-/
module

public import proofs.«01_k».proof.Proof.SortTile
public import Idealize.ShloMosaic.Lib.ValueIdx

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count Cert.Proof.SortVal
open Idealize.ShloMosaic.ValueIdx

variable {F : FTy → Type}

local notation "𝕄" => MT nD τ sig (HIx 3) (Elt F) ℕ UU ℕ

abbrev bLoc (d : Dev nD) : Loc nD τ sig := (SparseCore.T d).loc main_arg1
abbrev stLoc (d : Dev nD) : Loc nD τ sig := (SparseCore.T d).loc main_v0_0
abbrev unLoc (d : Dev nD) : Loc nD τ sig := (SparseCore.T d).loc main_v0_1

/-- The buckets of sequence `b` and hash `h`. -/
def row (fb : S4x4x4096.Idx → BitVec 32) (b h : Fin 4) : S4096.Idx → BitVec 32 := fun j => fb (ix3 b h (j 0))

/-- Every bucket is among the sixty-four of its hash. -/
def InBuckets (fb : S4x4x4096.Idx → BitVec 32) : Prop := ∀ b h : Fin 4, InB (row fb b h) h.val

def hashOf (x : S4x16384.Idx) : Fin 4 := ⟨(x 1).val / 4096, by have : (x 1).val < 16384 := (x 1).isLt; omega⟩

/-- The number of the task that writes an element. -/
def own (x : S4x16384.Idx) : ℕ := 4 * (x 0).val + (x 1).val / 4096

theorem own_lt (x : S4x16384.Idx) : own x < 32 := by
  have : (x 0).val < 4 := (x 0).isLt; have : (x 1).val < 16384 := (x 1).isLt; unfold own; omega

/-- The sort's results: the numbers in the order of their buckets, and each number's place. -/
def sorted (fb : S4x4x4096.Idx → BitVec 32) : S4x16384.Idx → BitVec 32 := fun x =>
  BitVec.ofNat 32 (inv (bkt (row fb (x 0) (hashOf x)) (hashOf x).val) ((x 1).val % 4096))
def places (fb : S4x4x4096.Idx → BitVec 32) : S4x16384.Idx → BitVec 32 := fun x =>
  BitVec.ofNat 32 (rk (bkt (row fb (x 0) (hashOf x)) (hashOf x).val) ((x 1).val % 4096) + (hashOf x).val * 4096)

section Tile
variable (d : Dev nD) (L : grid0.Coords) [FloatOps F] (q : PosShare TreeShare) (fb : S4x4x4096.Idx → BitVec 32)

abbrev s0 : GSem nD τ sig := (thr d L, .dma cc0_scoped0.sem)
abbrev s1 : GSem nD τ sig := (thr d L, .dma cc0_scoped1.sem)
abbrev s2 : GSem nD τ sig := (thr d L, .dma cc0_scoped2.sem)

omit [FloatOps F] in
/-- The three semaphores of the task are among the subcore's own. -/
theorem sort_sems :
    (ownSems0 (thr d L) : sProp 𝕄)
      = iprop(semVal (s0 d L) 0 ∗ semVal (s1 d L) 0 ∗ semVal (s2 d L) 0
          ∗ bigSep ((((ownCells (thr d L)).erase (s0 d L)).erase (s1 d L)).erase (s2 d L)) fun g => semVal g 0) := by
  have hm : ∀ s : DmaSem sig, (SemLoc.dma s : SemLoc sig).isScoped .scVector = true → ((thr d L, SemLoc.dma s) : GSem nD τ sig) ∈ ownCells (thr d L) :=
    fun s h => (mem_ownCells (g := (thr d L, SemLoc.dma s))).mpr ⟨rfl, h⟩
  unfold SparseCore.Cfg.ownSems0
  rw [SparseCore.bigSep_erase' (hm cc0_scoped0.sem (by decide)),
    SparseCore.bigSep_erase' (Finset.mem_erase.mpr ⟨by simp; decide, hm cc0_scoped1.sem (by decide)⟩),
    SparseCore.bigSep_erase' (Finset.mem_erase.mpr ⟨by simp; decide, Finset.mem_erase.mpr ⟨by simp; decide, hm cc0_scoped2.sem (by decide)⟩⟩)]

abbrev bb (L : grid0.Coords) (r : Ref sig .scVector) : DevRef τ sig := (Proc.scVector (cV L) (jV L)).devRef r

omit [FloatOps F] in
/-- The six vectors of the task are among the subcore's own. -/
theorem sort_bufs :
    (ownBufs (thr d L) : sProp 𝕄)
      = iprop((∃ f, (sBk).view.loc (thr d L) ↦{fullShare} f) ∗ (∃ f, (sRk).view.loc (thr d L) ↦{fullShare} f)
          ∗ (∃ f, (sSt).view.loc (thr d L) ↦{fullShare} f) ∗ (∃ f, (sUn).view.loc (thr d L) ↦{fullShare} f)
          ∗ (∃ f, (sHi).view.loc (thr d L) ↦{fullShare} f) ∗ (∃ f, (sOf).view.loc (thr d L) ↦{fullShare} f)
          ∗ bigSep (((((((ownRefs (τ := τ) (.scVector (cV L) (jV L))).erase (bb L cc0_scratch0)).erase (bb L cc0_scratch1)).erase (bb L cc0_scratch2)).erase
              (bb L cc0_scratch3)).erase (bb L cc0_scratch4)).erase (bb L cc0_scratch5))
              fun b => iprop(∃ f, ((d, b) : Loc nD τ sig) ↦{fullShare} f)) := by
  have hm : ∀ r : Ref sig .scVector, r = cc0_scratch0 ∨ r = cc0_scratch1 ∨ r = cc0_scratch2 ∨ r = cc0_scratch3 ∨ r = cc0_scratch4 ∨ r = cc0_scratch5 →
      bb L r ∈ ownRefs (τ := τ) (sig := sig) (.scVector (cV L) (jV L)) := by
    rintro r (rfl | rfl | rfl | rfl | rfl | rfl) <;> exact SparseCore.Cfg.mem_ownRefs_of_owner (p := Proc.scVector (cV L) (jV L)) rfl
  have hne : ∀ {r r' : Ref sig .scVector}, r ≠ r' → bb L r ≠ bb L r' := fun h e => h (Proc.devRef_injective _ e)
  unfold SparseCore.Cfg.ownBufs
  refine (SparseCore.bigSep_erase' (hm cc0_scratch0 (by simp))).trans ?_
  rw [SparseCore.bigSep_erase' (i := bb L cc0_scratch1) (Finset.mem_erase.mpr ⟨hne (by decide), hm _ (by simp)⟩),
    SparseCore.bigSep_erase' (i := bb L cc0_scratch2) (Finset.mem_erase.mpr ⟨hne (by decide), Finset.mem_erase.mpr ⟨hne (by decide), hm _ (by simp)⟩⟩),
    SparseCore.bigSep_erase' (i := bb L cc0_scratch3) (Finset.mem_erase.mpr ⟨hne (by decide), Finset.mem_erase.mpr ⟨hne (by decide),
      Finset.mem_erase.mpr ⟨hne (by decide), hm _ (by simp)⟩⟩⟩),
    SparseCore.bigSep_erase' (i := bb L cc0_scratch4) (Finset.mem_erase.mpr ⟨hne (by decide), Finset.mem_erase.mpr ⟨hne (by decide),
      Finset.mem_erase.mpr ⟨hne (by decide), Finset.mem_erase.mpr ⟨hne (by decide), hm _ (by simp)⟩⟩⟩⟩),
    SparseCore.bigSep_erase' (i := bb L cc0_scratch5) (Finset.mem_erase.mpr ⟨hne (by decide), Finset.mem_erase.mpr ⟨hne (by decide),
      Finset.mem_erase.mpr ⟨hne (by decide), Finset.mem_erase.mpr ⟨hne (by decide), Finset.mem_erase.mpr ⟨hne (by decide), hm _ (by simp)⟩⟩⟩⟩⟩)]

/-- The elements the task writes. -/
abbrev mine : Finset S4x16384.Idx := Finset.univ.filter fun x => own x = wid L

/-- The task's part of the call: a share of the buckets, and its elements of the two results outright. -/
def sortPart (gs gu : S4x16384.Idx → BitVec 32) : sProp 𝕄 :=
  iprop((bLoc d ↦{q} fb) ∗ (stLoc d ↦[mine L]{fullShare} gs) ∗ unLoc d ↦[mine L]{fullShare} gu)

theorem cond_lt (h : k0_cond1 L = 1#1) : wid L < 16 := by
  revert h; revert L; decide
theorem cond_ge (h : ¬ k0_cond1 L = 1#1) : 16 ≤ wid L := by
  revert h; revert L; decide

theorem off1_eq (h : k0_cond1 L = 1#1) : k0_off1 L = ![wid L / 4, wid L % 4, 0] := by
  revert h; revert L; decide +kernel
theorem off6_eq (h : k0_cond1 L = 1#1) : k0_off6 L = ![wid L / 4, wid L % 4 * 4096] := by
  revert h; revert L; decide +kernel

abbrev bSl (h : k0_cond1 L = 1#1) : Memref sig .scVector .hbm S4096 .i32 :=
  ((bV).slice (Rect.unit (s := S4x4x4096) (k0_off1 L) S1x1x4096.size (k0_off1_inb L h)) (fun _ => rfl)).squeeze S4096 squeezes_S1x1x4096_S4096
abbrev stSl (h : k0_cond1 L = 1#1) : Memref sig .scVector .hbm S4096 .i32 :=
  ((stV).slice (Rect.unit (s := S4x16384) (k0_off6 L) S1x4096.size (k0_off6_inb L h)) (fun _ => rfl)).squeeze S4096 squeezes_S1x4096_S4096
abbrev unSl (h : k0_cond1 L = 1#1) : Memref sig .scVector .hbm S4096 .i32 :=
  ((unV).slice (Rect.unit (s := S4x16384) (k0_off6 L) S1x4096.size (k0_off6_inb L h)) (fun _ => rfl)).squeeze S4096 squeezes_S1x4096_S4096

/-- Where the slices' elements lie. -/
theorem bSl_emb (h : k0_cond1 L = 1#1) (y : S4096.Idx) :
    (bSl L h).view.emb y = ix3 ⟨wid L / 4, by have := cond_lt L h; omega⟩ ⟨wid L % 4, by omega⟩ (y 0) := by
  have hr := Shape.rowMajor_val_three (S1x1x4096.rowMajor.symm (Fin.cast (show S4096.numel = S1x1x4096.numel by decide) (S4096.rowMajor y)))
  rw [Equiv.apply_symm_apply] at hr
  generalize hz : S1x1x4096.rowMajor.symm (Fin.cast (show S4096.numel = S1x1x4096.numel by decide) (S4096.rowMajor y)) = z at hr
  have hr' : (y 0).val = ((z 0).val * 1 + (z 1).val) * 4096 + (z 2).val := (Shape.rowMajor_val_one y).symm.trans hr
  have h0 : (z 0).val < 1 := (z 0).isLt
  have h1 : (z 1).val < 1 := (z 1).isLt
  have ho := off1_eq L h
  have o0 : k0_off1 L 0 = wid L / 4 := congrFun ho 0
  have o1 : k0_off1 L 1 = wid L % 4 := congrFun ho 1
  have o2 : k0_off1 L 2 = 0 := congrFun ho 2
  refine Eq.trans (b := (Rect.unit (s := S4x4x4096) (k0_off1 L) S1x1x4096.size (k0_off1_inb L h)).emb z) (by rw [← hz]; rfl) ?_
  funext a; apply Fin.ext
  match a with
  | 0 => show k0_off1 L 0 + 1 * (z 0).val = wid L / 4; omega
  | 1 => show k0_off1 L 1 + 1 * (z 1).val = wid L % 4; omega
  | 2 => show k0_off1 L 2 + 1 * (z 2).val = (y 0).val; omega

theorem stSl_emb (h : k0_cond1 L = 1#1) (y : S4096.Idx) :
    (stSl L h).view.emb y = ix2 ⟨wid L / 4, by have := cond_lt L h; omega⟩ ⟨wid L % 4 * 4096 + (y 0).val, by have : (y 0).val < 4096 := (y 0).isLt; omega⟩ := by
  have hr := Shape.rowMajor_val_two (S1x4096.rowMajor.symm (Fin.cast (show S4096.numel = S1x4096.numel by decide) (S4096.rowMajor y)))
  rw [Equiv.apply_symm_apply] at hr
  generalize hz : S1x4096.rowMajor.symm (Fin.cast (show S4096.numel = S1x4096.numel by decide) (S4096.rowMajor y)) = z at hr
  have hr' : (y 0).val = (z 0).val * 4096 + (z 1).val := (Shape.rowMajor_val_one y).symm.trans hr
  have h0 : (z 0).val < 1 := (z 0).isLt
  have ho := off6_eq L h
  have o0 : k0_off6 L 0 = wid L / 4 := congrFun ho 0
  have o1 : k0_off6 L 1 = wid L % 4 * 4096 := congrFun ho 1
  refine Eq.trans (b := (Rect.unit (s := S4x16384) (k0_off6 L) S1x4096.size (k0_off6_inb L h)).emb z) (by rw [← hz]; rfl) ?_
  funext a; apply Fin.ext
  match a with
  | 0 => show k0_off6 L 0 + 1 * (z 0).val = wid L / 4; omega
  | 1 => show k0_off6 L 1 + 1 * (z 1).val = wid L % 4 * 4096 + (y 0).val; omega

theorem mem_mine (x : S4x16384.Idx) : x ∈ mine L ↔ own x = wid L := by
  rw [Finset.mem_filter]; exact ⟨fun h => h.2, fun h => ⟨Finset.mem_univ _, h⟩⟩

theorem stSl_set (h : k0_cond1 L = 1#1) : (stSl L h).view.set = mine L := by
  ext x
  rw [mem_mine]
  constructor
  · intro hx
    obtain ⟨y, -, rfl⟩ := Finset.mem_map.mp hx
    rw [stSl_emb]
    have : (y 0).val < 4096 := (y 0).isLt
    show 4 * (wid L / 4) + (wid L % 4 * 4096 + (y 0).val) / 4096 = wid L
    omega
  · intro hx
    have h0 : (x 0).val < 4 := (x 0).isLt
    have h1 : (x 1).val < 16384 := (x 1).isLt
    unfold own at hx
    refine Finset.mem_map.mpr ⟨at4096 ((x 1).val % 4096), Finset.mem_univ _, ?_⟩
    rw [stSl_emb]
    have he : (at4096 ((x 1).val % 4096) 0).val = (x 1).val % 4096 := at4096_val (by omega)
    funext a; apply Fin.ext
    match a with
    | 0 => show wid L / 4 = (x 0).val; omega
    | 1 => show wid L % 4 * 4096 + (at4096 ((x 1).val % 4096) 0).val = (x 1).val; omega

theorem bSl_read (h : k0_cond1 L = 1#1) :
    (bSl L h).view.read (Elt F) fb = row fb ⟨wid L / 4, by have := cond_lt L h; omega⟩ ⟨wid L % 4, by omega⟩ := by
  funext y
  exact congrArg fb (bSl_emb L h y)

/-- What a row holds after the write of the vector `g`, where the vector is the result's row. -/
theorem st_written (h : k0_cond1 L = 1#1) (gs r : S4x16384.Idx → BitVec 32) (g : S4096.Idx → BitVec 32)
    (hg : ∀ y : S4096.Idx, g y = r (ix2 ⟨wid L / 4, by have := cond_lt L h; omega⟩ ⟨wid L % 4 * 4096 + (y 0).val, by have : (y 0).val < 4096 := (y 0).isLt; omega⟩)) :
    ∀ x ∈ mine L, (stSl L h).view.writes (Elt F) gs [⟨Rect.whole S4096, g⟩] x = r x := by
  intro x hx
  rw [← stSl_set L h] at hx
  obtain ⟨y, -, rfl⟩ := Finset.mem_map.mp hx
  have hr := View.read_writes_cons_hit_of_coords (Val := Elt F) (stSl L h).view gs (Rect.whole S4096) g [] y y (fun a => by
    show _ = 0 + 1 * _; omega)
  generalize (stSl L h).view.writes (Elt F) gs [⟨Rect.whole S4096, g⟩] = c at hr ⊢
  have e : (stSl L h).view.read (Elt F) c y = c ((stSl L h).view.emb y) := rfl
  rw [← e, hr, stSl_emb]
  exact hg y

theorem unSl_set (h : k0_cond1 L = 1#1) : (unSl L h).view.set = mine L := stSl_set L h

theorem un_written (h : k0_cond1 L = 1#1) (gs r : S4x16384.Idx → BitVec 32) (g : S4096.Idx → BitVec 32)
    (hg : ∀ y : S4096.Idx, g y = r (ix2 ⟨wid L / 4, by have := cond_lt L h; omega⟩ ⟨wid L % 4 * 4096 + (y 0).val, by have : (y 0).val < 4096 := (y 0).isLt; omega⟩)) :
    ∀ x ∈ mine L, (unSl L h).view.writes (Elt F) gs [⟨Rect.whole S4096, g⟩] x = r x := by
  intro x hx
  rw [← unSl_set L h] at hx
  obtain ⟨y, -, rfl⟩ := Finset.mem_map.mp hx
  have hr := View.read_writes_cons_hit_of_coords (Val := Elt F) (unSl L h).view gs (Rect.whole S4096) g [] y y (fun a => by
    show _ = 0 + 1 * _; omega)
  generalize (unSl L h).view.writes (Elt F) gs [⟨Rect.whole S4096, g⟩] = c at hr ⊢
  have e : (unSl L h).view.read (Elt F) c y = c ((unSl L h).view.emb y) := rfl
  rw [← e, hr, show (unSl L h).view.emb y = _ from stSl_emb L h y]
  exact hg y

theorem st_done (h : k0_cond1 L = 1#1) (gs r : S4x16384.Idx → BitVec 32) (g : S4096.Idx → BitVec 32)
    (hg : ∀ y : S4096.Idx, g y = r (ix2 ⟨wid L / 4, by have := cond_lt L h; omega⟩ ⟨wid L % 4 * 4096 + (y 0).val, by have : (y 0).val < 4096 := (y 0).isLt; omega⟩)) :
    ((stSl L h).view.loc (thr d L) ↦[(stSl L h).view.set]{fullShare} (stSl L h).view.writes (Elt F) gs [⟨Rect.whole S4096, g⟩] : sProp 𝕄)
      = (stLoc d ↦[mine L]{fullShare} r) := by
  rw [stSl_set]; exact pointsTo_congr (st_written (F := F) L h gs r g hg)

theorem un_done (h : k0_cond1 L = 1#1) (gs r : S4x16384.Idx → BitVec 32) (g : S4096.Idx → BitVec 32)
    (hg : ∀ y : S4096.Idx, g y = r (ix2 ⟨wid L / 4, by have := cond_lt L h; omega⟩ ⟨wid L % 4 * 4096 + (y 0).val, by have : (y 0).val < 4096 := (y 0).isLt; omega⟩)) :
    ((unSl L h).view.loc (thr d L) ↦[(unSl L h).view.set]{fullShare} (unSl L h).view.writes (Elt F) gs [⟨Rect.whole S4096, g⟩] : sProp 𝕄)
      = (unLoc d ↦[mine L]{fullShare} r) := by
  rw [unSl_set]; exact pointsTo_congr (un_written (F := F) L h gs r g hg)

omit [FloatOps F] in
theorem sorted_at (b h : Fin 4) {j : ℕ} (hj : j < 4096) (hb : h.val * 4096 + j < 16384) :
    sorted fb (ix2 b ⟨h.val * 4096 + j, hb⟩) = BitVec.ofNat 32 (inv (bkt (row fb b h) h.val) j) := by
  have e1 : hashOf (ix2 b ⟨h.val * 4096 + j, hb⟩) = h := Fin.ext (show (h.val * 4096 + j) / 4096 = h.val by omega)
  unfold sorted
  rw [e1]
  exact congrArg (fun n => BitVec.ofNat 32 (inv (bkt (row fb b h) h.val) n)) (show (h.val * 4096 + j) % 4096 = j by omega)

omit [FloatOps F] in
theorem places_at (b h : Fin 4) {j : ℕ} (hj : j < 4096) (hb : h.val * 4096 + j < 16384) :
    places fb (ix2 b ⟨h.val * 4096 + j, hb⟩) = BitVec.ofNat 32 (rk (bkt (row fb b h) h.val) j + h.val * 4096) := by
  have e1 : hashOf (ix2 b ⟨h.val * 4096 + j, hb⟩) = h := Fin.ext (show (h.val * 4096 + j) / 4096 = h.val by omega)
  unfold places
  rw [e1]
  exact congrArg (fun n => BitVec.ofNat 32 (rk (bkt (row fb b h) h.val) n + h.val * 4096)) (show (h.val * 4096 + j) % 4096 = j by omega)

theorem v31_eq : Scalar.select (Scalar.andi (Scalar.xori (Scalar.cmpi .slt (Scalar.remsi (Scalar.addi (Scalar.muli (BitVec.ofNat 32 (L 1).val) 2#32)
    (BitVec.ofNat 32 (L 0).val)) (Scalar.select (Scalar.cmpi .eq 4#32 0#32) 1#32 4#32)) 0#32) (Scalar.cmpi .slt (Scalar.select (Scalar.cmpi .eq 4#32 0#32) 1#32 4#32) 0#32))
    (Scalar.cmpi .ne (Scalar.remsi (Scalar.addi (Scalar.muli (BitVec.ofNat 32 (L 1).val) 2#32) (BitVec.ofNat 32 (L 0).val))
      (Scalar.select (Scalar.cmpi .eq 4#32 0#32) 1#32 4#32)) 0#32))
    (Scalar.addi (Scalar.remsi (Scalar.addi (Scalar.muli (BitVec.ofNat 32 (L 1).val) 2#32) (BitVec.ofNat 32 (L 0).val))
      (Scalar.select (Scalar.cmpi .eq 4#32 0#32) 1#32 4#32)) (Scalar.select (Scalar.cmpi .eq 4#32 0#32) 1#32 4#32))
    (Scalar.remsi (Scalar.addi (Scalar.muli (BitVec.ofNat 32 (L 1).val) 2#32) (BitVec.ofNat 32 (L 0).val)) (Scalar.select (Scalar.cmpi .eq 4#32 0#32) 1#32 4#32))
    = BitVec.ofNat 32 (wid L % 4) := by
  revert L; decide +kernel

set_option maxHeartbeats 1000000 in
theorem sort_body (hfb : InBuckets fb) (gs gu : S4x16384.Idx → BitVec 32) (hF : (K (F := F)).Facts)
    (O : CellTallies nD τ sig (HIx 3)) (W : Waits sig (HIx 3)) (hO : ∀ g, O g none = 0) :
    iprop(levAts (K (F := F)).L (K (F := F)).lev ∗ emp ∗ sortPart d L q fb gs gu
        ∗ scopedBufs (thr d L) ∗ scopedSems0 (thr d L) ∗ owes (thr d L) O W)
      ⊢ wp frame (wpE (defs₀ (F := F)) 𝒱₀ (thr d L) none) Set.univ
          (cc0_k L bV (Memref.isWhole_whole _) stV (Memref.isWhole_whole _) unV (Memref.isWhole_whole _)
            sBk (Memref.isWhole_whole _) sRk (Memref.isWhole_whole _) sSt (Memref.isWhole_whole _) sUn (Memref.isWhole_whole _)
            sHi (Memref.isWhole_whole _) sOf (Memref.isWhole_whole _) cc0_scoped0 cc0_scoped1 cc0_scoped2)
          fun _ => iprop(sortPart d L q fb (sorted fb) (places fb)
            ∗ scopedBufs (thr d L) ∗ scopedSems0 (thr d L) ∗ ∃ W', ⌜∀ p ∈ W', p ∈ W ∨ p.2 = none⌝ ∗ owes (thr d L) O W') := by
  simp only [cc0_k_eq_skeleton]; unfold cc0_k_skel
  unfold sortPart
  by_cases hL : k0_cond1 L = 1#1
  · simp only [dif_pos hL]
    simp only [k0_part1_eq_skeleton]; unfold k0_part1_skel
    rw [(K (F := F)).scopedBufs_V hF d (cV L) (jV L), SparseCore.Cfg.scopedSems0_V (Val := Elt F) d (cV L) (jV L), sort_sems, sort_bufs]
    iintro ⟨#Hlv, -, ⟨Hb, Hst, Hun⟩, ⟨⟨%f0, Hbk⟩, ⟨%f1, Hrk⟩, ⟨%f2, Hss⟩, ⟨%f3, Hsu⟩, ⟨%f4, Hhi⟩, ⟨%f5, Hof⟩, Hbufs⟩, ⟨Hz0, Hz1, Hz2, Hsems⟩, HO⟩
    ihave Hmw := (show levAts (K (F := F)).L (K (F := F)).lev ⊢ Transfers.MayWaits (thr d L) (default : HIx 3) O from
      (K (F := F)).mayWaits_none (thr := thr d L) hO) $$ Hlv
    ihave Hb := (Entails.of_eq (show (bLoc d ↦{q} fb : sProp 𝕄) = ((bV).view.loc (thr d L) ↦{q} fb) from rfl)) $$ Hb
    ihave Hst := (Entails.of_eq (show (stLoc d ↦[mine L]{fullShare} gs : sProp 𝕄) = ((stSl L hL).view.loc (thr d L) ↦[(stSl L hL).view.set]{fullShare} gs) by
      rw [stSl_set])) $$ Hst
    ihave Hun := (Entails.of_eq (show (unLoc d ↦[mine L]{fullShare} gu : sProp 𝕄) = ((unSl L hL).view.loc (thr d L) ↦[(unSl L hL).view.set]{fullShare} gu) from
      congrArg (fun s => (unLoc d ↦[s]{fullShare} gu : sProp 𝕄)) (stSl_set L hL).symm)) $$ Hun
    sl_exec
    have hv31 : sort_body.sl.v31 L = BitVec.ofNat 32 (wid L % 4) := v31_eq L
    have hv32 : sort_body.sl.v32 L = BitVec.ofNat 32 (wid L % 4 * 64) := by
      unfold sort_body.sl.v32
      rw [BitVec.ofNat_mul]
      exact congrArg (· * 64#32) hv31
    rw [hv31, hv32, show (sort_body.sl.v33) = iotaV from rfl]
    have hbk : View.write (Elt F) (sBk).view f0 (sort_body.sl.dma0 L fb hL) Finset.univ
        = row fb ⟨wid L / 4, by have := cond_lt L hL; omega⟩ ⟨wid L % 4, by omega⟩ :=
      (View.write_whole_univ cc0_scratch0 _ _).trans (bSl_read (F := F) L fb hL)
    rw [hbk]
    have hh : wid L % 4 < 4 := by omega
    have hf := hfb ⟨wid L / 4, by have := cond_lt L hL; omega⟩ ⟨wid L % 4, by omega⟩
    generalize hfr : row fb ⟨wid L / 4, by have := cond_lt L hL; omega⟩ ⟨wid L % 4, by omega⟩ = f at hf ⊢
    sl_for (inv1 d L) $$ [Hhi]
    case region => exact fun k u => trip1 d L hL k u
    · unfold inv1
      iexists f4; isplitr
      · ipureintro; exact fun x hx => absurd hx (by omega)
      · iexact Hhi
    iintro %_ HI
    unfold inv1
    icases HI with ⟨%H, %hH, Hhi⟩
    sl_for (inv2 d L f (wid L % 4)) $$ [Hbk Hrk Hhi]
    case region => exact fun k u => trip2 d L hL f (wid L % 4) hf hh k u
    · unfold inv2
      isplitl [Hbk]; · iexact Hbk
      iexists H, f1; isplitr
      · ipureintro
        exact ⟨fun x hx => (hH x (by have ht : Scf.trips k0_t1_loop.lb k0_t1_loop.ub k0_t1_loop.st = 64 := by decide
                                     rw [ht]; exact hx)).trans (by rw [cnt_zero]), fun j hj => absurd hj (by omega)⟩
      · isplitl [Hhi]; · iexact Hhi
        iexact Hrk
    iintro %_ HI
    unfold inv2
    icases HI with ⟨Hbk, %H', %R, %hHR, Hhi, Hrk⟩
    rw [show Scf.trips k0_t2_loop.lb k0_t2_loop.ub k0_t2_loop.st = 256 from by decide] at hHR
    sl_for (inv3 d L f (wid L % 4) H') $$ [Hhi Hof]
    case region => exact fun k u => trip3 d L hL f (wid L % 4) H' hHR.1 k u
    · unfold inv3
      isplitl [Hhi]; · iexact Hhi
      iexists f5; isplitr
      · ipureintro; exact ⟨by rw [Nat.mul_zero, below_zero], fun x hx => absurd hx (by omega)⟩
      · iexact Hof
    iintro %_ HI
    unfold inv3
    icases HI with ⟨Hhi, %G, %hG, Hof⟩
    rw [show Scf.trips k0_t3_loop.lb k0_t3_loop.ub k0_t3_loop.st = 64 from by decide] at hG
    sl_for (inv4 d L f (wid L % 4) G R) $$ [Hbk Hof Hrk Hss Hsu]
    case region => exact fun k u => trip4 d L hL f (wid L % 4) hf hh G R hG.2 hHR.2 k u
    · unfold inv4
      isplitl [Hbk]; · iexact Hbk
      isplitl [Hof]; · iexact Hof
      isplitl [Hrk]; · iexact Hrk
      iexists f2, f3; isplitr
      · ipureintro; exact ⟨fun s _ hs => absurd hs (by omega), fun s _ hs => absurd hs (by omega)⟩
      · isplitl [Hss]; · iexact Hss
        iexact Hsu
    iintro %_ HI
    unfold inv4
    icases HI with ⟨Hbk, Hof, Hrk, %g, %w, %hgw, Hss, Hsu⟩
    rw [show Scf.trips k0_t4_loop.lb k0_t4_loop.ub k0_t4_loop.st = 256 from by decide] at hgw
    sl_exec
    have hd1 : sort_body.sl.dma0_1 (F := F) g = g := by
      unfold sort_body.sl.dma0_1; exact View.read_whole (Val := Elt F) cc0_scratch2 g
    have hd2 : sort_body.sl.dma0_2 (F := F) w = w := by
      unfold sort_body.sl.dma0_2; exact View.read_whole (Val := Elt F) cc0_scratch3 w
    rw [hd1, hd2]
    sl_step
    have hgs : ∀ y : S4096.Idx, g y = sorted fb (ix2 ⟨wid L / 4, by have := cond_lt L hL; omega⟩
        ⟨wid L % 4 * 4096 + (y 0).val, by have : (y 0).val < 4096 := (y 0).isLt; omega⟩) := fun y => by
      have hy : (y 0).val < 4096 := (y 0).isLt
      refine Eq.trans ?_ (sorted_at fb ⟨wid L / 4, by have := cond_lt L hL; omega⟩ ⟨wid L % 4, hh⟩ hy _).symm
      have := hgw.1 _ (inv_lt (bkt f (wid L % 4)) (y 0).val) (by omega)
      rw [rk_inv _ hy] at this
      rw [hfr, ← this]
      exact congrArg g (eq_at4096 y rfl)
    have hws : ∀ y : S4096.Idx, w y = places fb (ix2 ⟨wid L / 4, by have := cond_lt L hL; omega⟩
        ⟨wid L % 4 * 4096 + (y 0).val, by have : (y 0).val < 4096 := (y 0).isLt; omega⟩) := fun y => by
      have hy : (y 0).val < 4096 := (y 0).isLt
      refine Eq.trans ?_ (places_at fb ⟨wid L / 4, by have := cond_lt L hL; omega⟩ ⟨wid L % 4, hh⟩ hy _).symm
      rw [hfr, ← hgw.2 _ hy (by omega)]
      exact congrArg w (eq_at4096 y rfl)
    isplitl [Hb Hst Hun]
    · isplitl [Hb]; · iexact Hb
      isplitl [Hst]
      · iapply (Entails.of_eq (st_done (F := F) d L hL gs (sorted fb) g hgs)) $$ Hst
      · iapply (Entails.of_eq (un_done (F := F) d L hL gu (places fb) w hws)) $$ Hun
    isplitl [Hbk Hrk Hss Hsu Hhi Hof Hbufs]
    · isplitl [Hbk]; · iexists _; iexact Hbk
      isplitl [Hrk]; · iexists _; iexact Hrk
      isplitl [Hss]; · iexists _; iexact Hss
      isplitl [Hsu]; · iexists _; iexact Hsu
      isplitl [Hhi]; · iexists _; iexact Hhi
      isplitl [Hof]; · iexists _; iexact Hof
      iexact Hbufs
    isplitl [Hz0 Hz1 Hz2 Hsems]
    · isplitl [Hz0]; · iexact Hz0
      isplitl [Hz1]; · iexact Hz1
      isplitl [Hz2]; · iexact Hz2
      iexact Hsems
    iexists (insert (SemLoc.dma cc0_scoped2.sem, (default : HIx 3)) (insert (SemLoc.dma cc0_scoped1.sem, (default : HIx 3)) (insert (SemLoc.dma cc0_scoped0.sem, (default : HIx 3)) W)))
    isplitr [HO]
    · ipureintro
      intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact .inl hp
    iexact HO
  · simp only [dif_neg hL]
    iintro ⟨-, -, ⟨Hb, Hst, Hun⟩, Hbufs, Hsems, HO⟩
    have hm : ∀ x ∉ (∅ : Finset S4x16384.Idx), x ∉ mine L := fun x _ hx => by
      have h := (mem_mine L x).mp hx
      have := cond_ge L hL
      have : (x 0).val < 4 := (x 0).isLt; have : (x 1).val < 16384 := (x 1).isLt
      unfold own at h; omega
    sl_step
    isplitl [Hb Hst Hun]
    · isplitl [Hb]; · iexact Hb
      isplitl [Hst]
      · iapply (Entails.of_eq (pointsTo_congr (f := gs) (g := sorted fb) fun x hx => absurd hx (hm x (Finset.notMem_empty x)))) $$ Hst
      · iapply (Entails.of_eq (pointsTo_congr (f := gu) (g := places fb) fun x hx => absurd hx (hm x (Finset.notMem_empty x)))) $$ Hun
    isplitl [Hbufs]; · iexact Hbufs
    isplitl [Hsems]; · iexact Hsems
    iexists W
    isplitr [HO]
    · ipureintro; exact fun p hp => .inl hp
    iexact HO

end Tile

end Cert.Proof.Rows

end
-- ==== Proof.Gather1.lean ====
/-
  One vector subcore's task of the first row gather: sixteen trips, each fetching 128 words of the index list, gathering the rows they
  name from the table and writing them out to the task's own 128 rows of the result.
-/
module

public import proofs.«01_k».proof.Proof.Setup

@[expose] public section

noncomputable section

namespace Cert.Proof.Rows.First

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-- The table, the index list and the result, as locations of device `d`. -/
abbrev tLoc (d : Dev nD) : Loc nD τ sig := (SparseCore.T d).loc main_v8
abbrev iLoc (d : Dev nD) : Loc nD τ sig := (SparseCore.T d).loc main_v7
abbrev oLoc (d : Dev nD) : Loc nD τ sig := (SparseCore.T d).loc main_v9

abbrev tV : Memref sig .scVector .hbm S16384x128 .f32 := Memref.whole main_v8_scv
abbrev iV : Memref sig .scVector .hbm S65536 .i32 := Memref.whole main_v7_scv
abbrev oV : Memref sig .scVector .hbm S65536x128 .f32 := Memref.whole main_v9_scv
abbrev sI : Memref sig .scVector .vmem S128 .i32 := Memref.whole cc1_scratch0
abbrev sR : Memref sig .scVector .vmem S128x128 .f32 := Memref.whole cc1_scratch1

/-- The index list names rows of the table. -/
def InRange (f : S65536.Idx → BitVec 32) : Prop := ∀ j, (f j).toNat < 16384

/-- The gathered array: row `r` is the table's row the list's word `r` names (counted modulo the table's 16384 rows). -/
def gath (ft : S16384x128.Idx → F .f32) (fi : S65536.Idx → BitVec 32) : S65536x128.Idx → F .f32 :=
  fun x => ft (fun a => match a with
    | 0 => ⟨(fi (fun b => match b with | 0 => x 0)).toNat % 16384, Nat.mod_lt _ (by decide)⟩
    | 1 => x 1)

theorem hdiv : 32 ∣ S65536x128.size 0 := ⟨2048, rfl⟩

section Tile

variable (d : Dev nD) (L : grid0.Coords)

/-- The rows task `L` writes. -/
abbrev oRect (L : grid0.Coords) : Rect S65536x128 :=
  Rect.unit (s := S65536x128) ![4096 * (L 1).val + 2048 * (L 0).val, 0] ![2048, 128] (by
    intro a; have h1 : (L 1).val < 16 := (L 1).isLt; have h0 : (L 0).val < 2 := (L 0).isLt
    fin_cases a <;> simp <;> omega)

variable (q : PosShare TreeShare) (ft : S16384x128.Idx → F .f32) (fi : S65536.Idx → BitVec 32)

/-- The rows of task `L`, by their numbers. -/
theorem mem_rows (x : S65536x128.Idx) : x ∈ (oV).view.setOn (oRect L).set
    ↔ 4096 * (L 1).val + 2048 * (L 0).val ≤ (x 0).val ∧ (x 0).val < 4096 * (L 1).val + 2048 * (L 0).val + 2048 := by
  have e : (oV).view.setOn (oRect L).set = (oRect L).set := Finset.map_refl
  rw [e, Rect.mem_set_unit]
  constructor
  · exact fun h => h 0
  · intro h a
    match a with
    | 0 => exact h
    | 1 => exact ⟨Nat.zero_le _, by show (x 1).val < 0 + 128; have := (x 1).isLt; simpa using this⟩

/-- The loop's invariant: before trip `k` the result's first `128 k` rows of the task are gathered. -/
def inv (O : CellTallies nD τ sig (HIx 3)) (W : Waits sig (HIx 3)) (k : Nat) (_ : Unit) : sProp 𝕄 :=
  iprop(Transfers.MayWaits (thr d L) (default : HIx 3) O
    ∗ ((tV).view.loc (thr d L) ↦{q} ft) ∗ ((iV).view.loc (thr d L) ↦{q} fi)
    ∗ (∃ fs, (sI).view.loc (thr d L) ↦{fullShare} fs) ∗ (∃ fr, (sR).view.loc (thr d L) ↦{fullShare} fr)
    ∗ (∃ fo, ⌜∀ x : S65536x128.Idx, 4096 * (L 1).val + 2048 * (L 0).val ≤ (x 0).val → (x 0).val < 4096 * (L 1).val + 2048 * (L 0).val + 128 * k → fo x = gath ft fi x⌝
        ∗ (oV).view.loc (thr d L) ↦[(oV).view.setOn (oRect L).set]{fullShare} fo)
    ∗ semVal (thr d L, SemLoc.dma cc1_scoped0.sem) 0 ∗ semVal (thr d L, SemLoc.dma cc1_scoped1.sem) 0 ∗ semVal (thr d L, SemLoc.dma cc1_scratch2.sem) 0
    ∗ ∃ W', ⌜∀ p ∈ W', p ∈ W ∨ p.2 = none⌝ ∗ owes (thr d L) O W')

variable [FloatOps F]

set_option maxHeartbeats 1000000 in
theorem trip (hfi : InRange fi) (O : CellTallies nD τ sig (HIx 3)) (W : Waits sig (HIx 3)) (k : Fin k1_t1_loop.trips) (u : Unit) :
    inv d L q ft fi O W k.val u
      ⊢ wp frame (wpE (defs₀ (F := F)) 𝒱₀ (thr d L) none) Set.univ
          (k1_t1_body L tV (Memref.isWhole_whole _) iV (Memref.isWhole_whole _) oV (Memref.isWhole_whole _)
            sI (Memref.isWhole_whole _) sR (Memref.isWhole_whole _) cc1_scratch2 cc1_scoped0 cc1_scoped1 k u)
          fun u' => inv d L q ft fi O W (k.val + 1) u' := by
  have hk : k.val < 16 := Nat.lt_of_lt_of_le k.isLt k1_t1_abs.2.1
  have h1 : (L 1).val < 16 := (L 1).isLt
  have h0 : (L 0).val < 2 := (L 0).isLt
  unfold inv k1_t1_body
  iintro ⟨Hmw, Ht, Hi, ⟨%fs, Hs⟩, ⟨%fr, Hr⟩, ⟨%fo, %hfo, Ho⟩, Hz0, Hz1, Hz2, %W', %hW', HO⟩
  sl_exec
  have hin : ∀ x, ((sI).view.read (Elt F) ((sI).view.write (Elt F) fs (trip.sl.dma0 L fi k) Finset.univ) x).toNat < S16384x128.size gathers_S16384x128_S128x128.axis := by
    intro x
    unfold trip.sl.dma0
    rw [View.write_whole_univ]
    exact hfi _
  sl_exec
  sl_step
  isplitl [Hmw]; · iexact Hmw
  isplitl [Ht]; · iexact Ht
  isplitl [Hi]; · iexact Hi
  isplitl [Hs]; · iexists _; iexact Hs
  isplitl [Hr]; · iexists _; iexact Hr
  isplitl [Ho]
  · iexists (trip.sl.Ho_w1 d L ft fi k fs fr fo hin)
    isplitr [Ho]
    · ipureintro
      intro x hlo hhi
      unfold trip.sl.Ho_w1
      by_cases hx : 4096 * (L 1).val + 2048 * (L 0).val + 128 * k.val ≤ (x 0).val
      · obtain ⟨y, hy, hy0, hy1⟩ : ∃ y : S128x128.Idx, ((oV).slice (Rect.unit (s := S65536x128) (k1_off2 L k) S128x128.size (k1_off2_inb L k)) (fun _ => rfl)).view.emb y = x
            ∧ (y 0).val = (x 0).val - (4096 * (L 1).val + 2048 * (L 0).val + 128 * k.val) ∧ (y 1).val = (x 1).val := by
          refine ⟨fun a => match a with | 0 => ⟨(x 0).val - (4096 * (L 1).val + 2048 * (L 0).val + 128 * k.val), ?_⟩ | 1 => x 1, ?_, rfl, rfl⟩
          · show _ < 128; omega
          · funext a; apply Fin.ext
            have h2 := k1_off2_eq L k
            have h20 : k1_off2 L k 0 = 4096 * (L 1).val + 2048 * (L 0).val + 128 * k.val := congrFun h2 0
            have h21 : k1_off2 L k 1 = 0 := congrFun h2 1
            match a with
            | 0 => show k1_off2 L k 0 + 1 * ((x 0).val - _) = (x 0).val; omega
            | 1 => show k1_off2 L k 1 + 1 * (x 1).val = (x 1).val; omega
        conv_lhs => rw [← hy]
        rw [View.write_emb_of_mem _ _ (Finset.mem_univ _)]
        unfold trip.sl.dma0_1 trip.sl.gather0 trip.sl.dma0
        refine (cast_eq _ _).trans ((View.read_writes_cons_hit_of_coords (sR).view fr (Rect.whole S128x128) _ [] y y
          (fun a => by show _ = 0 + 1 * _; omega)).trans ?_)
        unfold SparseCore.gatherPayload gath
        show ft _ = ft _
        refine congrArg ft (funext fun a => Fin.ext ?_)
        match a with
        | 0 =>
          refine (show _ = 0 + 1 * _ from rfl).trans ?_
          rw [Nat.zero_add, Nat.one_mul]
          refine (congrArg Fin.val (Shape.Gathers.idx_axis gathers_S16384x128_S128x128 _ y)).trans ?_
          show BitVec.toNat (View.read (Elt F) (sI).view (View.write (Elt F) (sI).view fs _ Finset.univ) _) = BitVec.toNat (fi _) % 16384
          rw [View.write_whole_univ, Nat.mod_eq_of_lt (hfi _)]
          show BitVec.toNat (fi _) = BitVec.toNat (fi _)
          refine congrArg (fun z => BitVec.toNat (fi z)) (funext fun b => Fin.ext ?_)
          match b with
          | 0 =>
            have h5 : k1_off1 L k 0 = 4096 * (L 1).val + 2048 * (L 0).val + 128 * k.val := congrFun (k1_off1_eq L k) 0
            have h6 : (S128.rowMajor.symm (Fin.cast rfl (y 0)) 0).val = (y 0).val := by
              rw [← Shape.rowMajor_val_one, Equiv.apply_symm_apply]; rfl
            show k1_off1 L k 0 + 1 * (S128.rowMajor.symm (Fin.cast rfl (y 0)) 0).val = (x 0).val
            omega
        | 1 =>
          refine (show _ = 0 + 1 * _ from rfl).trans ?_
          rw [Nat.zero_add, Nat.one_mul]
          exact (Shape.Gathers.idx_of_ne gathers_S16384x128_S128x128 _ y 1 (by decide)).trans hy1
      · rw [View.write_of_not_mem]
        · exact hfo x hlo (by omega)
        · rw [View.setOn_univ]
          intro hm
          obtain ⟨y, -, hy⟩ := Finset.mem_map.mp hm
          have h2 := k1_off2_eq L k
          have h3 : k1_off2 L k 0 + 1 * (y 0).val = (x 0).val := congrArg (fun z : S65536x128.Idx => (z 0).val) hy
          have h4 : k1_off2 L k 0 = 4096 * (L 1).val + 2048 * (L 0).val + 128 * k.val := congrFun h2 0
          omega
    iexact Ho
  isplitl [Hz0]; · iexact Hz0
  isplitl [Hz1]; · iexact Hz1
  isplitl [Hz2]; · iexact Hz2
  iexists (insert (SemLoc.dma cc1_scoped1.sem, (default : HIx 3)) (insert (SemLoc.dma cc1_scratch2.sem, (default : HIx 3)) (insert (SemLoc.dma cc1_scoped0.sem, (default : HIx 3)) W')))
  isplitr [HO]
  · ipureintro
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iexact HO

/-! ### What the subcore owns at its call -/

abbrev g0 (d : Dev nD) (L : grid0.Coords) : GSem nD τ sig := (thr d L, .dma cc1_scoped0.sem)
abbrev g1 (d : Dev nD) (L : grid0.Coords) : GSem nD τ sig := (thr d L, .dma cc1_scoped1.sem)
abbrev g2 (d : Dev nD) (L : grid0.Coords) : GSem nD τ sig := (thr d L, .dma cc1_scratch2.sem)

omit [FloatOps F] in
/-- The three semaphores of the task are among the subcore's own. -/
theorem sems_split :
    (ownSems0 (thr d L) : sProp 𝕄)
      = iprop(semVal (g0 d L) 0 ∗ semVal (g1 d L) 0 ∗ semVal (g2 d L) 0
          ∗ bigSep ((((ownCells (thr d L)).erase (g0 d L)).erase (g1 d L)).erase (g2 d L)) fun g => semVal g 0) := by
  have hm : ∀ s : DmaSem sig, (SemLoc.dma s : SemLoc sig).isScoped .scVector = true → ((thr d L, SemLoc.dma s) : GSem nD τ sig) ∈ ownCells (thr d L) :=
    fun s h => (mem_ownCells (g := (thr d L, SemLoc.dma s))).mpr ⟨rfl, h⟩
  unfold SparseCore.Cfg.ownSems0
  rw [SparseCore.bigSep_erase' (hm cc1_scoped0.sem (by decide)),
    SparseCore.bigSep_erase' (Finset.mem_erase.mpr ⟨by simp; decide, hm cc1_scoped1.sem (by decide)⟩),
    SparseCore.bigSep_erase' (Finset.mem_erase.mpr ⟨by simp; decide, Finset.mem_erase.mpr ⟨by simp; decide, hm cc1_scratch2.sem (by decide)⟩⟩)]

abbrev b0 (L : grid0.Coords) : DevRef τ sig := (Proc.scVector (cV L) (jV L)).devRef cc1_scratch0
abbrev b1 (L : grid0.Coords) : DevRef τ sig := (Proc.scVector (cV L) (jV L)).devRef cc1_scratch1

omit [FloatOps F] in
/-- The two buffers of the task are among the subcore's own. -/
theorem bufs_split :
    (ownBufs (thr d L) : sProp 𝕄)
      = iprop((∃ f, (sI).view.loc (thr d L) ↦{fullShare} f) ∗ (∃ f, (sR).view.loc (thr d L) ↦{fullShare} f)
          ∗ bigSep (((ownRefs (τ := τ) (.scVector (cV L) (jV L))).erase (b0 L)).erase (b1 L))
              fun b => iprop(∃ f, ((d, b) : Loc nD τ sig) ↦{fullShare} f)) := by
  have hm : ∀ r : Ref sig .scVector, r = cc1_scratch0 ∨ r = cc1_scratch1 →
      (Proc.scVector (cV L) (jV L)).devRef r ∈ ownRefs (τ := τ) (sig := sig) (.scVector (cV L) (jV L)) := by
    rintro r (rfl | rfl) <;> exact SparseCore.Cfg.mem_ownRefs_of_owner (p := Proc.scVector (cV L) (jV L)) rfl
  unfold SparseCore.Cfg.ownBufs
  refine (SparseCore.bigSep_erase' (hm cc1_scratch0 (.inl rfl))).trans ?_
  rw [SparseCore.bigSep_erase' (Finset.mem_erase.mpr
    ⟨fun e => absurd (Proc.devRef_injective _ e) (show (cc1_scratch1 : Ref sig .scVector) ≠ cc1_scratch0 by decide), hm cc1_scratch1 (.inr rfl)⟩)]

/-- The task's part of the call: shares of the table and of the list, and its rows of the result outright. -/
def part (fo : S65536x128.Idx → F .f32) : sProp 𝕄 :=
  iprop((tLoc d ↦{q} ft) ∗ (iLoc d ↦{q} fi) ∗ oLoc d ↦[(oV).view.setOn (oRect L).set]{fullShare} fo)

/-- The task: from its part at the result's contents `fo` to its part at the gathered array. -/
theorem tile_body (hfi : InRange fi) (fo : S65536x128.Idx → F .f32) (hF : (K (F := F)).Facts)
    (O : CellTallies nD τ sig (HIx 3)) (W : Waits sig (HIx 3)) (hO : ∀ g, O g none = 0) :
    iprop(levAts (K (F := F)).L (K (F := F)).lev ∗ emp ∗ part d L q ft fi fo
        ∗ scopedBufs (thr d L) ∗ scopedSems0 (thr d L) ∗ owes (thr d L) O W)
      ⊢ wp frame (wpE (defs₀ (F := F)) 𝒱₀ (thr d L) none) Set.univ
          (cc1_k L tV (Memref.isWhole_whole _) iV (Memref.isWhole_whole _) oV (Memref.isWhole_whole _)
            sI (Memref.isWhole_whole _) sR (Memref.isWhole_whole _) cc1_scratch2 cc1_scoped0 cc1_scoped1)
          fun _ => iprop(part d L q ft fi (gath ft fi)
            ∗ scopedBufs (thr d L) ∗ scopedSems0 (thr d L) ∗ ∃ W', ⌜∀ p ∈ W', p ∈ W ∨ p.2 = none⌝ ∗ owes (thr d L) O W') := by
  simp only [cc1_k_eq_skeleton]; unfold cc1_k_skel
  unfold part
  rw [(K (F := F)).scopedBufs_V hF d (cV L) (jV L), SparseCore.Cfg.scopedSems0_V (Val := Elt F) d (cV L) (jV L), sems_split, bufs_split]
  iintro ⟨#Hlv, -, ⟨Ht, Hi, Ho⟩, ⟨Hs, Hr, Hbufs⟩, ⟨Hz0, Hz1, Hz2, Hsems⟩, HO⟩
  ihave Hmw := (show levAts (K (F := F)).L (K (F := F)).lev ⊢ Transfers.MayWaits (thr d L) (default : HIx 3) O from
    (K (F := F)).mayWaits_none (thr := thr d L) hO) $$ Hlv
  sl_for (inv d L q ft fi O W) $$ [Hmw Ht Hi Ho Hs Hr Hz0 Hz1 Hz2 HO]
  case region => exact fun k u => trip d L q ft fi hfi O W k u
  · unfold inv
    isplitl [Hmw]; · iexact Hmw
    isplitl [Ht]; · iexact Ht
    isplitl [Hi]; · iexact Hi
    isplitl [Hs]; · iexact Hs
    isplitl [Hr]; · iexact Hr
    isplitl [Ho]
    · iexists fo; isplitr
      · ipureintro; exact fun x h h' => absurd h (by omega)
      · iexact Ho
    isplitl [Hz0]; · iexact Hz0
    isplitl [Hz1]; · iexact Hz1
    isplitl [Hz2]; · iexact Hz2
    iexists W; isplitr
    · ipureintro; exact fun p hp => .inl hp
    · iexact HO
  iintro %_ HI
  unfold inv
  icases HI with ⟨-, Ht, Hi, Hs, Hr, ⟨%fo', %hfo', Ho⟩, Hz0, Hz1, Hz2, HW⟩
  sl_step
  isplitl [Ht Hi Ho]
  · isplitl [Ht]; · iexact Ht
    isplitl [Hi]; · iexact Hi
    iapply (Entails.of_eq (pointsTo_congr (f := fo') (g := gath ft fi) (fun x hx => ?_))) $$ Ho
    have h := (mem_rows L x).mp hx
    have ht : Scf.trips k1_t1_loop.lb k1_t1_loop.ub k1_t1_loop.st = 16 := by decide
    exact hfo' x h.1 (by rw [ht]; omega)
  isplitl [Hs Hr Hbufs]
  · isplitl [Hs]; · iexact Hs
    isplitl [Hr]; · iexact Hr
    iexact Hbufs
  isplitl [Hz0 Hz1 Hz2 Hsems]
  · isplitl [Hz0]; · iexact Hz0
    isplitl [Hz1]; · iexact Hz1
    isplitl [Hz2]; · iexact Hz2
    iexact Hsems
  iexact HW

end Tile

/-- The task's rows are the elements whose row number, by 2048, is the task's. -/
theorem rows_eq (L : grid0.Coords) : (oV).view.setOn (oRect L).set = Finset.univ.filter fun x : S65536x128.Idx => (x 0).val / 2048 = wid L := by
  ext x
  refine (mem_rows L x).trans ((show _ ↔ _ from ?_).trans (Finset.mem_filter.trans (and_iff_right (Finset.mem_univ x))).symm)
  have hw : wid L = 2 * (L 1).val + (L 0).val := rfl
  rw [hw]
  constructor <;> intro h <;> omega

/-- The result held outright is the tasks' rows. -/
theorem deal_rows (d : Dev nD) (f : Buf (Elt F) (oLoc d)) :
    (oLoc d ↦{fullShare} f : sProp 𝕄) = bigSep Finset.univ fun c : Fin 2 => bigSep Finset.univ fun s : Fin 16 =>
      oLoc d ↦[(oV).view.setOn (oRect (at2 c s)).set]{fullShare} f :=
  (deal_sets (ℓ := oLoc d) f (fun x : S65536x128.Idx => (x 0).val / 2048) (fun x => by have : (x 0).val < 65536 := (x 0).isLt; omega)).trans
    (bigSep_congr fun c _ => bigSep_congr fun s _ => congrArg (fun S : Finset S65536x128.Idx => (oLoc d ↦[S]{fullShare} f : sProp 𝕄)) (rows_eq (at2 c s)).symm)

/-- The three arrays of the call are the thirty-two tasks' parts. -/
theorem deal (d : Dev nD) (ft : S16384x128.Idx → F .f32) (fi : S65536.Idx → BitVec 32) (fo : S65536x128.Idx → F .f32) :
    (iprop((tLoc d ↦{fullShare} ft) ∗ (iLoc d ↦{fullShare} fi) ∗ oLoc d ↦{fullShare} fo) : sProp 𝕄)
      = bigSep Finset.univ fun c : Fin 2 => bigSep Finset.univ fun s : Fin 16 => part d (at2 c s) (sh c s) ft fi fo := by
  unfold part
  rw [deal_shares (ℓ := tLoc d), deal_shares (ℓ := iLoc d), deal_rows]
  simp only [bigSep_sep']

instance part_storable (d : Dev nD) (L : grid0.Coords) (q : PosShare TreeShare) (ft : S16384x128.Idx → F .f32) (fi : S65536.Idx → BitVec 32)
    (fo : S65536x128.Idx → F .f32) : Storable (upEmb : UEmb _ 𝕄) (part d L q ft fi fo) := by unfold part; infer_instance

end Cert.Proof.Rows.First

end
-- ==== Proof.Gather2.lean ====
/-
  One vector subcore's task of the second row gather: sixteen trips, each fetching 128 words of the index list, gathering the rows they
  name from the table and writing them out to the task's own 128 rows of the result.
-/
module

public import proofs.«01_k».proof.Proof.Setup

@[expose] public section

noncomputable section

namespace Cert.Proof.Rows.Second

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-- The table, the index list and the result, as locations of device `d`. -/
abbrev tLoc (d : Dev nD) : Loc nD τ sig := (SparseCore.T d).loc main_v17
abbrev iLoc (d : Dev nD) : Loc nD τ sig := (SparseCore.T d).loc main_v16
abbrev oLoc (d : Dev nD) : Loc nD τ sig := (SparseCore.T d).loc main_v18

abbrev tV : Memref sig .scVector .hbm S65536x128 .f32 := Memref.whole main_v17_scv
abbrev iV : Memref sig .scVector .hbm S65536 .i32 := Memref.whole main_v16_scv
abbrev oV : Memref sig .scVector .hbm S65536x128 .f32 := Memref.whole main_v18_scv
abbrev sI : Memref sig .scVector .vmem S128 .i32 := Memref.whole cc2_scratch0
abbrev sR : Memref sig .scVector .vmem S128x128 .f32 := Memref.whole cc2_scratch1

/-- The index list names rows of the table. -/
def InRange (f : S65536.Idx → BitVec 32) : Prop := ∀ j, (f j).toNat < 65536

/-- The gathered array: row `r` is the table's row the list's word `r` names (counted modulo the table's 65536 rows). -/
def gath (ft : S65536x128.Idx → F .f32) (fi : S65536.Idx → BitVec 32) : S65536x128.Idx → F .f32 :=
  fun x => ft (fun a => match a with
    | 0 => ⟨(fi (fun b => match b with | 0 => x 0)).toNat % 65536, Nat.mod_lt _ (by decide)⟩
    | 1 => x 1)

theorem hdiv : 32 ∣ S65536x128.size 0 := ⟨2048, rfl⟩

section Tile

variable (d : Dev nD) (L : grid0.Coords)

/-- The rows task `L` writes. -/
abbrev oRect (L : grid0.Coords) : Rect S65536x128 :=
  Rect.unit (s := S65536x128) ![4096 * (L 1).val + 2048 * (L 0).val, 0] ![2048, 128] (by
    intro a; have h1 : (L 1).val < 16 := (L 1).isLt; have h0 : (L 0).val < 2 := (L 0).isLt
    fin_cases a <;> simp <;> omega)

variable (q : PosShare TreeShare) (ft : S65536x128.Idx → F .f32) (fi : S65536.Idx → BitVec 32)

/-- The rows of task `L`, by their numbers. -/
theorem mem_rows (x : S65536x128.Idx) : x ∈ (oV).view.setOn (oRect L).set
    ↔ 4096 * (L 1).val + 2048 * (L 0).val ≤ (x 0).val ∧ (x 0).val < 4096 * (L 1).val + 2048 * (L 0).val + 2048 := by
  have e : (oV).view.setOn (oRect L).set = (oRect L).set := Finset.map_refl
  rw [e, Rect.mem_set_unit]
  constructor
  · exact fun h => h 0
  · intro h a
    match a with
    | 0 => exact h
    | 1 => exact ⟨Nat.zero_le _, by show (x 1).val < 0 + 128; have := (x 1).isLt; simpa using this⟩

/-- The loop's invariant: before trip `k` the result's first `128 k` rows of the task are gathered. -/
def inv (O : CellTallies nD τ sig (HIx 3)) (W : Waits sig (HIx 3)) (k : Nat) (_ : Unit) : sProp 𝕄 :=
  iprop(Transfers.MayWaits (thr d L) (default : HIx 3) O
    ∗ ((tV).view.loc (thr d L) ↦{q} ft) ∗ ((iV).view.loc (thr d L) ↦{q} fi)
    ∗ (∃ fs, (sI).view.loc (thr d L) ↦{fullShare} fs) ∗ (∃ fr, (sR).view.loc (thr d L) ↦{fullShare} fr)
    ∗ (∃ fo, ⌜∀ x : S65536x128.Idx, 4096 * (L 1).val + 2048 * (L 0).val ≤ (x 0).val → (x 0).val < 4096 * (L 1).val + 2048 * (L 0).val + 128 * k → fo x = gath ft fi x⌝
        ∗ (oV).view.loc (thr d L) ↦[(oV).view.setOn (oRect L).set]{fullShare} fo)
    ∗ semVal (thr d L, SemLoc.dma cc2_scoped0.sem) 0 ∗ semVal (thr d L, SemLoc.dma cc2_scoped1.sem) 0 ∗ semVal (thr d L, SemLoc.dma cc2_scratch2.sem) 0
    ∗ ∃ W', ⌜∀ p ∈ W', p ∈ W ∨ p.2 = none⌝ ∗ owes (thr d L) O W')

variable [FloatOps F]

set_option maxHeartbeats 1000000 in
theorem trip (hfi : InRange fi) (O : CellTallies nD τ sig (HIx 3)) (W : Waits sig (HIx 3)) (k : Fin k2_t1_loop.trips) (u : Unit) :
    inv d L q ft fi O W k.val u
      ⊢ wp frame (wpE (defs₀ (F := F)) 𝒱₀ (thr d L) none) Set.univ
          (k2_t1_body L tV (Memref.isWhole_whole _) iV (Memref.isWhole_whole _) oV (Memref.isWhole_whole _)
            sI (Memref.isWhole_whole _) sR (Memref.isWhole_whole _) cc2_scratch2 cc2_scoped0 cc2_scoped1 k u)
          fun u' => inv d L q ft fi O W (k.val + 1) u' := by
  have hk : k.val < 16 := Nat.lt_of_lt_of_le k.isLt k2_t1_abs.2.1
  have h1 : (L 1).val < 16 := (L 1).isLt
  have h0 : (L 0).val < 2 := (L 0).isLt
  unfold inv k2_t1_body
  iintro ⟨Hmw, Ht, Hi, ⟨%fs, Hs⟩, ⟨%fr, Hr⟩, ⟨%fo, %hfo, Ho⟩, Hz0, Hz1, Hz2, %W', %hW', HO⟩
  sl_exec
  have hin : ∀ x, ((sI).view.read (Elt F) ((sI).view.write (Elt F) fs (trip.sl.dma0 L fi k) Finset.univ) x).toNat < S65536x128.size gathers_S65536x128_S128x128.axis := by
    intro x
    unfold trip.sl.dma0
    rw [View.write_whole_univ]
    exact hfi _
  sl_exec
  sl_step
  isplitl [Hmw]; · iexact Hmw
  isplitl [Ht]; · iexact Ht
  isplitl [Hi]; · iexact Hi
  isplitl [Hs]; · iexists _; iexact Hs
  isplitl [Hr]; · iexists _; iexact Hr
  isplitl [Ho]
  · iexists (trip.sl.Ho_w1 d L ft fi k fs fr fo hin)
    isplitr [Ho]
    · ipureintro
      intro x hlo hhi
      unfold trip.sl.Ho_w1
      by_cases hx : 4096 * (L 1).val + 2048 * (L 0).val + 128 * k.val ≤ (x 0).val
      · obtain ⟨y, hy, hy0, hy1⟩ : ∃ y : S128x128.Idx, ((oV).slice (Rect.unit (s := S65536x128) (k2_off2 L k) S128x128.size (k2_off2_inb L k)) (fun _ => rfl)).view.emb y = x
            ∧ (y 0).val = (x 0).val - (4096 * (L 1).val + 2048 * (L 0).val + 128 * k.val) ∧ (y 1).val = (x 1).val := by
          refine ⟨fun a => match a with | 0 => ⟨(x 0).val - (4096 * (L 1).val + 2048 * (L 0).val + 128 * k.val), ?_⟩ | 1 => x 1, ?_, rfl, rfl⟩
          · show _ < 128; omega
          · funext a; apply Fin.ext
            have h2 := k2_off2_eq L k
            have h20 : k2_off2 L k 0 = 4096 * (L 1).val + 2048 * (L 0).val + 128 * k.val := congrFun h2 0
            have h21 : k2_off2 L k 1 = 0 := congrFun h2 1
            match a with
            | 0 => show k2_off2 L k 0 + 1 * ((x 0).val - _) = (x 0).val; omega
            | 1 => show k2_off2 L k 1 + 1 * (x 1).val = (x 1).val; omega
        conv_lhs => rw [← hy]
        rw [View.write_emb_of_mem _ _ (Finset.mem_univ _)]
        unfold trip.sl.dma0_1 trip.sl.gather0 trip.sl.dma0
        refine (cast_eq _ _).trans ((View.read_writes_cons_hit_of_coords (sR).view fr (Rect.whole S128x128) _ [] y y
          (fun a => by show _ = 0 + 1 * _; omega)).trans ?_)
        unfold SparseCore.gatherPayload gath
        show ft _ = ft _
        refine congrArg ft (funext fun a => Fin.ext ?_)
        match a with
        | 0 =>
          refine (show _ = 0 + 1 * _ from rfl).trans ?_
          rw [Nat.zero_add, Nat.one_mul]
          refine (congrArg Fin.val (Shape.Gathers.idx_axis gathers_S65536x128_S128x128 _ y)).trans ?_
          show BitVec.toNat (View.read (Elt F) (sI).view (View.write (Elt F) (sI).view fs _ Finset.univ) _) = BitVec.toNat (fi _) % 65536
          rw [View.write_whole_univ, Nat.mod_eq_of_lt (hfi _)]
          show BitVec.toNat (fi _) = BitVec.toNat (fi _)
          refine congrArg (fun z => BitVec.toNat (fi z)) (funext fun b => Fin.ext ?_)
          match b with
          | 0 =>
            have h5 : k2_off1 L k 0 = 4096 * (L 1).val + 2048 * (L 0).val + 128 * k.val := congrFun (k2_off1_eq L k) 0
            have h6 : (S128.rowMajor.symm (Fin.cast rfl (y 0)) 0).val = (y 0).val := by
              rw [← Shape.rowMajor_val_one, Equiv.apply_symm_apply]; rfl
            show k2_off1 L k 0 + 1 * (S128.rowMajor.symm (Fin.cast rfl (y 0)) 0).val = (x 0).val
            omega
        | 1 =>
          refine (show _ = 0 + 1 * _ from rfl).trans ?_
          rw [Nat.zero_add, Nat.one_mul]
          exact (Shape.Gathers.idx_of_ne gathers_S65536x128_S128x128 _ y 1 (by decide)).trans hy1
      · rw [View.write_of_not_mem]
        · exact hfo x hlo (by omega)
        · rw [View.setOn_univ]
          intro hm
          obtain ⟨y, -, hy⟩ := Finset.mem_map.mp hm
          have h2 := k2_off2_eq L k
          have h3 : k2_off2 L k 0 + 1 * (y 0).val = (x 0).val := congrArg (fun z : S65536x128.Idx => (z 0).val) hy
          have h4 : k2_off2 L k 0 = 4096 * (L 1).val + 2048 * (L 0).val + 128 * k.val := congrFun h2 0
          omega
    iexact Ho
  isplitl [Hz0]; · iexact Hz0
  isplitl [Hz1]; · iexact Hz1
  isplitl [Hz2]; · iexact Hz2
  iexists (insert (SemLoc.dma cc2_scoped1.sem, (default : HIx 3)) (insert (SemLoc.dma cc2_scratch2.sem, (default : HIx 3)) (insert (SemLoc.dma cc2_scoped0.sem, (default : HIx 3)) W')))
  isplitr [HO]
  · ipureintro
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iexact HO

/-! ### What the subcore owns at its call -/

abbrev g0 (d : Dev nD) (L : grid0.Coords) : GSem nD τ sig := (thr d L, .dma cc2_scoped0.sem)
abbrev g1 (d : Dev nD) (L : grid0.Coords) : GSem nD τ sig := (thr d L, .dma cc2_scoped1.sem)
abbrev g2 (d : Dev nD) (L : grid0.Coords) : GSem nD τ sig := (thr d L, .dma cc2_scratch2.sem)

omit [FloatOps F] in
/-- The three semaphores of the task are among the subcore's own. -/
theorem sems_split :
    (ownSems0 (thr d L) : sProp 𝕄)
      = iprop(semVal (g0 d L) 0 ∗ semVal (g1 d L) 0 ∗ semVal (g2 d L) 0
          ∗ bigSep ((((ownCells (thr d L)).erase (g0 d L)).erase (g1 d L)).erase (g2 d L)) fun g => semVal g 0) := by
  have hm : ∀ s : DmaSem sig, (SemLoc.dma s : SemLoc sig).isScoped .scVector = true → ((thr d L, SemLoc.dma s) : GSem nD τ sig) ∈ ownCells (thr d L) :=
    fun s h => (mem_ownCells (g := (thr d L, SemLoc.dma s))).mpr ⟨rfl, h⟩
  unfold SparseCore.Cfg.ownSems0
  rw [SparseCore.bigSep_erase' (hm cc2_scoped0.sem (by decide)),
    SparseCore.bigSep_erase' (Finset.mem_erase.mpr ⟨by simp; decide, hm cc2_scoped1.sem (by decide)⟩),
    SparseCore.bigSep_erase' (Finset.mem_erase.mpr ⟨by simp; decide, Finset.mem_erase.mpr ⟨by simp; decide, hm cc2_scratch2.sem (by decide)⟩⟩)]

abbrev b0 (L : grid0.Coords) : DevRef τ sig := (Proc.scVector (cV L) (jV L)).devRef cc2_scratch0
abbrev b1 (L : grid0.Coords) : DevRef τ sig := (Proc.scVector (cV L) (jV L)).devRef cc2_scratch1

omit [FloatOps F] in
/-- The two buffers of the task are among the subcore's own. -/
theorem bufs_split :
    (ownBufs (thr d L) : sProp 𝕄)
      = iprop((∃ f, (sI).view.loc (thr d L) ↦{fullShare} f) ∗ (∃ f, (sR).view.loc (thr d L) ↦{fullShare} f)
          ∗ bigSep (((ownRefs (τ := τ) (.scVector (cV L) (jV L))).erase (b0 L)).erase (b1 L))
              fun b => iprop(∃ f, ((d, b) : Loc nD τ sig) ↦{fullShare} f)) := by
  have hm : ∀ r : Ref sig .scVector, r = cc2_scratch0 ∨ r = cc2_scratch1 →
      (Proc.scVector (cV L) (jV L)).devRef r ∈ ownRefs (τ := τ) (sig := sig) (.scVector (cV L) (jV L)) := by
    rintro r (rfl | rfl) <;> exact SparseCore.Cfg.mem_ownRefs_of_owner (p := Proc.scVector (cV L) (jV L)) rfl
  unfold SparseCore.Cfg.ownBufs
  refine (SparseCore.bigSep_erase' (hm cc2_scratch0 (.inl rfl))).trans ?_
  rw [SparseCore.bigSep_erase' (Finset.mem_erase.mpr
    ⟨fun e => absurd (Proc.devRef_injective _ e) (show (cc2_scratch1 : Ref sig .scVector) ≠ cc2_scratch0 by decide), hm cc2_scratch1 (.inr rfl)⟩)]

/-- The task's part of the call: shares of the table and of the list, and its rows of the result outright. -/
def part (fo : S65536x128.Idx → F .f32) : sProp 𝕄 :=
  iprop((tLoc d ↦{q} ft) ∗ (iLoc d ↦{q} fi) ∗ oLoc d ↦[(oV).view.setOn (oRect L).set]{fullShare} fo)

/-- The task: from its part at the result's contents `fo` to its part at the gathered array. -/
theorem tile_body (hfi : InRange fi) (fo : S65536x128.Idx → F .f32) (hF : (K (F := F)).Facts)
    (O : CellTallies nD τ sig (HIx 3)) (W : Waits sig (HIx 3)) (hO : ∀ g, O g none = 0) :
    iprop(levAts (K (F := F)).L (K (F := F)).lev ∗ emp ∗ part d L q ft fi fo
        ∗ scopedBufs (thr d L) ∗ scopedSems0 (thr d L) ∗ owes (thr d L) O W)
      ⊢ wp frame (wpE (defs₀ (F := F)) 𝒱₀ (thr d L) none) Set.univ
          (cc2_k L tV (Memref.isWhole_whole _) iV (Memref.isWhole_whole _) oV (Memref.isWhole_whole _)
            sI (Memref.isWhole_whole _) sR (Memref.isWhole_whole _) cc2_scratch2 cc2_scoped0 cc2_scoped1)
          fun _ => iprop(part d L q ft fi (gath ft fi)
            ∗ scopedBufs (thr d L) ∗ scopedSems0 (thr d L) ∗ ∃ W', ⌜∀ p ∈ W', p ∈ W ∨ p.2 = none⌝ ∗ owes (thr d L) O W') := by
  simp only [cc2_k_eq_skeleton]; unfold cc2_k_skel
  unfold part
  rw [(K (F := F)).scopedBufs_V hF d (cV L) (jV L), SparseCore.Cfg.scopedSems0_V (Val := Elt F) d (cV L) (jV L), sems_split, bufs_split]
  iintro ⟨#Hlv, -, ⟨Ht, Hi, Ho⟩, ⟨Hs, Hr, Hbufs⟩, ⟨Hz0, Hz1, Hz2, Hsems⟩, HO⟩
  ihave Hmw := (show levAts (K (F := F)).L (K (F := F)).lev ⊢ Transfers.MayWaits (thr d L) (default : HIx 3) O from
    (K (F := F)).mayWaits_none (thr := thr d L) hO) $$ Hlv
  sl_for (inv d L q ft fi O W) $$ [Hmw Ht Hi Ho Hs Hr Hz0 Hz1 Hz2 HO]
  case region => exact fun k u => trip d L q ft fi hfi O W k u
  · unfold inv
    isplitl [Hmw]; · iexact Hmw
    isplitl [Ht]; · iexact Ht
    isplitl [Hi]; · iexact Hi
    isplitl [Hs]; · iexact Hs
    isplitl [Hr]; · iexact Hr
    isplitl [Ho]
    · iexists fo; isplitr
      · ipureintro; exact fun x h h' => absurd h (by omega)
      · iexact Ho
    isplitl [Hz0]; · iexact Hz0
    isplitl [Hz1]; · iexact Hz1
    isplitl [Hz2]; · iexact Hz2
    iexists W; isplitr
    · ipureintro; exact fun p hp => .inl hp
    · iexact HO
  iintro %_ HI
  unfold inv
  icases HI with ⟨-, Ht, Hi, Hs, Hr, ⟨%fo', %hfo', Ho⟩, Hz0, Hz1, Hz2, HW⟩
  sl_step
  isplitl [Ht Hi Ho]
  · isplitl [Ht]; · iexact Ht
    isplitl [Hi]; · iexact Hi
    iapply (Entails.of_eq (pointsTo_congr (f := fo') (g := gath ft fi) (fun x hx => ?_))) $$ Ho
    have h := (mem_rows L x).mp hx
    have ht : Scf.trips k2_t1_loop.lb k2_t1_loop.ub k2_t1_loop.st = 16 := by decide
    exact hfo' x h.1 (by rw [ht]; omega)
  isplitl [Hs Hr Hbufs]
  · isplitl [Hs]; · iexact Hs
    isplitl [Hr]; · iexact Hr
    iexact Hbufs
  isplitl [Hz0 Hz1 Hz2 Hsems]
  · isplitl [Hz0]; · iexact Hz0
    isplitl [Hz1]; · iexact Hz1
    isplitl [Hz2]; · iexact Hz2
    iexact Hsems
  iexact HW

end Tile

/-- The task's rows are the elements whose row number, by 2048, is the task's. -/
theorem rows_eq (L : grid0.Coords) : (oV).view.setOn (oRect L).set = Finset.univ.filter fun x : S65536x128.Idx => (x 0).val / 2048 = wid L := by
  ext x
  refine (mem_rows L x).trans ((show _ ↔ _ from ?_).trans (Finset.mem_filter.trans (and_iff_right (Finset.mem_univ x))).symm)
  have hw : wid L = 2 * (L 1).val + (L 0).val := rfl
  rw [hw]
  constructor <;> intro h <;> omega

/-- The result held outright is the tasks' rows. -/
theorem deal_rows (d : Dev nD) (f : Buf (Elt F) (oLoc d)) :
    (oLoc d ↦{fullShare} f : sProp 𝕄) = bigSep Finset.univ fun c : Fin 2 => bigSep Finset.univ fun s : Fin 16 =>
      oLoc d ↦[(oV).view.setOn (oRect (at2 c s)).set]{fullShare} f :=
  (deal_sets (ℓ := oLoc d) f (fun x : S65536x128.Idx => (x 0).val / 2048) (fun x => by have : (x 0).val < 65536 := (x 0).isLt; omega)).trans
    (bigSep_congr fun c _ => bigSep_congr fun s _ => congrArg (fun S : Finset S65536x128.Idx => (oLoc d ↦[S]{fullShare} f : sProp 𝕄)) (rows_eq (at2 c s)).symm)

/-- The three arrays of the call are the thirty-two tasks' parts. -/
theorem deal (d : Dev nD) (ft : S65536x128.Idx → F .f32) (fi : S65536.Idx → BitVec 32) (fo : S65536x128.Idx → F .f32) :
    (iprop((tLoc d ↦{fullShare} ft) ∗ (iLoc d ↦{fullShare} fi) ∗ oLoc d ↦{fullShare} fo) : sProp 𝕄)
      = bigSep Finset.univ fun c : Fin 2 => bigSep Finset.univ fun s : Fin 16 => part d (at2 c s) (sh c s) ft fi fo := by
  unfold part
  rw [deal_shares (ℓ := tLoc d), deal_shares (ℓ := iLoc d), deal_rows]
  simp only [bigSep_sep']

instance part_storable (d : Dev nD) (L : grid0.Coords) (q : PosShare TreeShare) (ft : S65536x128.Idx → F .f32) (fi : S65536.Idx → BitVec 32)
    (fo : S65536x128.Idx → F .f32) : Storable (upEmb : UEmb _ 𝕄) (part d L q ft fi fo) := by unfold part; infer_instance

end Cert.Proof.Rows.Second

end
-- ==== Proof.Launch.lean ====
/-
  The launch: each call's arrays dealt to the thirty-two vector subcores, each task's part handed back at its value, and the
  whole @main through the three calls and the host lines between them.
-/
module

public import proofs.«01_k».proof.Proof.SortTask
public import proofs.«01_k».proof.Proof.Gather1
public import proofs.«01_k».proof.Proof.Gather2

@[expose] public section

noncomputable section

namespace Cert.Proof.Rows

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Count Cert.Proof.SortVal
open Idealize.ShloMosaic.ValueIdx

variable {F : FTy → Type}

local notation "𝕄" => MT nD τ sig (HIx 3) (Elt F) ℕ UU ℕ

/-! ## The sort's deal -/

/-- A result of the sort held outright is the tasks' elements. -/
theorem deal_mine {ℓ : Loc nD τ sig} (f : Buf (Elt F) ℓ) (own : Idx ℓ → ℕ) (hown : ∀ x, own x < 32) (S : grid0.Coords → Finset (Idx ℓ))
    (hS : ∀ L, S L = Finset.univ.filter fun x => own x = wid L) :
    (ℓ ↦{fullShare} f : sProp 𝕄) = bigSep Finset.univ fun c : Fin 2 => bigSep Finset.univ fun s : Fin 16 => ℓ ↦[S (at2 c s)]{fullShare} f :=
  (deal_sets f own hown).trans
    (bigSep_congr fun c _ => bigSep_congr fun s _ => congrArg (fun S : Finset (Idx ℓ) => (ℓ ↦[S]{fullShare} f : sProp 𝕄)) (hS (at2 c s)).symm)

/-- The three arrays of the sort are the thirty-two tasks' parts. -/
theorem sort_deal (d : Dev nD) (fb : S4x4x4096.Idx → BitVec 32) (gs gu : S4x16384.Idx → BitVec 32) :
    (iprop((bLoc d ↦{fullShare} fb) ∗ (stLoc d ↦{fullShare} gs) ∗ unLoc d ↦{fullShare} gu) : sProp 𝕄)
      = bigSep Finset.univ fun c : Fin 2 => bigSep Finset.univ fun s : Fin 16 => sortPart d (at2 c s) (sh c s) fb gs gu := by
  unfold sortPart
  generalize hM : mine = M
  rw [deal_shares (ℓ := bLoc d), deal_mine (ℓ := stLoc d) gs own own_lt M (fun L => by rw [← hM]; rfl), deal_mine (ℓ := unLoc d) gu own own_lt M (fun L => by rw [← hM]; rfl)]
  simp only [bigSep_sep']

instance sortPart_storable (d : Dev nD) (L : grid0.Coords) (q : PosShare TreeShare) (fb : S4x4x4096.Idx → BitVec 32)
    (gs gu : S4x16384.Idx → BitVec 32) : Storable (upEmb : UEmb _ 𝕄) (sortPart d L q fb gs gu) := by unfold sortPart; infer_instance

variable (m : (ℓ : Loc nD τ sig) → Buf (Elt F) ℓ) (ρ : Dev nD → PrngReg) [FloatOps F]

/-! ## The values -/

/-- The buckets at launch. -/
abbrev bOf (d : Dev nD) : S4x4x4096.Idx → BitVec 32 := m (bLoc d)

/-- The first gather's table: the argument's rows, sequence after sequence. -/
def ft1 (d : Dev nD) : S16384x128.Idx → F .f32 :=
  shapeCast S16384x128 (m ((SparseCore.T d).loc main_arg0) : S4x4096x128.Idx → F .f32) shapeCasts_S4x4096x128_S16384x128
/-- Its list: the sorted numbers, each shifted by 4096 times its sequence's number. -/
def fi1 (d : Dev nD) : S65536.Idx → BitVec 32 :=
  shapeCast S65536 (addi (sorted (bOf m d)) (fun j => BitVec.ofNat 32 (j 0).val * 4096#32)) shapeCasts_S4x16384_S65536
/-- The second gather's table: the rows to be put back, sequence after sequence. -/
def ft2 (d : Dev nD) : S65536x128.Idx → F .f32 :=
  shapeCast S65536x128 (m ((SparseCore.T d).loc main_arg2) : S4x16384x128.Idx → F .f32) shapeCasts_S4x16384x128_S65536x128
/-- Its list: the places, each shifted by 16384 times its sequence's number. -/
def fi2 (d : Dev nD) : S65536.Idx → BitVec 32 :=
  shapeCast S65536 (addi (places (bOf m d)) (fun j => BitVec.ofNat 32 (j 0).val * 16384#32)) shapeCasts_S4x16384_S65536

/-- The two gathers' results as @main returns them. -/
def rows1 (d : Dev nD) : S4x16384x128.Idx → F .f32 :=
  shapeCast S4x16384x128 (First.gath (ft1 m d) (fi1 m d)) shapeCasts_S65536x128_S4x16384x128
def rows2 (d : Dev nD) : S4x16384x128.Idx → F .f32 :=
  shapeCast S4x16384x128 (Second.gath (ft2 m d) (fi2 m d)) shapeCasts_S65536x128_S4x16384x128

omit [FloatOps F] in
theorem sorted_lt (fb : S4x4x4096.Idx → BitVec 32) (x : S4x16384.Idx) : (sorted fb x).toNat < 4096 := by
  unfold sorted
  have h := inv_lt (bkt (row fb (x 0) (hashOf x)) (hashOf x).val) ((x 1).val % 4096)
  rw [BitVec.toNat_ofNat, Nat.mod_eq_of_lt (by omega)]; exact h

omit [FloatOps F] in
theorem places_lt (fb : S4x4x4096.Idx → BitVec 32) (x : S4x16384.Idx) : (places fb x).toNat < 16384 := by
  unfold places
  have h := rk_lt (bkt (row fb (x 0) (hashOf x)) (hashOf x).val) (s := (x 1).val % 4096) (by omega)
  have h4 : (hashOf x).val < 4 := (hashOf x).isLt
  rw [BitVec.toNat_ofNat, Nat.mod_eq_of_lt (by omega)]; omega

omit [FloatOps F] in
theorem fi1_lt (d : Dev nD) : First.InRange (fi1 m d) := fun j => by
  obtain ⟨x, hx⟩ : ∃ x : S4x16384.Idx, fi1 m d j = sorted (bOf m d) x + BitVec.ofNat 32 (x 0).val * 4096#32 := ⟨_, rfl⟩
  have h := sorted_lt (bOf m d) x
  have h4 : (x 0).val < 4 := (x 0).isLt
  rw [hx]
  simp only [BitVec.toNat_add, BitVec.toNat_mul, BitVec.toNat_ofNat, Nat.reducePow, Nat.reduceMod]
  omega

omit [FloatOps F] in
theorem fi2_lt (d : Dev nD) : Second.InRange (fi2 m d) := fun j => by
  obtain ⟨x, hx⟩ : ∃ x : S4x16384.Idx, fi2 m d j = places (bOf m d) x + BitVec.ofNat 32 (x 0).val * 16384#32 := ⟨_, rfl⟩
  have h := places_lt (bOf m d) x
  have h4 : (x 0).val < 4 := (x 0).isLt
  rw [hx]
  simp only [BitVec.toNat_add, BitVec.toNat_mul, BitVec.toNat_ofNat, Nat.reducePow, Nat.reduceMod]
  omega

/-! ## The calls' payloads and their tasks -/

/-- What a task takes and hands back at each call. -/
def partIn (q : Fin 3) (d : Dev nD) (c : Fin 2) (s : Fin 16) : sProp 𝕄 := match q with
  | 0 => sortPart d (at2 c s) (sh c s) (bOf m d) (m (stLoc d)) (m (unLoc d))
  | 1 => First.part d (at2 c s) (sh c s) (ft1 m d) (fi1 m d) (m (First.oLoc d))
  | 2 => Second.part d (at2 c s) (sh c s) (ft2 m d) (fi2 m d) (m (Second.oLoc d))
def partOut (q : Fin 3) (d : Dev nD) (c : Fin 2) (s : Fin 16) : sProp 𝕄 := match q with
  | 0 => sortPart d (at2 c s) (sh c s) (bOf m d) (sorted (bOf m d)) (places (bOf m d))
  | 1 => First.part d (at2 c s) (sh c s) (ft1 m d) (fi1 m d) (First.gath (ft1 m d) (fi1 m d))
  | 2 => Second.part d (at2 c s) (sh c s) (ft2 m d) (fi2 m d) (Second.gath (ft2 m d) (fi2 m d))

instance partIn_storable (q : Fin 3) (d : Dev nD) (c : Fin 2) (s : Fin 16) : Storable (upEmb : UEmb _ 𝕄) (partIn m q d c s) := by
  match q with | 0 | 1 | 2 => unfold partIn; dsimp only; infer_instance
instance partOut_storable (q : Fin 3) (d : Dev nD) (c : Fin 2) (s : Fin 16) : Storable (upEmb : UEmb _ 𝕄) (partOut m q d c s) := by
  match q with | 0 | 1 | 2 => unfold partOut; dsimp only; infer_instance

/-- A SparseCore takes and hands back its sixteen tasks' parts. -/
def P : (K (F := F)).Pay (nD := nD) (Val := Elt F) (Name := ℕ) (U := UU) where
  st := fun q d c => match q with
    | 0 => bigSep Finset.univ fun s : Fin 16 => partIn m 0 d c s
    | 1 => bigSep Finset.univ fun s : Fin 16 => partIn m 1 d c s
    | 2 => bigSep Finset.univ fun s : Fin 16 => partIn m 2 d c s
  dn := fun q d c => match q with
    | 0 => bigSep Finset.univ fun s : Fin 16 => partOut m 0 d c s
    | 1 => bigSep Finset.univ fun s : Fin 16 => partOut m 1 d c s
    | 2 => bigSep Finset.univ fun s : Fin 16 => partOut m 2 d c s
  go := fun q d c s => match q with
    | 0 => partIn m 0 d c s
    | 1 => partIn m 1 d c s
    | 2 => partIn m 2 d c s
  td := fun q d c s => match q with
    | 0 => partOut m 0 d c s
    | 1 => partOut m 1 d c s
    | 2 => partOut m 2 d c s
  x := fun _ _ => iprop(emp)

theorem partIn_all (q : Fin 3) (d : Dev nD) (c : Fin 2) : Storable (upEmb : UEmb _ 𝕄) (bigSep Finset.univ fun s : Fin 16 => partIn m q d c s) :=
  inferInstance
theorem partOut_all (q : Fin 3) (d : Dev nD) (c : Fin 2) : Storable (upEmb : UEmb _ 𝕄) (bigSep Finset.univ fun s : Fin 16 => partOut m q d c s) :=
  inferInstance

instance P_storable : (P (F := F) m).IsStorable where
  st q d c := by match q with | 0 => exact partIn_all m 0 d c | 1 => exact partIn_all m 1 d c | 2 => exact partIn_all m 2 d c
  dn q d c := by match q with | 0 => exact partOut_all m 0 d c | 1 => exact partOut_all m 1 d c | 2 => exact partOut_all m 2 d c
  go q d c s := by match q with | 0 => exact partIn_storable m 0 d c s | 1 => exact partIn_storable m 1 d c s | 2 => exact partIn_storable m 2 d c s
  td q d c s := by match q with | 0 => exact partOut_storable m 0 d c s | 1 => exact partOut_storable m 1 d c s | 2 => exact partOut_storable m 2 d c s

theorem defs₀_sort (c : Fin τ.nSC) (s : Fin τ.nSub) :
    defs₀ (F := F) (.scVector c s) 0 ()
      = SparseCore.onTile hcore0 hsub0 (fun c s => cc0_k (at2 c s) bV (Memref.isWhole_whole _) stV (Memref.isWhole_whole _) unV (Memref.isWhole_whole _)
          sBk (Memref.isWhole_whole _) sRk (Memref.isWhole_whole _) sSt (Memref.isWhole_whole _) sUn (Memref.isWhole_whole _)
          sHi (Memref.isWhole_whole _) sOf (Memref.isWhole_whole _) cc0_scoped0 cc0_scoped1 cc0_scoped2) ⟨⟩ c s := rfl

theorem defs₀_first (c : Fin τ.nSC) (s : Fin τ.nSub) :
    defs₀ (F := F) (.scVector c s) 1 ()
      = SparseCore.onTile hcore1 hsub1 (fun c s => cc1_k (at2 c s) First.tV (Memref.isWhole_whole _) First.iV (Memref.isWhole_whole _) First.oV (Memref.isWhole_whole _)
          First.sI (Memref.isWhole_whole _) First.sR (Memref.isWhole_whole _) cc1_scratch2 cc1_scoped0 cc1_scoped1) ⟨⟩ c s := rfl

theorem defs₀_second (c : Fin τ.nSC) (s : Fin τ.nSub) :
    defs₀ (F := F) (.scVector c s) 2 ()
      = SparseCore.onTile hcore2 hsub2 (fun c s => cc2_k (at2 c s) Second.tV (Memref.isWhole_whole _) Second.iV (Memref.isWhole_whole _) Second.oV (Memref.isWhole_whole _)
          Second.sI (Memref.isWhole_whole _) Second.sR (Memref.isWhole_whole _) cc2_scratch2 cc2_scoped0 cc2_scoped1) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every bucket at launch is among the sixty-four of its hash. -/
def Pre : Prop := ∀ d, InBuckets (bOf m d)

set_option maxRecDepth 16384 in
theorem sortObl (hF : (K (F := F)).Facts) (hpre : Pre m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_sort]; simp only [SparseCore.onTile, hci, and_self, ↓reduceDIte]
  exact (sort_body d (at2 ⟨_, hci.1⟩ ⟨_, hci.2⟩) (sh c i) (bOf m d) (hpre d) (m (stLoc d)) (m (unLoc d)) hF O W hO).trans (wp_mono frame _ _ fun _ => obl_post (q := 0))

set_option maxRecDepth 16384 in
theorem firstObl (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_first]; simp only [SparseCore.onTile, hci, and_self, ↓reduceDIte]
  exact (First.tile_body d (at2 ⟨_, hci.1⟩ ⟨_, hci.2⟩) (sh c i) (ft1 m d) (fi1 m d) (fi1_lt m d) (m (First.oLoc d)) hF O W hO).trans (wp_mono frame _ _ fun _ => obl_post (q := 1))

set_option maxRecDepth 16384 in
theorem secondObl (hF : (K (F := F)).Facts) : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_second]; simp only [SparseCore.onTile, hci, and_self, ↓reduceDIte]
  exact (Second.tile_body d (at2 ⟨_, hci.1⟩ ⟨_, hci.2⟩) (sh c i) (ft2 m d) (fi2 m d) (fi2_lt m d) (m (Second.oLoc d)) hF O W hO).trans (wp_mono frame _ _ fun _ => obl_post (q := 2))

theorem split_plain (q : Fin 3) (d : Dev nD) (c : Fin 2) :
    (bigSep Finset.univ fun s : Fin 16 => partIn m q d c s) ⊢ |={Set.univ}=> iprop(
      (bigSep Finset.univ fun s : Fin 16 => partIn m q d c s)
      ∗ ((bigSep Finset.univ fun s : Fin 16 => partOut m q d c s) -∗ bigSep Finset.univ fun s : Fin 16 => partOut m q d c s)) := by
  iintro H; imodintro
  isplitl [H]; · iexact H
  iintro H; iexact H

theorem vecSplit (q : Fin 3) : (K (F := F)).VecSplit' (P m) q := by
  intro d c
  match q with | 0 => exact split_plain m 0 d c | 1 => exact split_plain m 1 d c | 2 => exact split_plain m 2 d c

/-- The launch's facts of this signature, by evaluation. -/
theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 3 => (P (F := F) m).x q thr) = bigSep Finset.univ fun _ => iprop(emp) from
    bigSep_congr fun _ _ => bigSep_emp' _, bigSep_emp']
  iempintro

end Cert.Proof.Rows

end
-- ==== Proof.Main.lean ====
/-
  The whole @main: the three calls and the host lines between them, over the arrays it works on.
-/
module

public import proofs.«01_k».proof.Proof.Launch

@[expose] public section

noncomputable section

namespace Cert.Proof.Rows

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable (m : (ℓ : Loc nD τ sig) → Buf (Elt F) ℓ) (ρ : Dev nD → PrngReg) [FloatOps F]

/-! ## The host lines -/

/-- Between the sort and the first gather: its list and its table. -/
abbrev line1 : List (HloOp τ sig (Elt F)) :=
  [StableHlo.nullary main_v1 (iotaInDim S4 32 0),
   StableHlo.nullary main_c (constantI S_ 32 4096#32),
   StableHlo.unary main_c main_v2 (broadcastInDim S4 ![] bcast_S_S4 : (⟨S_, .i32⟩ : BufTy).Contents (Elt F) → (⟨S4, .i32⟩ : BufTy).Contents (Elt F)),
   StableHlo.binary main_v1 main_v2 main_v3 (muli : (⟨S4, .i32⟩ : BufTy).Contents (Elt F) → (⟨S4, .i32⟩ : BufTy).Contents (Elt F) → (⟨S4, .i32⟩ : BufTy).Contents (Elt F)),
   StableHlo.unary main_v3 main_v4 (broadcastInDim S4x1 ![0] bcast_S4_S4x1_0 : (⟨S4, .i32⟩ : BufTy).Contents (Elt F) → (⟨S4x1, .i32⟩ : BufTy).Contents (Elt F)),
   StableHlo.unary main_v4 main_v5 (broadcastInDim S4x16384 ![0, 1] bcast_S4x1_S4x16384_0_1 : (⟨S4x1, .i32⟩ : BufTy).Contents (Elt F) → (⟨S4x16384, .i32⟩ : BufTy).Contents (Elt F)),
   StableHlo.binary main_v0_0 main_v5 main_v6 (addi : (⟨S4x16384, .i32⟩ : BufTy).Contents (Elt F) → (⟨S4x16384, .i32⟩ : BufTy).Contents (Elt F) → (⟨S4x16384, .i32⟩ : BufTy).Contents (Elt F)),
   StableHlo.reshape main_v6 main_v7 (rfl : (.i32 : EltTy) = .i32) shapeCasts_S4x16384_S65536,
   StableHlo.reshape main_arg0 main_v8 (rfl : (.f32 : EltTy) = .f32) shapeCasts_S4x4096x128_S16384x128]

/-- Between the gathers: the second's list and table. -/
abbrev line2 : List (HloOp τ sig (Elt F)) :=
  [StableHlo.nullary main_v10 (iotaInDim S4 32 0),
   StableHlo.nullary main_c_0 (constantI S_ 32 16384#32),
   StableHlo.unary main_c_0 main_v11 (broadcastInDim S4 ![] bcast_S_S4 : (⟨S_, .i32⟩ : BufTy).Contents (Elt F) → (⟨S4, .i32⟩ : BufTy).Contents (Elt F)),
   StableHlo.binary main_v10 main_v11 main_v12 (muli : (⟨S4, .i32⟩ : BufTy).Contents (Elt F) → (⟨S4, .i32⟩ : BufTy).Contents (Elt F) → (⟨S4, .i32⟩ : BufTy).Contents (Elt F)),
   StableHlo.unary main_v12 main_v13 (broadcastInDim S4x1 ![0] bcast_S4_S4x1_0 : (⟨S4, .i32⟩ : BufTy).Contents (Elt F) → (⟨S4x1, .i32⟩ : BufTy).Contents (Elt F)),
   StableHlo.unary main_v13 main_v14 (broadcastInDim S4x16384 ![0, 1] bcast_S4x1_S4x16384_0_1 : (⟨S4x1, .i32⟩ : BufTy).Contents (Elt F) → (⟨S4x16384, .i32⟩ : BufTy).Contents (Elt F)),
   StableHlo.binary main_v0_1 main_v14 main_v15 (addi : (⟨S4x16384, .i32⟩ : BufTy).Contents (Elt F) → (⟨S4x16384, .i32⟩ : BufTy).Contents (Elt F) → (⟨S4x16384, .i32⟩ : BufTy).Contents (Elt F)),
   StableHlo.reshape main_v15 main_v16 (rfl : (.i32 : EltTy) = .i32) shapeCasts_S4x16384_S65536,
   StableHlo.reshape main_arg2 main_v17 (rfl : (.f32 : EltTy) = .f32) shapeCasts_S4x16384x128_S65536x128]

/-- After the gathers: their results' final shape. -/
abbrev line3 : List (HloOp τ sig (Elt F)) :=
  [StableHlo.reshape main_v9 main_v19 (rfl : (.f32 : EltTy) = .f32) shapeCasts_S65536x128_S4x16384x128,
   StableHlo.reshape main_v18 main_v20 (rfl : (.f32 : EltTy) = .f32) shapeCasts_S65536x128_S4x16384x128]

theorem main_eq (d : Dev nD) : main (F := F) d = ((sc (F := F)).run d 0 >>= fun _ => (seq line1 >>= fun _ => ((sc (F := F)).run d 1 >>= fun _ =>
    (seq line2 >>= fun _ => ((sc (F := F)).run d 2 >>= fun _ => (seq line3 >>= fun _ => pure ⟨⟩)))))) := rfl

abbrev rf (b : Ref sig .tc) : DevRef τ sig := Proc.devRef .tc b

/-! ## The arrays through @main -/

/-- After the sort. -/
def A1 (d : Dev nD) : Valuation τ sig (Elt F) :=
  Function.update (Function.update (launchContents m d) (rf main_v0_0) (sorted (bOf m d))) (rf main_v0_1) (places (bOf m d))
/-- Before and after the first gather. -/
def B1 (d : Dev nD) : Valuation τ sig (Elt F) := after line1 (A1 m d)
def A2 (d : Dev nD) : Valuation τ sig (Elt F) := Function.update (B1 m d) (rf main_v9) (First.gath (ft1 m d) (fi1 m d))
/-- Before and after the second gather. -/
def B2 (d : Dev nD) : Valuation τ sig (Elt F) := after line2 (A2 m d)
def A3 (d : Dev nD) : Valuation τ sig (Elt F) := Function.update (B2 m d) (rf main_v18) (Second.gath (ft2 m d) (fi2 m d))
/-- At the end. -/
def B3 (d : Dev nD) : Valuation τ sig (Elt F) := after line3 (A3 m d)

theorem A1_st (d : Dev nD) : A1 m d (rf main_v0_0) = sorted (bOf m d) := by
  unfold A1; rw [Function.update_of_ne (by decide), Function.update_self]
theorem A1_un (d : Dev nD) : A1 m d (rf main_v0_1) = places (bOf m d) := by
  unfold A1; rw [Function.update_self]
theorem A1_else (d : Dev nD) (b : DevRef τ sig) (h0 : b ≠ rf main_v0_0) (h1 : b ≠ rf main_v0_1) : A1 m d b = launchContents m d b := by
  unfold A1; rw [Function.update_of_ne h1, Function.update_of_ne h0]

theorem line1_list (V : Valuation τ sig (Elt F)) : after line1 V (rf main_v7) = shapeCast S65536 (addi (V (rf main_v0_0) : S4x16384.Idx → BitVec 32)
    (fun j => BitVec.ofNat 32 (j 0).val * 4096#32)) shapeCasts_S4x16384_S65536 := by
  unfold line1; after_results_simp; rfl
theorem line1_table (V : Valuation τ sig (Elt F)) : after line1 V (rf main_v8) = shapeCast S16384x128 (V (rf main_arg0) : S4x4096x128.Idx → F .f32)
    shapeCasts_S4x4096x128_S16384x128 := by
  unfold line1; after_results_simp; rfl
theorem line2_list (V : Valuation τ sig (Elt F)) : after line2 V (rf main_v16) = shapeCast S65536 (addi (V (rf main_v0_1) : S4x16384.Idx → BitVec 32)
    (fun j => BitVec.ofNat 32 (j 0).val * 16384#32)) shapeCasts_S4x16384_S65536 := by
  unfold line2; after_results_simp; rfl
theorem line2_table (V : Valuation τ sig (Elt F)) : after line2 V (rf main_v17) = shapeCast S65536x128 (V (rf main_arg2) : S4x16384x128.Idx → F .f32)
    shapeCasts_S4x16384x128_S65536x128 := by
  unfold line2; after_results_simp; rfl
theorem line3_first (V : Valuation τ sig (Elt F)) : after line3 V (rf main_v19) = shapeCast S4x16384x128 (V (rf main_v9) : S65536x128.Idx → F .f32)
    shapeCasts_S65536x128_S4x16384x128 := by
  unfold line3; after_results_simp; rfl
theorem line3_second (V : Valuation τ sig (Elt F)) : after line3 V (rf main_v20) = shapeCast S4x16384x128 (V (rf main_v18) : S65536x128.Idx → F .f32)
    shapeCasts_S65536x128_S4x16384x128 := by
  unfold line3; after_results_simp; rfl

/-- The arrays no host line writes. -/
theorem keep1 (V : Valuation τ sig (Elt F)) (b : Ref sig .tc) (hb : b = main_arg0 ∨ b = main_arg1 ∨ b = main_arg2 ∨ b = main_v0_0 ∨ b = main_v0_1 ∨ b = main_v9 ∨ b = main_v18) :
    after line1 V (rf b) = V (rf b) := by
  rcases hb with rfl | rfl | rfl | rfl | rfl | rfl | rfl <;> (unfold line1; after_results_simp)
theorem keep2 (V : Valuation τ sig (Elt F)) (b : Ref sig .tc) (hb : b = main_arg0 ∨ b = main_arg1 ∨ b = main_arg2 ∨ b = main_v0_0 ∨ b = main_v0_1 ∨ b = main_v9 ∨ b = main_v18) :
    after line2 V (rf b) = V (rf b) := by
  rcases hb with rfl | rfl | rfl | rfl | rfl | rfl | rfl <;> (unfold line2; after_results_simp)
theorem keep3 (V : Valuation τ sig (Elt F)) (b : Ref sig .tc) (hb : b = main_arg0 ∨ b = main_arg1 ∨ b = main_arg2 ∨ b = main_v0_0 ∨ b = main_v0_1 ∨ b = main_v9 ∨ b = main_v18) :
    after line3 V (rf b) = V (rf b) := by
  rcases hb with rfl | rfl | rfl | rfl | rfl | rfl | rfl <;> (unfold line3; after_results_simp)

theorem B1_list (d : Dev nD) : B1 m d (rf main_v7) = fi1 m d := by
  unfold B1; rw [line1_list, A1_st]; rfl
theorem B1_table (d : Dev nD) : B1 m d (rf main_v8) = ft1 m d := by
  unfold B1; rw [line1_table, A1_else m d _ (by decide) (by decide)]; rfl
theorem B1_out (d : Dev nD) : B1 m d (rf main_v9) = m (First.oLoc d) := by
  unfold B1; rw [keep1 _ _ (by simp), A1_else m d _ (by decide) (by decide)]

theorem A2_self (d : Dev nD) : A2 m d (rf main_v9) = First.gath (ft1 m d) (fi1 m d) := by unfold A2; rw [Function.update_self]
theorem A2_else (d : Dev nD) (b : DevRef τ sig) (h : b ≠ rf main_v9) : A2 m d b = B1 m d b := by unfold A2; rw [Function.update_of_ne h]

/-- The kept arrays before the second gather are as after the sort. -/
theorem B2_keep (d : Dev nD) (b : Ref sig .tc) (hb : b = main_arg0 ∨ b = main_arg1 ∨ b = main_arg2 ∨ b = main_v0_0 ∨ b = main_v0_1 ∨ b = main_v18) (h9 : rf b ≠ rf main_v9) :
    B2 m d (rf b) = A1 m d (rf b) := by
  have h : b = main_arg0 ∨ b = main_arg1 ∨ b = main_arg2 ∨ b = main_v0_0 ∨ b = main_v0_1 ∨ b = main_v9 ∨ b = main_v18 := by tauto
  unfold B2; rw [keep2 _ _ h, A2_else m d _ h9]; unfold B1; rw [keep1 _ _ h]
theorem B2_list (d : Dev nD) : B2 m d (rf main_v16) = fi2 m d := by
  unfold B2; rw [line2_list, A2_else m d _ (by decide)]; unfold B1; rw [keep1 _ _ (by simp), A1_un]; rfl
theorem B2_table (d : Dev nD) : B2 m d (rf main_v17) = ft2 m d := by
  unfold B2; rw [line2_table, A2_else m d _ (by decide)]; unfold B1; rw [keep1 _ _ (by simp), A1_else m d _ (by decide) (by decide)]; rfl
theorem B2_out (d : Dev nD) : B2 m d (rf main_v18) = m (Second.oLoc d) := by
  rw [B2_keep m d _ (by simp) (by decide), A1_else m d _ (by decide) (by decide)]
theorem B2_first (d : Dev nD) : B2 m d (rf main_v9) = First.gath (ft1 m d) (fi1 m d) := by
  unfold B2; rw [keep2 _ _ (by simp), A2_self]

theorem A3_self (d : Dev nD) : A3 m d (rf main_v18) = Second.gath (ft2 m d) (fi2 m d) := by unfold A3; rw [Function.update_self]
theorem A3_else (d : Dev nD) (b : DevRef τ sig) (h : b ≠ rf main_v18) : A3 m d b = B2 m d b := by unfold A3; rw [Function.update_of_ne h]

theorem B3_keep (d : Dev nD) (b : Ref sig .tc) (hb : b = main_arg0 ∨ b = main_arg1 ∨ b = main_arg2 ∨ b = main_v0_0 ∨ b = main_v0_1) (h9 : rf b ≠ rf main_v9) (h18 : rf b ≠ rf main_v18) :
    B3 m d (rf b) = A1 m d (rf b) := by
  unfold B3; rw [keep3 _ _ (by tauto), A3_else m d _ h18, B2_keep m d b (by tauto) h9]
theorem B3_arg0 (d : Dev nD) : B3 m d (rf main_arg0) = m ((SparseCore.T d).loc main_arg0) := by
  rw [B3_keep m d _ (by simp) (by decide) (by decide), A1_else m d _ (by decide) (by decide)]
theorem B3_arg1 (d : Dev nD) : B3 m d (rf main_arg1) = m ((SparseCore.T d).loc main_arg1) := by
  rw [B3_keep m d _ (by simp) (by decide) (by decide), A1_else m d _ (by decide) (by decide)]
theorem B3_arg2 (d : Dev nD) : B3 m d (rf main_arg2) = m ((SparseCore.T d).loc main_arg2) := by
  rw [B3_keep m d _ (by simp) (by decide) (by decide), A1_else m d _ (by decide) (by decide)]
theorem B3_st (d : Dev nD) : B3 m d (rf main_v0_0) = sorted (bOf m d) := by
  rw [B3_keep m d _ (by simp) (by decide) (by decide), A1_st]
theorem B3_un (d : Dev nD) : B3 m d (rf main_v0_1) = places (bOf m d) := by
  rw [B3_keep m d _ (by simp) (by decide) (by decide), A1_un]
theorem B3_first (d : Dev nD) : B3 m d (rf main_v19) = rows1 m d := by
  unfold B3; rw [line3_first, A3_else m d _ (by decide), B2_first]; rfl
theorem B3_second (d : Dev nD) : B3 m d (rf main_v20) = rows2 m d := by
  unfold B3; rw [line3_second, A3_self]; rfl

/-! ## What @main holds -/

/-- The arrays @main works on. -/
abbrev SA : Finset (DevRef τ sig) :=
  (Finset.univ.filter fun b : Ref sig .tc => ¬ b.isScoped).map ⟨Proc.devRef (τ := τ) .tc, Proc.devRef_injective _⟩

theorem mem_SA (b : Ref sig .tc) (h : ¬ b.isScoped) : rf b ∈ SA :=
  Finset.mem_map_of_mem _ (Finset.mem_filter.mpr ⟨Finset.mem_univ _, h⟩)
theorem sub1 (a : Ref sig .tc) (ha : ¬ a.isScoped) : ({rf a} : Finset (DevRef τ sig)) ⊆ SA :=
  Finset.singleton_subset_iff.mpr (mem_SA a ha)
theorem sub2 (a b : Ref sig .tc) (ha : ¬ a.isScoped) (hb : ¬ b.isScoped) : ({rf a, rf b} : Finset (DevRef τ sig)) ⊆ SA :=
  Finset.insert_subset (mem_SA a ha) (sub1 b hb)
theorem sub3 (a b c : Ref sig .tc) (ha : ¬ a.isScoped) (hb : ¬ b.isScoped) (hc : ¬ c.isScoped) :
    ({rf a, rf b, rf c} : Finset (DevRef τ sig)) ⊆ SA := Finset.insert_subset (mem_SA a ha) (sub2 b c hb hc)

omit [FloatOps F] in
theorem unscoped_held (d : Dev nD) (W : Valuation τ sig (Elt F)) :
    (unscopedBufs d (fun b => W (Proc.devRef .tc b)) : sProp 𝕄) = held (T d) SA W := by
  unfold unscopedBufs held SA; rw [bigSep_map]; rfl

theorem line1_sub : ∀ op ∈ (line1 : List (HloOp τ sig (Elt F))), op.bufs ⊆ SA :=
  List.forall_iff_forall_mem.1 ⟨sub1 _ (by decide), sub1 _ (by decide), sub2 _ _ (by decide) (by decide), sub3 _ _ _ (by decide) (by decide) (by decide),
    sub2 _ _ (by decide) (by decide), sub2 _ _ (by decide) (by decide), sub3 _ _ _ (by decide) (by decide) (by decide),
    sub2 _ _ (by decide) (by decide), sub2 _ _ (by decide) (by decide)⟩
theorem line2_sub : ∀ op ∈ (line2 : List (HloOp τ sig (Elt F))), op.bufs ⊆ SA :=
  List.forall_iff_forall_mem.1 ⟨sub1 _ (by decide), sub1 _ (by decide), sub2 _ _ (by decide) (by decide), sub3 _ _ _ (by decide) (by decide) (by decide),
    sub2 _ _ (by decide) (by decide), sub2 _ _ (by decide) (by decide), sub3 _ _ _ (by decide) (by decide) (by decide),
    sub2 _ _ (by decide) (by decide), sub2 _ _ (by decide) (by decide)⟩
theorem line3_sub : ∀ op ∈ (line3 : List (HloOp τ sig (Elt F))), op.bufs ⊆ SA :=
  List.forall_iff_forall_mem.1 ⟨sub2 _ _ (by decide) (by decide), sub2 _ _ (by decide) (by decide)⟩

theorem line1_fresh : ∀ op ∈ (line1 : List (HloOp τ sig (Elt F))), op.fresh = ∅ := List.forall_iff_forall_mem.1 (forall_fresh_of_map rfl)
theorem line2_fresh : ∀ op ∈ (line2 : List (HloOp τ sig (Elt F))), op.fresh = ∅ := List.forall_iff_forall_mem.1 (forall_fresh_of_map rfl)
theorem line3_fresh : ∀ op ∈ (line3 : List (HloOp τ sig (Elt F))), op.fresh = ∅ := List.forall_iff_forall_mem.1 (forall_fresh_of_map rfl)

omit [FloatOps F] in
/-- Three arrays held, one after another. -/
theorem held_three (d : Dev nD) (W : Valuation τ sig (Elt F)) (a b c : Ref sig .tc) (hab : a ≠ b) (hac : a ≠ c) (hbc : b ≠ c) :
    (held (T d) {rf a, rf b, rf c} W : sProp 𝕄) = iprop(((SparseCore.T d).loc a ↦{fullShare} W (rf a)) ∗ ((SparseCore.T d).loc b ↦{fullShare} W (rf b))
      ∗ ((SparseCore.T d).loc c ↦{fullShare} W (rf c))) := by
  have hne : ∀ {r r' : Ref sig .tc}, r ≠ r' → rf r ≠ rf r' := fun h e => h (Proc.devRef_injective _ e)
  unfold held
  rw [SparseCore.bigSep_insert' (by simp [hne hab, hne hac]), SparseCore.bigSep_insert' (by simp [hne hbc]), bigSep_singleton]

omit [FloatOps F] in
/-- A call's three arrays out of those @main holds, and back at other contents. -/
theorem take_three (d : Dev nD) (W W' : Valuation τ sig (Elt F)) (a b c : Ref sig .tc) (ha : ¬ a.isScoped) (hb : ¬ b.isScoped) (hc : ¬ c.isScoped)
    (hab : a ≠ b) (hac : a ≠ c) (hbc : b ≠ c) (h : ∀ r, r ≠ rf a → r ≠ rf b → r ≠ rf c → W' r = W r) :
    (held (T d) SA W : sProp 𝕄) ⊢ iprop((((SparseCore.T d).loc a ↦{fullShare} W (rf a)) ∗ ((SparseCore.T d).loc b ↦{fullShare} W (rf b))
      ∗ ((SparseCore.T d).loc c ↦{fullShare} W (rf c)))
      ∗ ((((SparseCore.T d).loc a ↦{fullShare} W' (rf a)) ∗ ((SparseCore.T d).loc b ↦{fullShare} W' (rf b))
      ∗ ((SparseCore.T d).loc c ↦{fullShare} W' (rf c))) -∗ held (T d) SA W')) := by
  rw [held_sub_split (T d) (sub3 a b c ha hb hc) W, held_sub_split (T d) (sub3 a b c ha hb hc) W',
    held_congr (T d) (S := SA \ {rf a, rf b, rf c}) (V := W') (V' := W) (fun r hr => by
      have hr := (Finset.mem_sdiff.mp hr).2
      simp only [Finset.mem_insert, Finset.mem_singleton, not_or] at hr
      exact h r hr.1 hr.2.1 hr.2.2),
    held_three d W a b c hab hac hbc, held_three d W' a b c hab hac hbc]
  iintro ⟨H, Hr⟩
  isplitl [H]; · iexact H
  iintro H
  isplitl [H]; · iexact H
  iexact Hr

theorem st0 (d : Dev nD) : (bigSep Finset.univ fun c : Fin ((K (F := F)).nCore 0) => (P m).st 0 d c)
    = iprop((bLoc d ↦{fullShare} bOf m d) ∗ (stLoc d ↦{fullShare} m (stLoc d)) ∗ unLoc d ↦{fullShare} m (unLoc d)) := (sort_deal d _ _ _).symm
theorem dn0 (d : Dev nD) : (bigSep Finset.univ fun c : Fin ((K (F := F)).nCore 0) => (P m).dn 0 d c)
    = iprop((bLoc d ↦{fullShare} bOf m d) ∗ (stLoc d ↦{fullShare} sorted (bOf m d)) ∗ unLoc d ↦{fullShare} places (bOf m d)) := (sort_deal d _ _ _).symm
theorem st1 (d : Dev nD) : (bigSep Finset.univ fun c : Fin ((K (F := F)).nCore 1) => (P m).st 1 d c)
    = iprop((First.tLoc d ↦{fullShare} ft1 m d) ∗ (First.iLoc d ↦{fullShare} fi1 m d) ∗ First.oLoc d ↦{fullShare} m (First.oLoc d)) := (First.deal d _ _ _).symm
theorem dn1 (d : Dev nD) : (bigSep Finset.univ fun c : Fin ((K (F := F)).nCore 1) => (P m).dn 1 d c)
    = iprop((First.tLoc d ↦{fullShare} ft1 m d) ∗ (First.iLoc d ↦{fullShare} fi1 m d) ∗ First.oLoc d ↦{fullShare} First.gath (ft1 m d) (fi1 m d)) := (First.deal d _ _ _).symm
theorem st2 (d : Dev nD) : (bigSep Finset.univ fun c : Fin ((K (F := F)).nCore 2) => (P m).st 2 d c)
    = iprop((Second.tLoc d ↦{fullShare} ft2 m d) ∗ (Second.iLoc d ↦{fullShare} fi2 m d) ∗ Second.oLoc d ↦{fullShare} m (Second.oLoc d)) := (Second.deal d _ _ _).symm
theorem dn2 (d : Dev nD) : (bigSep Finset.univ fun c : Fin ((K (F := F)).nCore 2) => (P m).dn 2 d c)
    = iprop((Second.tLoc d ↦{fullShare} ft2 m d) ∗ (Second.iLoc d ↦{fullShare} fi2 m d) ∗ Second.oLoc d ↦{fullShare} Second.gath (ft2 m d) (fi2 m d)) := (Second.deal d _ _ _).symm

theorem take0 (d : Dev nD) : (held (T d) SA (launchContents m d) : sProp 𝕄) ⊢
    iprop((bigSep Finset.univ fun c : Fin ((K (F := F)).nCore 0) => (P m).st 0 d c)
      ∗ ((bigSep Finset.univ fun c : Fin ((K (F := F)).nCore 0) => (P m).dn 0 d c) -∗ held (T d) SA (A1 m d))) := by
  have h := take_three (F := F) d (launchContents m d) (A1 m d) main_arg1 main_v0_0 main_v0_1 (by decide) (by decide) (by decide) (by decide) (by decide) (by decide)
    (fun r _ h0 h1 => A1_else m d r h0 h1)
  rw [A1_st, A1_un, A1_else m d _ (by decide) (by decide)] at h
  rw [st0, dn0]; exact h
theorem take1 (d : Dev nD) : (held (T d) SA (B1 m d) : sProp 𝕄) ⊢
    iprop((bigSep Finset.univ fun c : Fin ((K (F := F)).nCore 1) => (P m).st 1 d c)
      ∗ ((bigSep Finset.univ fun c : Fin ((K (F := F)).nCore 1) => (P m).dn 1 d c) -∗ held (T d) SA (A2 m d))) := by
  have h := take_three (F := F) d (B1 m d) (A2 m d) main_v8 main_v7 main_v9 (by decide) (by decide) (by decide) (by decide) (by decide) (by decide)
    (fun r _ _ h => A2_else m d r h)
  rw [A2_self, A2_else m d _ (by decide), A2_else m d _ (by decide), B1_list, B1_table, B1_out] at h
  rw [st1, dn1]; exact h
theorem take2 (d : Dev nD) : (held (T d) SA (B2 m d) : sProp 𝕄) ⊢
    iprop((bigSep Finset.univ fun c : Fin ((K (F := F)).nCore 2) => (P m).st 2 d c)
      ∗ ((bigSep Finset.univ fun c : Fin ((K (F := F)).nCore 2) => (P m).dn 2 d c) -∗ held (T d) SA (A3 m d))) := by
  have h := take_three (F := F) d (B2 m d) (A3 m d) main_v17 main_v16 main_v18 (by decide) (by decide) (by decide) (by decide) (by decide) (by decide)
    (fun r _ _ h => A3_else m d r h)
  rw [A3_self, A3_else m d _ (by decide), A3_else m d _ (by decide), B2_list, B2_table, B2_out] at h
  rw [st2, dn2]; exact h

/-- What @main ends holding: its arrays at their last contents. -/
abbrev FIN (d : Dev nD) : sProp 𝕄 := held (T d) SA (B3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [main_eq, show (fun b => m ((SparseCore.T d).loc b)) = fun b => launchContents m d (Proc.devRef .tc b) from rfl, unscoped_held]
  iintro ⟨#Hctx, Hst, ⟨Hb, Hheld, Hts, -⟩, -⟩
  rw [wp_bind]
  ihave H := (take0 m d) $$ Hheld
  icases H with ⟨Hin, Hback⟩
  iapply ((K (F := F)).wp_run (D (F := F)) 𝒱 (EH := EH) (P := P m) κ d 0) $$ [Hst Hin Hback Hb Hts]
  isplitr; · iexact Hctx
  isplitl [Hst]; · iexact Hst
  isplitl [Hin]; · iexact Hin
  iintro ⟨Hst, Hdn⟩
  ihave Hheld := Hback $$ Hdn
  iapply (wp_seq 𝒱 none Set.univ d SA _ line1 line1_sub line1_fresh (A1 m d)) $$ [Hb Hheld]
  · isplitl [Hb]; · iexact Hb
    iexact Hheld
  iintro ⟨Hb, Hheld⟩
  rw [wp_bind]
  ihave H := (show (held (d.tc : Thread nD τ) SA (after line1 (A1 m d)) : sProp 𝕄) ⊢ _ from take1 m d) $$ Hheld
  icases H with ⟨Hin, Hback⟩
  iapply ((K (F := F)).wp_run (D (F := F)) 𝒱 (EH := EH) (P := P m) κ d 1) $$ [Hst Hin Hback Hb Hts]
  isplitr; · iexact Hctx
  isplitl [Hst]; · iexact Hst
  isplitl [Hin]; · iexact Hin
  iintro ⟨Hst, Hdn⟩
  ihave Hheld := Hback $$ Hdn
  iapply (wp_seq 𝒱 none Set.univ d SA _ line2 line2_sub line2_fresh (A2 m d)) $$ [Hb Hheld]
  · isplitl [Hb]; · iexact Hb
    iexact Hheld
  iintro ⟨Hb, Hheld⟩
  rw [wp_bind]
  ihave H := (show (held (d.tc : Thread nD τ) SA (after line2 (A2 m d)) : sProp 𝕄) ⊢ _ from take2 m d) $$ Hheld
  icases H with ⟨Hin, Hback⟩
  iapply ((K (F := F)).wp_run (D (F := F)) 𝒱 (EH := EH) (P := P m) κ d 2) $$ [Hst Hin Hback Hb Hts]
  isplitr; · iexact Hctx
  isplitl [Hst]; · iexact Hst
  isplitl [Hin]; · iexact Hin
  iintro ⟨Hst, Hdn⟩
  ihave Hheld := Hback $$ Hdn
  iapply (wp_seq 𝒱 none Set.univ d SA _ line3 line3_sub line3_fresh (A3 m d)) $$ [Hb Hheld]
  · isplitl [Hb]; · iexact Hb
    iexact Hheld
  iintro ⟨Hb, Hheld⟩
  sl_step
  isplitl [Hst]; · iexact Hst
  isplitl [Hheld]; · iexact Hheld
  isplitl [Hb] <;> iassumption

/-- The arrays @main ends with. -/
def fq (d : Dev nD) (s' : Phys nD τ sig (Elt F)) : Prop :=
  ∀ b : Ref sig .tc, ¬ b.isScoped → s'.mem.mem ((SparseCore.T d).loc b) = B3 m d (rf b)

omit [FloatOps F] in
/-- An array held outright at `f` is at `f` in memory. -/
theorem agree {s' : Phys nD τ sig (Elt F)} {ℓ : Loc nD τ sig} (f : Buf (Elt F) ℓ) :
    iprop((ℓ ↦{fullShare} f) ∗ SI s') ⊢ (⌜s'.mem.mem ℓ = f⌝ : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, -, -⟩
  ipureintro; exact funext fun i => h i (Finset.mem_univ i)

theorem hfin (d : Dev nD) (s' : Phys nD τ sig (Elt F)) : iprop(FIN m d ∗ SI s') ⊢ (⌜fq m d s'⌝ : sProp 𝕄) := by
  unfold fq
  refine (forall_intro fun b => ?_).trans pure_forall.2
  by_cases hb : b.isScoped
  · exact BI.pure_intro fun h => absurd hb h
  · have h : (held (T d) SA (B3 m d) : sProp 𝕄) ⊢ (SparseCore.T d).loc b ↦{fullShare} B3 m d (rf b) := by
      rw [held_sub_split (T d) (sub1 b hb) (B3 m d)]
      refine sep_elim_left.trans ?_
      unfold held; rw [bigSep_singleton]
    iintro ⟨H, HSI⟩
    ihave H := h $$ H
    ihave H := (agree (s' := s') (ℓ := (SparseCore.T d).loc b) _) $$ [H HSI]
    · isplitl [H] <;> iassumption
    icases H with %h
    ipureintro; exact fun _ => h

/-- What a run of @main leaves: the arguments unchanged, the four results at their values. -/
def QC : PUnit × MemSt nD τ sig (Elt F) → Prop := fun r =>
  (∀ d : Dev nD, (r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2))
    ∧ r.2.mem ((SparseCore.T d).loc main_v0_0) = sorted (bOf m d) ∧ r.2.mem ((SparseCore.T d).loc main_v0_1) = places (bOf m d)
    ∧ r.2.mem ((SparseCore.T d).loc main_v19) = rows1 m d ∧ r.2.mem ((SparseCore.T d).loc main_v20) = rows2 m d) ∧ r.2.sem = fun _ => 0

/-- The program's run, from buckets in their hashes' ranges. -/
theorem run_main [∀ e, Nonempty (Elt F e)] (hpre : Pre m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kFacts v₀
    (fun q hq => match q with | 0 => (nomatch hq) | 1 => (nomatch hq) | 2 => (nomatch hq))
    (fun q _ => match q with | 0 => sortObl m kFacts hpre | 1 => firstObl m kFacts | 2 => secondObl m kFacts)
    (fun q _ => match q with | 0 => SparseCore.Cfg.VecSplit.of_plain (vecSplit m 0) | 1 => SparseCore.Cfg.VecSplit.of_plain (vecSplit m 1) | 2 => SparseCore.Cfg.VecSplit.of_plain (vecSplit m 2))
    m ρ main (fun _ => iprop(emp)) (FIN m) (u₀ (F := F)) (sep_elim_left.trans (hu₀ m)) (hmain m ρ) (fq m) (hfin m) (QC m)
    (fun _ h hz => ⟨fun d => ⟨⟨(h d main_arg0 (by decide)).trans (B3_arg0 m d), (h d main_arg1 (by decide)).trans (B3_arg1 m d),
        (h d main_arg2 (by decide)).trans (B3_arg2 m d)⟩, (h d main_v0_0 (by decide)).trans (B3_st m d), (h d main_v0_1 (by decide)).trans (B3_un m d),
        (h d main_v19 (by decide)).trans (B3_first m d), (h d main_v20 (by decide)).trans (B3_second m d)⟩, hz⟩)

end Cert.Proof.Rows

end
-- ==== Proof.RefSort.lean ====
/-
  The reference's two stable sorts, as values. The keys of one sequence are distinct and stand in the order of the places the counting
  sort gives, so the first sort leaves at each place the element that has that place, and the second leaves at each element its place.
-/
module

public import proofs.«01_k».proof.Defs
public import proofs.«01_k».proof.Proof.Gen.ReferenceIdeal
public import proofs.«01_k».proof.Proof.Gen.ReferenceIdeal.Run
public import proofs.«01_k».proof.Proof.SortTask
public import Idealize.ShloMosaic.Lib.SortFacts
public import Idealize.ShloMosaic.Lib.Routing.Words
public import Idealize.ShloMosaic.Lib.Pipeline.Value

@[expose] public section

noncomputable section

namespace Cert.Proof.RefSort

open Cert.ReferenceIdeal Cert.ReferenceIdeal.Gen
open Idealize.ShloMosaic Idealize.ShloMosaic.ValueIdx Idealize.ShloMosaic.Pipeline
open Cert.Proof.Count Cert.Proof.SortVal Cert.Proof.Rows

/-! ## The permutation of a sequence -/

variable (fb : S4x4x4096.Idx → BitVec 32) (b : Fin 4)

def quarter (k : Fin 16384) : Fin 4 := ⟨k.val / 4096, by omega⟩

/-- The buckets, counted from its hash's first, of the quarter that element `k` lies in. -/
def bk (k : Fin 16384) : ℕ → ℕ := bkt (row fb b (quarter k)) (quarter k).val

def placeOf (k : Fin 16384) : Fin 16384 :=
  ⟨rk (bk fb b k) (k.val % 4096) + (quarter k).val * 4096, by
    have := rk_lt (bk fb b k) (s := k.val % 4096) (by omega); have := (quarter k).isLt; omega⟩

def elementAt (r : Fin 16384) : Fin 16384 :=
  ⟨inv (bk fb b r) (r.val % 4096) + (quarter r).val * 4096, by
    have := inv_lt (bk fb b r) (r.val % 4096); have := (quarter r).isLt; omega⟩

theorem quarter_eq {n : ℕ} {q : Fin 4} (hn : n < 4096) (h : n + q.val * 4096 < 16384) : quarter ⟨n + q.val * 4096, h⟩ = q :=
  Fin.ext (show (n + q.val * 4096) / 4096 = q.val by omega)

/-- Element to place, and back. -/
def place : Equiv.Perm (Fin 16384) where
  toFun := placeOf fb b
  invFun := elementAt fb b
  left_inv k := by
    have hlt := rk_lt (bk fb b k) (s := k.val % 4096) (by omega)
    have hq : quarter (placeOf fb b k) = quarter k := quarter_eq hlt _
    have hv : (placeOf fb b k).val = rk (bk fb b k) (k.val % 4096) + (quarter k).val * 4096 := rfl
    have hb : bk fb b (placeOf fb b k) = bk fb b k := by unfold bk; rw [hq]
    refine Fin.ext ?_
    show inv (bk fb b (placeOf fb b k)) ((placeOf fb b k).val % 4096) + (quarter (placeOf fb b k)).val * 4096 = k.val
    rw [hb, hq, hv, show (rk (bk fb b k) (k.val % 4096) + (quarter k).val * 4096) % 4096 = rk (bk fb b k) (k.val % 4096) by omega,
      inv_rk _ (by omega)]
    show k.val % 4096 + k.val / 4096 * 4096 = k.val
    omega
  right_inv r := by
    have hlt := inv_lt (bk fb b r) (r.val % 4096)
    have hq : quarter (elementAt fb b r) = quarter r := quarter_eq hlt _
    have hv : (elementAt fb b r).val = inv (bk fb b r) (r.val % 4096) + (quarter r).val * 4096 := rfl
    have hb : bk fb b (elementAt fb b r) = bk fb b r := by unfold bk; rw [hq]
    refine Fin.ext ?_
    show rk (bk fb b (elementAt fb b r)) ((elementAt fb b r).val % 4096) + (quarter (elementAt fb b r)).val * 4096 = r.val
    rw [hb, hq, hv, show (inv (bk fb b r) (r.val % 4096) + (quarter r).val * 4096) % 4096 = inv (bk fb b r) (r.val % 4096) by omega,
      rk_inv _ (by omega)]
    show r.val % 4096 + r.val / 4096 * 4096 = r.val
    omega

theorem places_eq (k : Fin 16384) : places fb (ix2 b k) = BitVec.ofNat 32 (place fb b k).val := rfl

theorem sorted_eq (r : Fin 16384) : sorted fb (ix2 b r) = BitVec.ofNat 32 (((place fb b).symm r).val % 4096) := by
  have hlt := inv_lt (bk fb b r) (r.val % 4096)
  have hv : ((place fb b).symm r).val = inv (bk fb b r) (r.val % 4096) + (quarter r).val * 4096 := rfl
  rw [hv, show (inv (bk fb b r) (r.val % 4096) + (quarter r).val * 4096) % 4096 = inv (bk fb b r) (r.val % 4096) by omega]
  rfl

/-- The key of element `k`: 4096 times its bucket, plus its number. -/
def key (k : Fin 16384) : ℕ := 4096 * (fb (ix3 b (quarter k) (⟨k.val % 4096, by omega⟩ : Fin 4096))).toNat + k.val % 4096

variable {fb}

theorem key_eq (h : InBuckets fb) (k : Fin 16384) :
    key fb b k = 4096 * ((quarter k).val * 64 + bk fb b k (k.val % 4096)) + k.val % 4096 ∧ bk fb b k (k.val % 4096) < 64 := by
  have hi := h b (quarter k) (at4096 (k.val % 4096))
  have hl := bkt_lt (h b (quarter k)) (k.val % 4096)
  have hr : row fb b (quarter k) (at4096 (k.val % 4096)) = fb (ix3 b (quarter k) (⟨k.val % 4096, by omega⟩ : Fin 4096)) := by
    unfold row
    exact congrArg (fun j => fb (ix3 b (quarter k) j)) (Fin.ext (at4096_val (by omega)))
  refine ⟨?_, hl⟩
  unfold key bk bkt
  rw [hr] at hi ⊢
  omega

theorem key_lt (h : InBuckets fb) (k : Fin 16384) : key fb b k < 2 ^ 20 := by
  have := key_eq b h k; have := (quarter k).isLt; omega

/-- A smaller key has an earlier place. -/
theorem place_lt_of (h : InBuckets fb) {k k' : Fin 16384} (hk : key fb b k < key fb b k') : place fb b k < place fb b k' := by
  have e := key_eq b h k
  have e' := key_eq b h k'
  have l := rk_lt (bk fb b k) (s := k.val % 4096) (by omega)
  show rk (bk fb b k) (k.val % 4096) + (quarter k).val * 4096 < rk (bk fb b k') (k'.val % 4096) + (quarter k').val * 4096
  rcases Nat.lt_or_ge (quarter k).val (quarter k').val with hq | hq
  · omega
  · have hq : quarter k = quarter k' := Fin.ext (by omega)
    have hb : bk fb b k = bk fb b k' := by unfold bk; rw [hq]
    have hs := congrFun hb (k.val % 4096)
    have hv := congrArg Fin.val hq
    rw [hb]
    have := rk_lt_of (bk fb b k') (s := k.val % 4096) (t := k'.val % 4096) (by omega) (by omega)
    omega

theorem key_lt_iff (h : InBuckets fb) (k k' : Fin 16384) : key fb b k < key fb b k' ↔ place fb b k < place fb b k' := by
  refine ⟨place_lt_of b h, fun hp => ?_⟩
  rcases Nat.lt_trichotomy (key fb b k) (key fb b k') with hk | hk | hk
  · exact hk
  · have e := key_eq b h k
    have e' := key_eq b h k'
    have : k = k' := Fin.ext (by
      have hk1 : (quarter k).val = k.val / 4096 := rfl
      have hk2 : (quarter k').val = k'.val / 4096 := rfl
      omega)
    exact absurd hp (by rw [this]; exact lt_irrefl _)
  · exact absurd (place_lt_of b h hk) (not_lt.mpr hp.le)

/-! ## A sort by distinct keys -/

theorem get_of_eq {α : Type} {n : ℕ} (f : Fin n → α) (l : List α) (hl : l = List.ofFn f) (k : Fin l.length) (hk : k.val < n) :
    l.get k = f ⟨k.val, hk⟩ := by
  subst hl; simp

/-- Where the order of the keys is the order of the places `σ`, the element sorted to place `r` is the one whose place is `r`. -/
theorem sortedFrom_place {n : ℕ} (σ : Equiv.Perm (Fin n)) (before : Fin n → Fin n → Bool)
    (h : ∀ k k', before k k' = decide (σ k < σ k')) (r : Fin n) : sortedFrom before r = σ.symm r := by
  have hb : before = fun k k' => decide (σ.symm.symm k < σ.symm.symm k') := by funext k k'; exact h k k'
  subst hb
  exact get_of_eq σ.symm _ (sortPositions_of_perm σ.symm) _ r.isLt

theorem sort_place (x y : IVec S4x16384 32) (σ : Equiv.Perm (Fin 16384))
    (h : ∀ k k' : Fin 16384, (x (ix2 b k)).slt (x (ix2 b k')) = decide (σ k < σ k')) (r : Fin 16384) :
    (Host.sort2 S4x16384 1 comparator_i32_i32_d1 x y).2 (ix2 b r) = y (ix2 b (σ.symm r)) := by
  have along (k : Fin 16384) : (ix2 b r : S4x16384.Idx).along 1 k = ix2 b k := by
    funext a; match a with | 0 => rfl | 1 => rfl
  unfold Host.sort2
  rw [dif_pos (show (1 : ℕ) < S4x16384.rank by decide)]
  refine (congrArg y (along (sortedFrom _ r))).trans ?_
  refine congrArg (fun k => y (ix2 b k)) (sortedFrom_place σ _ (fun k k' => ?_) r)
  show (IntOp.cmpi .slt (x ((ix2 b r : S4x16384.Idx).along 1 k)) (x ((ix2 b r : S4x16384.Idx).along 1 k')) == 1#1) = _
  refine (congrArg₂ (fun i j => IntOp.cmpi .slt (x i) (x j) == 1#1) (along k) (along k')).trans ?_
  rw [← h k k']
  show (BitVec.ofBool _ == 1#1) = _
  cases (x (ix2 b k)).slt (x (ix2 b k')) <;> rfl

/-- Words of small numbers compare as the numbers. -/
theorem slt_word {m n : ℕ} (hm : m < 2 ^ 31) (hn : n < 2 ^ 31) : (BitVec.ofNat 32 m).slt (BitVec.ofNat 32 n) = decide (m < n) := by
  rw [BitVec.slt_eq_decide]
  have e {k : ℕ} (hk : k < 2 ^ 31) : (BitVec.ofNat 32 k).toInt = k := by
    rw [BitVec.toInt_eq_toNat_cond, BitVec.toNat_ofNat, Nat.mod_eq_of_lt (by omega), if_pos (by omega)]
  rw [e hm, e hn]
  simp only [Nat.cast_lt]

/-! ## The reference's lines -/

/-- The remainder by 4096, as the reference takes it: the sign follows the divisor. -/
def modulus : IVec S_ 32 :=
  select (cmpi .eq (id (constantI S_ 32 4096#32)) (constantI S_ 32 0#32)) (constantI S_ 32 1#32) (id (constantI S_ 32 4096#32))
def rems (x : IVec S4x16384 32) : IVec S4x16384 32 := Host.remsi x (broadcastInDim S4x16384 ![] bcast_S_S4x16384 modulus)
def remainder (x : IVec S4x16384 32) : IVec S4x16384 32 :=
  select (andi (cmpi .ne (cmpi .slt (rems x) (broadcastInDim S4x16384 ![] bcast_S_S4x16384 (constantI S_ 32 0#32)))
      (broadcastInDim S4x16384 ![] bcast_S_S4x16384 (cmpi .slt modulus (constantI S_ 32 0#32))))
    (cmpi .ne (rems x) (broadcastInDim S4x16384 ![] bcast_S_S4x16384 (constantI S_ 32 0#32))))
    (addi (rems x) (broadcastInDim S4x16384 ![] bcast_S_S4x16384 modulus)) (rems x)

theorem remainder_word (x : IVec S4x16384 32) (j : S4x16384.Idx) {n : ℕ} (hn : n < 2 ^ 31) (h : x j = BitVec.ofNat 32 n) :
    remainder x j = BitVec.ofNat 32 (n % 4096) := by
  have hr : rems x j = BitVec.ofNat 32 (n % 4096) := by
    show IntOp.remsi .host (x j) 4096#32 = _
    rw [h]; exact Routing.remsi_word .host hn (by decide) (by decide)
  have hs : IntOp.cmpi .slt (BitVec.ofNat 32 (n % 4096)) 0#32 = 0#1 := by
    show BitVec.ofBool ((BitVec.ofNat 32 (n % 4096)).slt (BitVec.ofNat 32 0)) = 0#1
    rw [slt_word (by omega) (by decide)]; simp
  show Scalar.select (IntOp.andi (IntOp.cmpi .ne (IntOp.cmpi .slt (rems x j) 0#32) (IntOp.cmpi .slt 4096#32 0#32))
    (IntOp.cmpi .ne (rems x j) 0#32)) (rems x j + 4096#32) (rems x j) = _
  rw [hr, hs, show IntOp.cmpi .slt 4096#32 0#32 = 0#1 from rfl, show IntOp.cmpi .ne (0#1) (0#1) = 0#1 from rfl,
    show ∀ v, IntOp.andi (0#1) v = 0#1 from by decide]
  rfl

def numbers : IVec S4x16384 32 := iotaInDim S4x16384 32 1
def ticker : IVec S4x16384 32 :=
  broadcastInDim S4x16384 ![0, 1] bcast_S1x16384_S4x16384_0_1 (broadcastInDim S1x16384 ![1] bcast_S16384_S1x16384_1 (iotaInDim S16384 32 0))

variable (fb)
def keys : IVec S4x16384 32 :=
  addi (muli (broadcastInDim S4x16384 ![] bcast_S_S4x16384 (constantI S_ 32 4096#32)) (shapeCast S4x16384 fb shapeCasts_S4x4x4096_S4x16384))
    (remainder ticker)
def sticker : IVec S4x16384 32 := (Host.sort2 S4x16384 1 comparator_i32_i32_d1 (keys fb) numbers).2
def undo : IVec S4x16384 32 := (Host.sort2 S4x16384 1 comparator_i32_i32_d1 (sticker fb) numbers).2

theorem keys_at (k : Fin 16384) : keys fb (ix2 b k) = BitVec.ofNat 32 (key fb b k) := by
  have hs : shapeCast S4x16384 fb shapeCasts_S4x4x4096_S4x16384 (ix2 b k) = fb (ix3 b (quarter k) (⟨k.val % 4096, by omega⟩ : Fin 4096)) :=
    shapeCast_apply _ _ _ _ (by
      rw [Shape.rowMajor_val_two, Shape.rowMajor_val_three]
      show (b.val * 4 + k.val / 4096) * 4096 + k.val % 4096 = b.val * 16384 + k.val
      omega)
  have ht : remainder ticker (ix2 b k) = BitVec.ofNat 32 (k.val % 4096) :=
    remainder_word ticker (ix2 b k) (n := k.val) (by omega) (by
      unfold ticker
      rw [broadcastInDim_apply _ _ _ _ (ix2 (0 : Fin 1) k) (by intro a; match a with | ⟨0, _⟩ => rfl | ⟨1, _⟩ => rfl),
        broadcastInDim_apply _ _ _ _ (ix1 k) (by intro a; match a with | ⟨0, _⟩ => rfl)]
      rfl)
  show 4096#32 * shapeCast S4x16384 fb shapeCasts_S4x4x4096_S4x16384 (ix2 b k) + remainder ticker (ix2 b k) = _
  rw [hs, ht]
  unfold key
  refine BitVec.eq_of_toNat_eq ?_
  simp only [BitVec.toNat_add, BitVec.toNat_mul, BitVec.toNat_ofNat, Nat.reducePow, Nat.reduceMod]
  omega

variable {fb}

theorem sticker_at (h : InBuckets fb) (r : Fin 16384) : sticker fb (ix2 b r) = BitVec.ofNat 32 ((place fb b).symm r).val := by
  unfold sticker
  rw [sort_place b (keys fb) numbers (place fb b) (fun k k' => ?_) r]
  · rfl
  · have l := key_lt b h k
    have l' := key_lt b h k'
    rw [keys_at, keys_at, slt_word (by omega) (by omega)]
    exact decide_eq_decide.mpr (key_lt_iff b h k k')

theorem undo_at (h : InBuckets fb) (k : Fin 16384) : undo fb (ix2 b k) = BitVec.ofNat 32 (place fb b k).val := by
  unfold undo
  rw [sort_place b (sticker fb) numbers (place fb b).symm (fun r r' => ?_) k]
  · rfl
  · rw [sticker_at b h, sticker_at b h, slt_word (by omega) (by omega)]
    exact decide_eq_decide.mpr Iff.rfl

/-- The places the second sort leaves are the counting sort's. -/
theorem undo_eq (h : InBuckets fb) : undo fb = places fb := by
  funext j
  obtain ⟨b, k, rfl⟩ : ∃ (b : Fin 4) (k : Fin 16384), j = ix2 b k := ⟨j 0, j 1, eq_ix2 j⟩
  exact (undo_at _ h _).trans (places_eq fb _ _).symm

/-- The numbers the first sort leaves are the counting sort's. -/
theorem st_eq (h : InBuckets fb) : remainder (sticker fb) = sorted fb := by
  funext j
  obtain ⟨b, r, rfl⟩ : ∃ (b : Fin 4) (r : Fin 16384), j = ix2 b r := ⟨j 0, j 1, eq_ix2 j⟩
  exact (remainder_word _ _ (by omega) (sticker_at _ h _)).trans (sorted_eq fb _ _).symm

end Cert.Proof.RefSort

end
-- ==== Proof.RowGather.lean ====
/-
  A gather of whole rows out of a stack of tables, read at an entry: the result's row `(b, j)` is row `idx[b, j, 0]` of
  table `b`, the index read signed and clamped into the table.
-/
module

public import Idealize.ShloMosaic.Lib.ValueIdx
public import Idealize.ShloMosaic.PureOps

@[expose] public section

noncomputable section

namespace Cert.Proof.RowGather

open Idealize.ShloMosaic Idealize.ShloMosaic.ValueIdx

variable {α : Type}

/-- The dimension numbers of `vmap(lambda x, i: x[i])` over rows: `B` tables of `N` rows of `C` entries, `K` indices each. -/
abbrev dims (B N C K : Nat)
    (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- Entry `(b, j, y)` of the gathered rows is entry `(b, r, y)` of the tables, `r` the index at `(b, j, 0)` where that lies in the table. -/
theorem apply {B N C K w : Nat}
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ w) (b : Fin B) (j : Fin K) (y : Fin C) (r : Fin N)
    (hr : (idx (ix3 b j (0 : Fin 1))).toInt.toNat = r.val) :
    Host.gather (dims B N C K wf) x idx (ix3 b j y) = x (ix3 b r y) := by
  unfold Host.gather
  congr 1
  funext a
  refine Fin.ext ?_
  show (dims B N C K wf).start (ix3 b j y) idx a + (dims B N C K wf).batchCoord (ix3 b j y) a
      + (dims B N C K wf).offCoord (ix3 b j y) a = _
  match a with
  | ⟨0, _⟩ =>
    show (dims B N C K wf).start (ix3 b j y) idx 0 + (dims B N C K wf).batchCoord (ix3 b j y) 0
      + (dims B N C K wf).offCoord (ix3 b j y) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (dims B N C K wf).start (ix3 b j y) idx 1 + (dims B N C K wf).batchCoord (ix3 b j y) 1
      + (dims B N C K wf).offCoord (ix3 b j y) 1 = r.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims B N C K wf).startIndexMap from List.mem_singleton.mpr rfl)]
    have hsi : (dims B N C K wf).siIdx (ix3 b j y) ⟨List.idxOf (1 : Fin 3) (dims B N C K wf).startIndexMap,
        List.idxOf_lt_length_iff.2 (List.mem_singleton.mpr rfl)⟩ = ix3 b j (0 : Fin 1) := by
      funext k; refine Fin.ext ?_
      match k with
      | ⟨0, _⟩ => rfl
      | ⟨1, _⟩ => rfl
      | ⟨2, _⟩ => rfl
    rw [hsi, hr]
    show min r.val (N - 1) = r.val
    have := r.isLt; omega
  | ⟨2, _⟩ =>
    show (dims B N C K wf).start (ix3 b j y) idx 2 + (dims B N C K wf).batchCoord (ix3 b j y) 2
      + (dims B N C K wf).offCoord (ix3 b j y) 2 = y.val
    rw [GatherDims.batchCoord_eq_zero _ _ _ (fun h => by simp at h)]
    unfold GatherDims.start
    rw [dif_neg (fun h => by simp at h)]
    simp only [Nat.zero_add]
    unfold GatherDims.offCoord
    rw [dif_pos ((GatherDims.mem_sKept _ _).mpr ⟨fun h => by simp at h, fun h => by simp at h⟩)]
    rfl

end Cert.Proof.RowGather

end
-- ==== Proof.RefRows.lean ====
/-
  The reference's two batched indexings, as values: with indices in range its wrap of negative indices does nothing, and the rows of
  all sequences are the rows that the flat table holds at the shifted indices.
-/
module

public import proofs.«01_k».proof.Proof.RefSort
public import proofs.«01_k».proof.Proof.RowGather
public import proofs.«01_k».proof.Proof.Launch

@[expose] public section

noncomputable section

namespace Cert.Proof.RefRows

open Cert.ReferenceIdeal Cert.ReferenceIdeal.Gen
open Idealize.ShloMosaic Idealize.ShloMosaic.ValueIdx Idealize.ShloMosaic.Pipeline
open Cert.Proof.Rows
open Cert.KernelIdeal (S65536 S65536x128 S16384x128)

/-- A word below 2^31 is not negative: the wrap of negative indices leaves it, and its signed value is its value. -/
theorem unwrapped (v w : BitVec 32) (h : v.toNat < 2 ^ 31) :
    (Scalar.select (IntOp.cmpi .slt v 0#32) w v).toInt.toNat = v.toNat := by
  have hv : v.toInt = v.toNat := by rw [BitVec.toInt_eq_toNat_cond, if_pos (by omega)]
  have h0 : IntOp.cmpi .slt v 0#32 = 0#1 := by
    have : (v.slt 0#32) = false := by
      rw [BitVec.slt_eq_decide, hv, BitVec.toInt_zero, decide_eq_false_iff_not]; omega
    simp only [IntOp.cmpi, this]; rfl
  rw [h0]
  show v.toInt.toNat = v.toNat
  rw [hv]; rfl

/-- The indices as the reference reads rows at them. -/
def wrapped (n : BitVec 32) (st : IVec S4x16384 32) : IVec S4x16384x1 32 :=
  broadcastInDim S4x16384x1 ![0, 1] bcast_S4x16384_S4x16384x1_0_1
    (select (cmpi .slt st (broadcastInDim S4x16384 ![] bcast_S_S4x16384 (constantI S_ 32 0#32)))
      (addi st (broadcastInDim S4x16384 ![] bcast_S_S4x16384 (constantI S_ 32 n))) st)

theorem wrapped_at (n : BitVec 32) (st : IVec S4x16384 32) (b : Fin 4) (k : Fin 16384) (h : (st (ix2 b k)).toNat < 2 ^ 31) :
    (wrapped n st (ix3 b k (0 : Fin 1))).toInt.toNat = (st (ix2 b k)).toNat := by
  unfold wrapped
  rw [broadcastInDim_apply _ _ _ _ (ix2 b k) (by intro a; match a with | ⟨0, _⟩ => rfl | ⟨1, _⟩ => rfl)]
  exact unwrapped _ (st (ix2 b k) + n) h

/-- The flat list: sequence `b`'s indices, each shifted by `n` times `b`. -/
def flat (n : BitVec 32) (st : IVec S4x16384 32) : IVec S65536 32 :=
  shapeCast S65536 (addi st (fun j => BitVec.ofNat 32 (j 0).val * n)) Cert.KernelIdeal.Gen.shapeCasts_S4x16384_S65536

theorem flat_at (n : BitVec 32) (st : IVec S4x16384 32) (b : Fin 4) (k : Fin 16384) (p : S65536.Idx) (hp : (p 0).val = b.val * 16384 + k.val)
    (hn : n.toNat ≤ 16384) (h : (st (ix2 b k)).toNat < 2 ^ 31) : (flat n st p).toNat = b.val * n.toNat + (st (ix2 b k)).toNat := by
  unfold flat
  rw [shapeCast_apply _ _ p (ix2 b k) (by rw [Shape.rowMajor_val_one, Shape.rowMajor_val_two]; exact hp.symm)]
  show (st (ix2 b k) + BitVec.ofNat 32 b.val * n).toNat = _
  have hb := b.isLt
  have hm : b.val * n.toNat ≤ 3 * 16384 := Nat.mul_le_mul (by omega) hn
  rw [BitVec.toNat_add, BitVec.toNat_mul, BitVec.toNat_ofNat, Nat.mod_eq_of_lt (a := b.val) (by omega),
    Nat.mod_eq_of_lt (a := b.val * n.toNat) (by omega), Nat.mod_eq_of_lt (by omega)]
  omega

variable {F : FTy → Type}

/-- The rows by sorted number. -/
theorem first_rows (a : S4x4096x128.Idx → F .f32) (st : IVec S4x16384 32) (h : ∀ j, (st j).toNat < 4096) :
    Host.gather gather_S4x4096x128_S4x16384x1_S4x16384x128_2_1_0_0_1_2_11128 a (wrapped 4096#32 st)
      = shapeCast S4x16384x128 (First.gath (shapeCast S16384x128 a Cert.KernelIdeal.Gen.shapeCasts_S4x4096x128_S16384x128) (flat 4096#32 st))
          Cert.KernelIdeal.Gen.shapeCasts_S65536x128_S4x16384x128 := by
  funext x
  obtain ⟨b, k, y, rfl⟩ : ∃ (b : Fin 4) (k : Fin 16384) (y : Fin 128), x = ix3 b k y := ⟨x 0, x 1, x 2, eq_ix3 x⟩
  have hk := h (ix2 b k)
  have hb := b.isLt
  have hp : b.val * 16384 + k.val < 65536 := by omega
  rw [show gather_S4x4096x128_S4x16384x1_S4x16384x128_2_1_0_0_1_2_11128
    = RowGather.dims 4 4096 128 16384 gather_S4x4096x128_S4x16384x1_S4x16384x128_2_1_0_0_1_2_11128_wf from rfl]
  rw [RowGather.apply _ _ _ b k y ⟨_, hk⟩ (wrapped_at _ st b k (by omega)),
    shapeCast_apply _ _ (ix3 b k y) (ix2 (⟨b.val * 16384 + k.val, hp⟩ : Fin 65536) y) (by
      rw [Shape.rowMajor_val_two, Shape.rowMajor_val_three]; rfl)]
  unfold First.gath
  refine (shapeCast_apply _ _ _ _ ?_).symm
  have e := flat_at 4096#32 st b k
    (fun a => match a with | 0 => (ix2 (⟨b.val * 16384 + k.val, hp⟩ : Fin 65536) y) 0) rfl (by decide) (by omega)
  rw [Shape.rowMajor_val_two, Shape.rowMajor_val_three]
  show (b.val * 4096 + (st (ix2 b k)).toNat) * 128 + y.val
    = ((flat 4096#32 st (fun a => match a with | 0 => (ix2 (⟨b.val * 16384 + k.val, hp⟩ : Fin 65536) y) 0)).toNat % 16384) * 128 + y.val
  rw [e, show (4096#32).toNat = 4096 from rfl]; omega

/-- The rows by place. -/
theorem second_rows (a : S4x16384x128.Idx → F .f32) (un : IVec S4x16384 32) (h : ∀ j, (un j).toNat < 16384) :
    Host.gather gather_S4x16384x128_S4x16384x1_S4x16384x128_2_1_0_0_1_2_11128 a (wrapped 16384#32 un)
      = shapeCast S4x16384x128 (Second.gath (shapeCast S65536x128 a Cert.KernelIdeal.Gen.shapeCasts_S4x16384x128_S65536x128) (flat 16384#32 un))
          Cert.KernelIdeal.Gen.shapeCasts_S65536x128_S4x16384x128 := by
  funext x
  obtain ⟨b, k, y, rfl⟩ : ∃ (b : Fin 4) (k : Fin 16384) (y : Fin 128), x = ix3 b k y := ⟨x 0, x 1, x 2, eq_ix3 x⟩
  have hk := h (ix2 b k)
  have hb := b.isLt
  have hp : b.val * 16384 + k.val < 65536 := by omega
  rw [show gather_S4x16384x128_S4x16384x1_S4x16384x128_2_1_0_0_1_2_11128
    = RowGather.dims 4 16384 128 16384 gather_S4x16384x128_S4x16384x1_S4x16384x128_2_1_0_0_1_2_11128_wf from rfl]
  rw [RowGather.apply _ _ _ b k y ⟨_, hk⟩ (wrapped_at _ un b k (by omega)),
    shapeCast_apply _ _ (ix3 b k y) (ix2 (⟨b.val * 16384 + k.val, hp⟩ : Fin 65536) y) (by
      rw [Shape.rowMajor_val_two, Shape.rowMajor_val_three]; rfl)]
  unfold Second.gath
  refine (shapeCast_apply _ _ _ _ ?_).symm
  have e := flat_at 16384#32 un b k
    (fun a => match a with | 0 => (ix2 (⟨b.val * 16384 + k.val, hp⟩ : Fin 65536) y) 0) rfl (by decide) (by omega)
  rw [Shape.rowMajor_val_two, Shape.rowMajor_val_three]
  show (b.val * 16384 + (un (ix2 b k)).toNat) * 128 + y.val
    = ((flat 16384#32 un (fun a => match a with | 0 => (ix2 (⟨b.val * 16384 + k.val, hp⟩ : Fin 65536) y) 0)).toNat % 65536) * 128 + y.val
  rw [e, show (16384#32).toNat = 16384 from rfl]; omega

end Cert.Proof.RefRows

end
-- ==== Proof.HashPick.lean ====
/- The first place at which 64 scores are greatest: what the kernel's least equal index, and the reference's running
   winner over (score, index) pairs, both come to. -/
module

public import proofs.«01_k».proof.Defs
public import Idealize.ShloMosaic.Lib.Pointwise

@[expose] public section

noncomputable section

namespace Cert.Proof.HashPick

open Idealize.ShloMosaic

/-- `w` names the first place at which `f` is greatest. -/
def IsFirst (f : Fin 64 → EReal) (w : BitVec 32) : Prop :=
  ∃ k : Fin 64, w = BitVec.ofNat 32 k.val ∧ ∀ k', f k' < f k ∨ (f k' = f k ∧ k ≤ k')

theorem IsFirst.unique {f : Fin 64 → EReal} {w w' : BitVec 32} (h : IsFirst f w) (h' : IsFirst f w') : w = w' := by
  obtain ⟨k, rfl, hk⟩ := h
  obtain ⟨k', rfl, hk'⟩ := h'
  have e : k = k' := by
    rcases hk k' with a | ⟨a, b⟩
    · rcases hk' k with c | ⟨c, _⟩
      · exact absurd a (lt_asymm c)
      · exact absurd a (by rw [c]; exact lt_irrefl _)
    · rcases hk' k with c | ⟨_, d⟩
      · exact absurd c (by rw [a]; exact lt_irrefl _)
      · exact le_antisymm b d
  rw [e]

theorem bottom : Ideal.ofBits .f32 0xFF800000#32 = (⊥ : EReal) := by simp [Ideal.ofBits, Ideal.ieee]

/-- The greatest score. -/
def best (f : Fin 64 → EReal) : EReal := Finset.fold max (Ideal.ofBits .f32 0xFF800000#32) f Finset.univ

theorem le_best (f : Fin 64 → EReal) (k : Fin 64) : f k ≤ best f :=
  (Finset.le_fold_max _).2 (.inr ⟨k, Finset.mem_univ _, le_rfl⟩)

theorem best_hit (f : Fin 64 → EReal) : ∃ k, f k = best f := by
  rcases (Finset.le_fold_max (f := f) (s := Finset.univ) (b := Ideal.ofBits .f32 0xFF800000#32) (best f)).1 le_rfl with h | ⟨k, _, h⟩
  · exact ⟨0, le_antisymm (le_best f 0) (h.trans (by rw [bottom]; exact bot_le))⟩
  · exact ⟨k, le_antisymm (le_best f k) h⟩

theorem minsi_toInt (x y : BitVec 32) : (IntOp.minsi x y).toInt = min x.toInt y.toInt := by
  unfold IntOp.minsi
  by_cases h : x.slt y = true
  · have h' : x.toInt < y.toInt := by simpa [BitVec.slt] using h
    simp [h, min_eq_left h'.le]
  · have h' : y.toInt ≤ x.toInt := by simpa [BitVec.slt] using h
    simp [h, min_eq_right h']

theorem small (k : Fin 64) : (BitVec.ofNat 32 k.val).toInt = (k.val : ℤ) := by
  revert k; decide

/-- The least of the places that hold the greatest score. -/
def least (f : Fin 64 → EReal) : BitVec 32 :=
  Finset.fold IntOp.minsi 2147483647#32
    (fun k : Fin 64 => if f k = best f then BitVec.ofNat 32 k.val else 1073741824#32) Finset.univ

/-- It is the first place at which `f` is greatest. -/
theorem first_of_least (f : Fin 64 → EReal) : IsFirst f (least f) := by
  classical
  unfold least
  obtain ⟨k, hk, hmin⟩ := Finset.exists_min_image (Finset.univ.filter fun k : Fin 64 => f k = best f) id
    (by obtain ⟨k, h⟩ := best_hit f; exact ⟨k, by simpa using h⟩)
  have hk' : f k = best f := by simpa using hk
  have hleast : ∀ k', f k' = best f → k ≤ k' := fun k' h => hmin k' (by simpa using h)
  refine ⟨k, ?_, fun k' => ?_⟩
  · apply BitVec.eq_of_toInt_eq
    rw [← Finset.fold_hom (op := IntOp.minsi) (op' := min) (m := BitVec.toInt) minsi_toInt, small]
    refine le_antisymm ((Finset.fold_min_le _).2 (.inr ⟨k, Finset.mem_univ _, ?_⟩)) ((Finset.le_fold_min _).2 ⟨?_, fun k' _ => ?_⟩)
    · rw [if_pos hk', small]
    · have h : k.val < 64 := k.isLt
      show (k.val : ℤ) ≤ 2147483647
      omega
    · have h : k.val < 64 := k.isLt
      by_cases e : f k' = best f
      · rw [if_pos e, small]
        exact_mod_cast hleast k' e
      · rw [if_neg e]
        show (k.val : ℤ) ≤ 1073741824
        omega
  · rcases lt_or_eq_of_le (le_best f k') with h | h
    · exact .inl (by rw [hk']; exact h)
    · exact .inr ⟨by rw [hk', h], hleast k' h⟩

/-! ## The running winner -/

/-- A pair beats another when its score is greater, or the scores are equal and its index no later. -/
def Beats (r p : EReal × BitVec 32) : Prop := p.1 < r.1 ∨ (p.1 = r.1 ∧ r.2.toInt ≤ p.2.toInt)

theorem Beats.refl (p : EReal × BitVec 32) : Beats p p := .inr ⟨rfl, le_rfl⟩

theorem Beats.trans {a b c : EReal × BitVec 32} (h : Beats a b) (h' : Beats b c) : Beats a c := by
  rcases h with h | ⟨h, hi⟩ <;> rcases h' with h' | ⟨h', hi'⟩
  · exact .inl (h'.trans h)
  · exact .inl (by rw [h']; exact h)
  · exact .inl (by rw [← h]; exact h')
  · exact .inr ⟨h'.trans h, hi.trans hi'⟩

/-- A step that keeps one of its two pairs, one that beats both, keeps in the end a pair that beats them all. -/
theorem winner (g : EReal × BitVec 32 → EReal × BitVec 32 → EReal × BitVec 32)
    (hg : ∀ a b, (g a b = a ∨ g a b = b) ∧ Beats (g a b) a ∧ Beats (g a b) b) (l : List (EReal × BitVec 32)) :
    ∀ p, (l.foldl g p = p ∨ l.foldl g p ∈ l) ∧ Beats (l.foldl g p) p ∧ ∀ q ∈ l, Beats (l.foldl g p) q := by
  induction l with
  | nil => exact fun p => ⟨.inl rfl, .refl _, fun _ h => absurd h (List.not_mem_nil)⟩
  | cons a l ih =>
    intro p
    obtain ⟨h1, h2, h3⟩ := ih (g p a)
    obtain ⟨e, hp, ha⟩ := hg p a
    rw [List.foldl_cons]
    refine ⟨?_, h2.trans hp, fun q hq => ?_⟩
    · rcases h1 with h | h
      · rcases e with e | e
        · exact .inl (h.trans e)
        · exact .inr (by rw [h, e]; exact List.mem_cons_self)
      · exact .inr (List.mem_cons_of_mem _ h)
    · rcases List.mem_cons.1 hq with rfl | hq
      · exact h2.trans ha
      · exact h3 q hq

/-- Over the pairs (score, place), in any order, from the pair of the least score and place zero: the first. -/
theorem first_of_winner (f : Fin 64 → EReal) (g : EReal × BitVec 32 → EReal × BitVec 32 → EReal × BitVec 32)
    (hg : ∀ a b, (g a b = a ∨ g a b = b) ∧ Beats (g a b) a ∧ Beats (g a b) b) (l : List (EReal × BitVec 32))
    (hl : ∀ p, p ∈ l ↔ ∃ k : Fin 64, p = (f k, BitVec.ofNat 32 k.val)) : IsFirst f (l.foldl g (⊥, 0#32)).2 := by
  obtain ⟨h1, h2, h3⟩ := winner g hg l (⊥, 0#32)
  have hin : ∃ k : Fin 64, l.foldl g (⊥, 0#32) = (f k, BitVec.ofNat 32 k.val) := by
    rcases h1 with h | h
    · refine ⟨0, h.trans (Prod.ext ?_ rfl)⟩
      have hb := h3 (f 0, BitVec.ofNat 32 0) ((hl _).2 ⟨0, rfl⟩)
      rw [h] at hb
      rcases hb with hb | hb
      · exact absurd hb not_lt_bot
      · exact hb.1.symm
    · exact (hl _).1 h
  obtain ⟨k, hk⟩ := hin
  refine ⟨k, congrArg Prod.snd hk, fun k' => ?_⟩
  have hb := h3 (f k', BitVec.ofNat 32 k'.val) ((hl _).2 ⟨k', rfl⟩)
  rw [hk] at hb
  rcases hb with hb | ⟨hb, hi⟩
  · exact .inl hb
  · refine .inr ⟨hb, ?_⟩
    rw [small, small] at hi
    exact_mod_cast hi

/-- A position's 64 scores in one round: its 32 rotated coordinates, then their negatives. -/
def score (q : Fin 64 → EReal) (R : Fin 64 → Fin 32 → EReal) (k : Fin 64) : EReal :=
  if h : k.val < 32 then ∑ d, q d * R d ⟨k.val, h⟩ else -∑ d, q d * R d ⟨k.val - 32, by omega⟩

/-! ## The two results, index by index -/

/-- The bucket of each position in each round, the rounds' buckets apart. -/
def hashed (q : (⟨3, ![4, 4096, 64]⟩ : Shape).Idx → EReal) (R : (⟨4, ![1, 64, 4, 32]⟩ : Shape).Idx → EReal) :
    (⟨3, ![4, 4, 4096]⟩ : Shape).Idx → BitVec 32 := fun i =>
  least (score (fun d => q (ix3 ⟨(i 0).val, (i 0).isLt⟩ ⟨(i 2).val, (i 2).isLt⟩ d)) (fun d k => R (ix4 0 d ⟨(i 1).val, (i 1).isLt⟩ k)))
    + BitVec.ofNat 32 (i 1).val * 64#32

/-- Queries and values side by side. -/
def packed (q v : (⟨3, ![4, 4096, 64]⟩ : Shape).Idx → EReal) : (⟨3, ![4, 4096, 128]⟩ : Shape).Idx → EReal := fun i =>
  if h : (i 2).val < 64 then q (ix3 ⟨(i 0).val, (i 0).isLt⟩ ⟨(i 1).val, (i 1).isLt⟩ ⟨(i 2).val, h⟩)
  else v (ix3 ⟨(i 0).val, (i 0).isLt⟩ ⟨(i 1).val, (i 1).isLt⟩ ⟨(i 2).val - 64, by
    have h' : (i 2).val < 128 := (i 2).isLt
    omega⟩)

end Cert.Proof.HashPick

end
-- ==== Proof.HashVal.lean ====
/- The hash kernel: what it leaves in its two result arrays, index by index. -/
module

public import proofs.«01_k».proof.Defs
public import proofs.«01_k».proof.Proof.HashPick
public import proofs.«01_k».proof.Proof.Gen.HashIdeal.Value
public import Idealize.ShloMosaic.Lib.Pointwise
public import Idealize.ShloMosaic.Lib.Tactic.CleanTypes
public import Idealize.ShloMosaic.Lib.Pipeline.ValueKit

@[expose] public section

noncomputable section

namespace Cert.Proof.HashVal

open Idealize.ShloMosaic Idealize.ShloMosaic.TcCoe Idealize.SL.Sem
open Idealize.ShloMosaic.Pipeline Idealize.ShloMosaic.Pointwise
open Cert.HashIdeal Cert.HashIdeal.Gen Cert.Proof.HashPick

/-! ## The four stores of bucket numbers, one round each -/

/-- The bucket of position `s` of a block in the round whose rotations start at column `o`. -/
def pickAt (a : Vec Ideal S1x4096x64 .f32) (R : Vec Ideal S64x128 .f32) (o : Nat) (ho : o + 32 ≤ 128) (s : Fin 4096) : BitVec 32 :=
  least (score (fun d => a (ix3 0 s d)) (fun d k => R (ix2 d ⟨o + k.val, by omega⟩)))

abbrev places64 : IVec S4096x64 32 := iota .tc S4096x64 32 [1] iota_S4096x64_d1_w32

theorem piece0 (a : Vec Ideal S1x4096x64 .f32) (R : Vec Ideal S64x128 .f32) (x : S1x1x4096.Idx) :
    k0_pay5 a R x = pickAt a R 0 (by decide) ⟨(x 2).val, (x 2).isLt⟩ + 0#32 := by
  unfold k0_pay5 k0_pay4 k0_pay2 pickAt least best score
  pointwise
  simp only [zero_sub]
  rfl

theorem piece1 (a : Vec Ideal S1x4096x64 .f32) (R : Vec Ideal S64x128 .f32) (x : S1x1x4096.Idx) :
    k0_pay8 places64 (k0_pay6 a R) (k0_pay7 a R) x = pickAt a R 32 (by decide) ⟨(x 2).val, (x 2).isLt⟩ + 64#32 := by
  unfold k0_pay8 k0_pay7 k0_pay6 k0_pay4 k0_pay2 pickAt least best score
  pointwise
  simp only [zero_sub]
  rfl

theorem piece2 (a : Vec Ideal S1x4096x64 .f32) (R : Vec Ideal S64x128 .f32) (x : S1x1x4096.Idx) :
    k0_pay9 (k0_pay4 a R) places64 x = pickAt a R 64 (by decide) ⟨(x 2).val, (x 2).isLt⟩ + 128#32 := by
  unfold k0_pay9 k0_pay4 k0_pay2 pickAt least best score
  pointwise
  simp only [zero_sub]
  rfl

theorem piece3 (a : Vec Ideal S1x4096x64 .f32) (R : Vec Ideal S64x128 .f32) (x : S1x1x4096.Idx) :
    k0_pay1 (k0_pay10 (k0_pay4 a R) places64) x = pickAt a R 96 (by decide) ⟨(x 2).val, (x 2).isLt⟩ + 192#32 := by
  unfold k0_pay1 k0_pay10 k0_pay4 k0_pay2 pickAt least best score
  pointwise
  simp only [zero_sub]
  rfl

/-- The store of queries and values. -/
theorem piece4 (a b : Vec Ideal S1x4096x64 .f32) (x : S1x4096x128.Idx) :
    k0_pay3 a b x = if h : (x 2).val < 64 then a (ix3 0 ⟨(x 1).val, (x 1).isLt⟩ ⟨(x 2).val, h⟩)
      else b (ix3 0 ⟨(x 1).val, (x 1).isLt⟩ ⟨(x 2).val - 64, by
        have h' : (x 2).val < 128 := (x 2).isLt
        omega⟩) := by
  unfold k0_pay3 k0_pay2
  pointwise
  first | done | rfl

/-! ## The blocks -/

variable (m : (ℓ : Loc nD τ sig) → Buf (Elt Ideal) ℓ)

theorem entry_eq (c : Dev nD) : V m c main_v1
    = shapeCast S64x128 (shapeCast S64x4x32 (m ((c : Thread nD τ).loc main_arg2)) shapeCasts_S1x64x4x32_S64x4x32)
      shapeCasts_S64x4x32_S64x128 := by
  unfold V hostOps0
  after_results <;> rfl

theorem side_at (R : FVec Ideal S1x64x4x32 .f32) (h : Fin 4) (d : Fin 64) (k : Fin 32) (o : Nat) (ho : o = 32 * h.val)
    (j : S64x128.Idx) (h0 : (j 0).val = d.val) (h1 : (j 1).val = o + k.val) :
    shapeCast S64x128 (shapeCast S64x4x32 R shapeCasts_S1x64x4x32_S64x4x32) shapeCasts_S64x4x32_S64x128 j = R (ix4 0 d h k) := by
  refine (shapeCast_apply _ _ j (ix3 d h k) ?_).trans (shapeCast_apply _ _ _ (ix4 0 d h k) ?_)
  · rw [Shape.rowMajor_val_three, Shape.rowMajor_val_two]
    show (d.val * 4 + h.val) * 32 + k.val = (j 0).val * 128 + (j 1).val
    omega
  · rw [Shape.rowMajor_val_four, Shape.rowMajor_val_three]
    show ((0 * 64 + d.val) * 4 + h.val) * 32 + k.val = (d.val * 4 + h.val) * 32 + k.val
    omega

theorem qk_read (c : Dev nD) (t : Fin cfg0.N) (s : Fin 4096) (d : Fin 64) :
    View.ld (iblk m c 0 t) r0_0 (ix3 0 s d) = m ((c : Thread nD τ).loc main_arg0) (ix3 (grid0.coords t 0) s d) := by
  have e0 : ∀ t : Fin cfg0.N, win0_0.index t = ![(grid0.coords t 0).val, 0, 0] :=
    (by decide +kernel : ∀ t : Fin grid0.N, _)
  have h : View.ld (iblk m c 0 t) r0_0 = iblk m c 0 t := View.ld_unit_lit (S := S1x4096x64) _ _ (by decide)
  rw [h]
  show V m c main_arg0 ((win0_0.blk t).view.emb (ix3 0 s d)) = _
  rw [V_main_arg0]
  refine congrArg _ (funext fun q => Fin.ext ?_)
  match q with
  | ⟨0, _⟩ => show ((win0_0.blk t).view.emb (ix3 0 s d) 0).val = _; blk_simp [e0]; exact Nat.add_zero _
  | ⟨1, _⟩ => show ((win0_0.blk t).view.emb (ix3 0 s d) 1).val = _; blk_simp [e0]
  | ⟨2, _⟩ => show ((win0_0.blk t).view.emb (ix3 0 s d) 2).val = _; blk_simp [e0]

theorem v_read (c : Dev nD) (t : Fin cfg0.N) (s : Fin 4096) (d : Fin 64) :
    View.ld (iblk m c 1 t) r0_0 (ix3 0 s d) = m ((c : Thread nD τ).loc main_arg1) (ix3 (grid0.coords t 0) s d) := by
  have e0 : ∀ t : Fin cfg0.N, win0_1.index t = ![(grid0.coords t 0).val, 0, 0] :=
    (by decide +kernel : ∀ t : Fin grid0.N, _)
  have h : View.ld (iblk m c 1 t) r0_0 = iblk m c 1 t := View.ld_unit_lit (S := S1x4096x64) _ _ (by decide)
  rw [h]
  show V m c main_arg1 ((win0_1.blk t).view.emb (ix3 0 s d)) = _
  rw [V_main_arg1]
  refine congrArg _ (funext fun q => Fin.ext ?_)
  match q with
  | ⟨0, _⟩ => show ((win0_1.blk t).view.emb (ix3 0 s d) 0).val = _; blk_simp [e0]; exact Nat.add_zero _
  | ⟨1, _⟩ => show ((win0_1.blk t).view.emb (ix3 0 s d) 1).val = _; blk_simp [e0]
  | ⟨2, _⟩ => show ((win0_1.blk t).view.emb (ix3 0 s d) 2).val = _; blk_simp [e0]

theorem rot_read (c : Dev nD) (t : Fin cfg0.N) (g : Fin 4) (d : Fin 64) (k : Fin 32) (o : Nat) (ho : o = 32 * g.val) (hk : o + k.val < 128) :
    View.ld (iblk m c 2 t) r0_2 (ix2 d ⟨o + k.val, hk⟩) = m ((c : Thread nD τ).loc main_arg2) (ix4 0 d g k) := by
  have e0 : ∀ t : Fin cfg0.N, win0_2.index t = ![0, 0] := (by decide +kernel : ∀ t : Fin grid0.N, _)
  have h : View.ld (iblk m c 2 t) r0_2 = iblk m c 2 t := View.ld_unit_lit (S := S64x128) _ _ (by decide)
  rw [h]
  show V m c main_v1 ((win0_2.blk t).view.emb (ix2 d ⟨o + k.val, hk⟩)) = _
  rw [entry_eq]
  refine side_at _ g d k o ho _ ?_ ?_
  · blk_simp [e0]
  · blk_simp [e0]

theorem pick_read (c : Dev nD) (t : Fin cfg0.N) (h : Fin 4) (o : Nat) (ho : o + 32 ≤ 128) (e : o = 32 * h.val) (w : BitVec 32)
    (hw : w = BitVec.ofNat 32 h.val * 64#32) (s : Fin 4096) :
    pickAt (View.ld (iblk m c 0 t) r0_0) (View.ld (iblk m c 2 t) r0_2) o ho s + w
      = hashed (m ((c : Thread nD τ).loc main_arg0)) (m ((c : Thread nD τ).loc main_arg2)) (ix3 (grid0.coords t 0) h s) := by
  subst hw
  unfold pickAt hashed
  refine congrArg (fun f => least f + BitVec.ofNat 32 h.val * 64#32) ?_
  exact congrArg₂ score (funext fun d => qk_read m c t s d) (funext fun d => funext fun k => rot_read m c t h d k o e _)

/-! ## The two arrays -/

theorem buckets_eq (c : Dev nD) : (dats m 0 c).arrAt 3 cfg0.N
    = hashed (m ((c : Thread nD τ).loc main_arg0)) (m ((c : Thread nD τ).loc main_arg2)) := by
  have e3 : ∀ t : Fin cfg0.N, win0_3.index t = ![(grid0.coords t 0).val, 0, 0] :=
    (by decide +kernel : ∀ t : Fin grid0.N, _)
  refine (dats m 0 c).arrAt_eq_of_covers 3 _ (by decide +kernel) fun t hf y => ?_
  blk_simp
  rw [after0_3]
  unfold out0_3
  have at_tile : ∀ (h : Fin 4) (x : S1x1x4096.Idx), (∀ a, (y a : ℕ) = (![0, h.val, 0] : Fin 3 → Nat) a + (x a).val) →
      hashed (m ((c : Thread nD τ).loc main_arg0)) (m ((c : Thread nD τ).loc main_arg2))
        (ix3 (grid0.coords t 0) h ⟨(x 2).val, (x 2).isLt⟩)
      = hashed (m ((c : Thread nD τ).loc main_arg0)) (m ((c : Thread nD τ).loc main_arg2)) ((win0_3.blk t).view.emb y) := by
    intro h x hx
    have h1 := hx 1
    have h2 := hx 2
    have x1 : (x 1).val < 1 := (x 1).isLt
    refine congrArg _ (funext fun q => Fin.ext ?_)
    match q with
    | ⟨0, _⟩ =>
      show (grid0.coords t 0).val = ((win0_3.blk t).view.emb y 0).val
      blk_simp [e3]
    | ⟨1, _⟩ =>
      show h.val = ((win0_3.blk t).view.emb y 1).val
      blk_simp [e3]
      change (y 1).val = h.val + (x 1).val at h1
      omega
    | ⟨2, _⟩ =>
      show (x 2).val = ((win0_3.blk t).view.emb y 2).val
      blk_simp [e3]
      change (y 2).val = 0 + (x 2).val at h2
      omega
  refine View.canon_eq_of_allAt _ y _ (cover0_3 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · exact (piece3 (View.ld (iblk m c 0 t) r0_0) (View.ld (iblk m c 2 t) r0_2) x).trans ((pick_read m c t 3 96 (by decide) rfl 192#32 (by decide) ⟨(x 2).val, (x 2).isLt⟩).trans (at_tile 3 x hx))
  · exact (piece2 (View.ld (iblk m c 0 t) r0_0) (View.ld (iblk m c 2 t) r0_2) x).trans ((pick_read m c t 2 64 (by decide) rfl 128#32 (by decide) ⟨(x 2).val, (x 2).isLt⟩).trans (at_tile 2 x hx))
  · exact (piece1 (View.ld (iblk m c 0 t) r0_0) (View.ld (iblk m c 2 t) r0_2) x).trans ((pick_read m c t 1 32 (by decide) rfl 64#32 (by decide) ⟨(x 2).val, (x 2).isLt⟩).trans (at_tile 1 x hx))
  · exact (piece0 (View.ld (iblk m c 0 t) r0_0) (View.ld (iblk m c 2 t) r0_2) x).trans ((pick_read m c t 0 0 (by decide) rfl 0#32 (by decide) ⟨(x 2).val, (x 2).isLt⟩).trans (at_tile 0 x hx))

theorem packed_eq (c : Dev nD) : (dats m 0 c).arrAt 4 cfg0.N
    = packed (m ((c : Thread nD τ).loc main_arg0)) (m ((c : Thread nD τ).loc main_arg1)) := by
  have e4 : ∀ t : Fin cfg0.N, win0_4.index t = ![(grid0.coords t 0).val, 0, 0] :=
    (by decide +kernel : ∀ t : Fin grid0.N, _)
  refine (dats m 0 c).arrAt_eq_of_covers 4 _ (by decide +kernel) fun t hf y => ?_
  blk_simp
  rw [after0_4]
  unfold out0_4
  have p0 : ((win0_4.blk t).view.emb y 0).val = (grid0.coords t 0).val := by
    blk_simp [e4]
  have p1 : ((win0_4.blk t).view.emb y 1).val = (y 1).val := by blk_simp [e4]
  have p2 : ((win0_4.blk t).view.emb y 2).val = (y 2).val := by blk_simp [e4]
  refine (congrFun (View.canon_cons_unit_lit (S := S1x4096x128) _ _ _ (by decide)) y).trans ((piece4 (View.ld (iblk m c 0 t) r0_0) (View.ld (iblk m c 1 t) r0_0) y).trans ?_)
  unfold packed
  by_cases h : (y 2).val < 64
  · rw [dif_pos h, dif_pos (p2.trans_lt h)]
    refine (qk_read m c t ⟨(y 1).val, (y 1).isLt⟩ ⟨(y 2).val, h⟩).trans (congrArg _ (funext fun q => Fin.ext ?_))
    match q with
    | ⟨0, _⟩ => exact p0.symm
    | ⟨1, _⟩ => exact p1.symm
    | ⟨2, _⟩ => exact p2.symm
  · rw [dif_neg h, dif_neg (by rw [p2]; exact h)]
    refine (v_read m c t ⟨(y 1).val, (y 1).isLt⟩ ⟨(y 2).val - 64, _⟩).trans (congrArg _ (funext fun q => Fin.ext ?_))
    match q with
    | ⟨0, _⟩ => exact p0.symm
    | ⟨1, _⟩ => exact p1.symm
    | ⟨2, _⟩ => exact (congrArg (· - 64) p2).symm

end Cert.Proof.HashVal

end
-- ==== Proof.HashRef.lean ====
/- The plain hash: the argmax over the 64 scores is the first place of the greatest, and the claims of the hash call. -/
module

public import proofs.«01_k».proof.Proof.HashVal
public import proofs.«01_k».proof.Proof.Gen.Hash.Frame
public import proofs.«01_k».proof.Proof.Gen.HashReferenceIdeal
public import Idealize.ShloMosaic.Lib.Claim

@[expose] public section

noncomputable section

namespace Cert.Proof.HashRef

open Idealize.ShloMosaic Idealize.ShloMosaic.TcCoe Idealize.SL.Sem
open Idealize.ShloMosaic.Pointwise
open Cert.Proof.HashPick

section Reference

open Cert.HashReferenceIdeal Cert.HashReferenceIdeal.Gen

/-- The rotated coordinates of every position in every round. -/
def turned (q : FVec Ideal S4x4096x64 .f32) (R : FVec Ideal S1x64x4x32 .f32) : FVec Ideal S4x4x4096x32 .f32 :=
  transpose S4x4x4096x32 [2, 0, 3, 1] (Host.dotGeneral dot_S64x4x32_S4x4096x64_S4x32x4x4096_0_2_12_01_n_n none
    (shapeCast S64x4x32 R shapeCasts_S1x64x4x32_S64x4x32) q) transposes_S4x32x4x4096_S4x4x4096x32_2_0_3_1

/-- They and their negatives, side by side. -/
def both (q : FVec Ideal S4x4096x64 .f32) (R : FVec Ideal S1x64x4x32 .f32) : FVec Ideal S4x4x4096x64 .f32 :=
  concatenate S4x4x4096x64 3 [⟨S4x4x4096x32, turned q R⟩, ⟨S4x4x4096x32, Host.negf (turned q R)⟩]
    concatenates_S4x4x4096x32_S4x4x4096x32_S4x4x4096x64_d3

theorem both_at (q : FVec Ideal S4x4096x64 .f32) (R : FVec Ideal S1x64x4x32 .f32) (i : S4x4x4096x64.Idx) :
    both q R i = score (fun d => q (ix3 ⟨(i 0).val, (i 0).isLt⟩ ⟨(i 2).val, (i 2).isLt⟩ d))
      (fun d k => R (ix4 0 d ⟨(i 1).val, (i 1).isLt⟩ k)) ⟨(i 3).val, (i 3).isLt⟩ := by
  unfold both turned score
  pointwise
  exact dite_congr rfl (fun _ => Finset.sum_congr rfl fun _ _ => mul_comm _ _)
    (fun _ => congrArg Neg.neg (Finset.sum_congr rfl fun _ _ => mul_comm _ _))

theorem step (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  have e : reducer_argmax_f32_i32 (F := Ideal) a b = if b.1 < a.1 ∨ (a.1 = b.1 ∧ a.2.toInt < b.2.toInt) then a else b := by
    obtain ⟨a1, a2⟩ := a
    obtain ⟨b1, b2⟩ := b
    rcases lt_trichotomy a1 b1 with h | rfl | h <;> by_cases h3 : a2.toInt < b2.toInt
    · simp [reducer_argmax_f32_i32, Ideal.cmpf_def, Ideal.cmp, IntOp.ori, IntOp.andi, IntOp.cmpi, Scalar.select, BitVec.slt, h.ne, h.not_gt, h3]
    · simp [reducer_argmax_f32_i32, Ideal.cmpf_def, Ideal.cmp, IntOp.ori, IntOp.andi, IntOp.cmpi, Scalar.select, BitVec.slt, h.ne, h.not_gt, h3]
    · simp [reducer_argmax_f32_i32, Ideal.cmpf_def, Ideal.cmp, IntOp.ori, IntOp.andi, IntOp.cmpi, Scalar.select, BitVec.slt, h3]
    · simp [reducer_argmax_f32_i32, Ideal.cmpf_def, Ideal.cmp, IntOp.ori, IntOp.andi, IntOp.cmpi, Scalar.select, BitVec.slt, h3]
    · simp [reducer_argmax_f32_i32, Ideal.cmpf_def, Ideal.cmp, IntOp.ori, IntOp.andi, IntOp.cmpi, Scalar.select, BitVec.slt, h, h.ne', h3]
    · simp [reducer_argmax_f32_i32, Ideal.cmpf_def, Ideal.cmp, IntOp.ori, IntOp.andi, IntOp.cmpi, Scalar.select, BitVec.slt, h, h.ne', h3]
  rw [e]
  split_ifs with h
  · refine ⟨.inl rfl, .refl a, ?_⟩
    rcases h with h | ⟨h, hi⟩
    · exact .inl h
    · exact .inr ⟨h.symm, hi.le⟩
  · refine ⟨.inr rfl, ?_, .refl b⟩
    rw [not_or, not_and, not_lt, not_lt] at h
    rcases lt_or_eq_of_le h.1 with h' | h'
    · exact .inl h'
    · exact .inr ⟨h', h.2 h'⟩

theorem argmax_at (x : FVec Ideal S4x4x4096x64 .f32) (j : S4x4x4096.Idx) :
    (Host.argReduce reducer_argmax_f32_i32 x (iotaInDim S4x4x4096x64 32 3) (constant S_ .f32 0xFF800000#32) (constantI S_ 32 0#32)
      reducesTo_S4x4x4096x64_S4x4x4096_d3 h_S_ j).2 = least (fun k => x (ix4 ⟨(j 0).val, (j 0).isLt⟩ ⟨(j 1).val, (j 1).isLt⟩ ⟨(j 2).val, (j 2).isLt⟩ k)) := by
  rw [Ideal.argReduce_eq_reduce2, Host.reduce2_eq_foldl_fiber]
  refine IsFirst.unique ?_ (first_of_least _)
  have hb : ∀ i : S_.Idx, ((constant (F := Ideal) S_ .f32 0xFF800000#32 i, constantI S_ 32 0#32 i) : EReal × BitVec 32) = (⊥, 0#32) :=
    fun _ => Prod.ext bottom rfl
  rw [hb]
  refine first_of_winner _ _ step _ fun p => ?_
  have d : ∀ i : S4x4x4096x64.Idx, reducesTo_S4x4x4096x64_S4x4x4096_d3.drop i = j
      ↔ (i 0).val = (j 0).val ∧ (i 1).val = (j 1).val ∧ (i 2).val = (j 2).val := by
    intro i
    have q0 := Shape.ReducesTo.drop_apply_val_of_eq reducesTo_S4x4x4096x64_S4x4x4096_d3 i 0 0 (by decide) (by decide)
    have q1 := Shape.ReducesTo.drop_apply_val_of_eq reducesTo_S4x4x4096x64_S4x4x4096_d3 i 1 1 (by decide) (by decide)
    have q2 := Shape.ReducesTo.drop_apply_val_of_eq reducesTo_S4x4x4096x64_S4x4x4096_d3 i 2 2 (by decide) (by decide)
    constructor
    · rintro rfl
      exact ⟨q0.symm, q1.symm, q2.symm⟩
    · rintro ⟨h0, h1, h2⟩
      refine funext fun q => Fin.ext ?_
      match q with
      | ⟨0, _⟩ => exact q0.trans h0
      | ⟨1, _⟩ => exact q1.trans h1
      | ⟨2, _⟩ => exact q2.trans h2
  unfold Host.argReduceFiber
  rw [List.mem_map]
  constructor
  · rintro ⟨n, hn, rfl⟩
    have hn' := (d _).1 (by simpa using hn)
    refine ⟨⟨(S4x4x4096x64.rowMajor.symm n 3).val, (S4x4x4096x64.rowMajor.symm n 3).isLt⟩, Prod.ext (congrArg x ?_) rfl⟩
    refine funext fun q => Fin.ext ?_
    match q with
    | ⟨0, _⟩ => exact hn'.1
    | ⟨1, _⟩ => exact hn'.2.1
    | ⟨2, _⟩ => exact hn'.2.2
    | ⟨3, _⟩ => rfl
  · rintro ⟨k, rfl⟩
    refine ⟨S4x4x4096x64.rowMajor (ix4 ⟨(j 0).val, (j 0).isLt⟩ ⟨(j 1).val, (j 1).isLt⟩ ⟨(j 2).val, (j 2).isLt⟩ k), ?_, ?_⟩
    · rw [List.mem_filter]
      refine ⟨List.mem_finRange _, decide_eq_true ?_⟩
      rw [Equiv.symm_apply_apply]
      exact (d _).2 ⟨rfl, rfl, rfl⟩
    · rw [Equiv.symm_apply_apply]
      rfl

/-- What sets the rounds' buckets apart. -/
def apart : IVec S4x4x4096 32 :=
  broadcastInDim S4x4x4096 ![0, 1, 2] bcast_S1x4x1_S4x4x4096_0_1_2 (shapeCast S1x4x1 (muli (iotaInDim S4 32 0)
    (broadcastInDim S4 ![] bcast_S_S4 (constantI S_ 32 64#32))) shapeCasts_S4_S1x4x1)

theorem apart_at (i : S4x4x4096.Idx) : apart i = BitVec.ofNat 32 (i 1).val * 64#32 := by
  unfold apart
  pointwise
  first | done | rfl

theorem buckets_at (q : FVec Ideal S4x4096x64 .f32) (R : FVec Ideal S1x64x4x32 .f32) :
    addi (fun j => (Host.argReduce reducer_argmax_f32_i32 (both q R) (iotaInDim S4x4x4096x64 32 3) (constant S_ .f32 0xFF800000#32)
      (constantI S_ 32 0#32) reducesTo_S4x4x4096x64_S4x4x4096_d3 h_S_ j).2) apart = hashed q R := by
  funext i
  refine (congrArg₂ (· + ·) (argmax_at (both q R) i) (apart_at i)).trans ?_
  unfold hashed
  exact congrArg (fun f => least f + _) (funext fun k => both_at q R _)

theorem packed_at (q v : FVec Ideal S4x4096x64 .f32) :
    concatenate S4x4096x128 2 [⟨S4x4096x64, q⟩, ⟨S4x4096x64, v⟩] concatenates_S4x4096x64_S4x4096x64_S4x4096x128_d2 = packed q v := by
  funext i
  unfold packed
  pointwise
  first | done | rfl

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
    r.2.mem ((c.tc : Thread nD τ).loc main_v11) = hashed (m ((c.tc : Thread nD τ).loc main_arg0)) (m ((c.tc : Thread nD τ).loc main_arg2))
    ∧ r.2.mem ((c.tc : Thread nD τ).loc main_v12) = packed (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  hlo_run
  · exact buckets_at _ _
  · exact packed_at _ _

end Reference

/-! ## The claims -/

theorem frame_kernel : Cert.quiescent_Hash (hHash := Cert.Hash.Gen.facts) :=
  fun m ρ _ => Cert.Hash.Gen.frame m ρ

theorem frame_ideal : Cert.quiescent_HashIdeal (hHashIdeal := Cert.HashIdeal.Gen.facts) :=
  fun m ρ _ => Cert.HashIdeal.Gen.frame m ρ

theorem frame_reference :
    Cert.quiescent_HashReferenceIdeal (hHashReferenceIdeal := Cert.HashReferenceIdeal.Gen.facts) := fun m ρ _ =>
  (θ_run Cert.HashReferenceIdeal.defs _ _).mono
    (fun r h => ⟨fun c => (h c).2.2, sem_eq_zero_of_no_sems (by decide) r.2⟩) (run m ρ)

theorem algebraic : Cert.algebraic_HashIdeal_HashReferenceIdeal (hHashIdeal := Cert.HashIdeal.Gen.facts)
    (hHashReferenceIdeal := Cert.HashReferenceIdeal.Gen.facts) := by
  intro m g m' g' _ hagree
  refine ⟨fun c => hashed (m ((c.tc : Thread _ _).loc Cert.HashIdeal.main_arg0)) (m ((c.tc : Thread _ _).loc Cert.HashIdeal.main_arg2)),
    fun c => packed (m ((c.tc : Thread _ _).loc Cert.HashIdeal.main_arg0)) (m ((c.tc : Thread _ _).loc Cert.HashIdeal.main_arg1)),
    (θ_run Cert.HashIdeal.defs _ _).mono
      (fun _ h c => ⟨(h c).1.trans (HashVal.buckets_eq m c), (h c).2.1.trans (HashVal.packed_eq m c), (h c).2.2⟩)
      (Cert.HashIdeal.Value.run_blocks (F := Ideal) m g), ?_⟩
  refine (θ_run Cert.HashReferenceIdeal.defs _ _).mono (fun _ h c => ⟨(h c).1.trans ?_, (h c).2.1.trans ?_, (h c).2.2⟩) (run m' g')
  · exact congrArg₂ hashed (hagree c).1 (hagree c).2.2
  · exact congrArg₂ packed (hagree c).1 (hagree c).2.1

end Cert.Proof.HashRef

end
-- ==== Proof.AttMath.lean ====
/- Attention of one query over its window of keys, on the extended reals: weighing by the exponential over the sum
   and weighing by the exponential of the difference to the logarithm agree where the scores are real. -/
module

public import Idealize.ShloMosaic.Lib.IdealHost

@[expose] public section

noncomputable section

namespace Cert.Proof.AttMath

open Idealize.ShloMosaic

/-! ## Weights -/

section Weights

variable {ι : Type} [Fintype ι]

/-- The greatest score. -/
def top (D : ι → EReal) : EReal := Finset.fold max (Ideal.ofBits .f32 0xFF800000#32) D Finset.univ

/-- The sum of the exponentials of the scores less the greatest. -/
def total (D : ι → EReal) : EReal := ∑ j, Ideal.exp (D j - top D)

theorem lowest : Ideal.ofBits .f32 0xFF800000#32 = ⊥ := by
  simp [Ideal.ofBits, Ideal.ieee]

/-- The greatest of real scores, at least one, is real. -/
theorem fold_real (s : Finset ι) (D : ι → EReal) (r : ι → ℝ) (hD : ∀ j, D j = (r j : EReal)) :
    s = ∅ ∨ ∃ M : ℝ, Finset.fold max (⊥ : EReal) D s = (M : EReal) := by
  classical
  induction s using Finset.induction_on with
  | empty => exact Or.inl rfl
  | insert a s ha ih =>
    right
    rw [Finset.fold_insert ha, hD a]
    rcases ih with rfl | ⟨M, hM⟩
    · exact ⟨r a, by simp⟩
    · exact ⟨max (r a) M, by rw [hM]; exact (EReal.coe_strictMono.monotone.map_max).symm⟩

theorem top_real [Nonempty ι] (D : ι → EReal) (r : ι → ℝ) (hD : ∀ j, D j = (r j : EReal)) : ∃ M : ℝ, top D = (M : EReal) := by
  rcases fold_real Finset.univ D r hD with h | h
  · exact absurd h Finset.univ_nonempty.ne_empty
  · unfold top
    rw [lowest]
    exact h

theorem coe_sum (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The two ways to weigh a score agree. -/
theorem weight_eq [Nonempty ι] (D : ι → EReal) (r : ι → ℝ) (hD : ∀ j, D j = (r j : EReal)) (j : ι) :
    Ideal.exp (D j - (Ideal.log (total D) + top D)) = Ideal.exp (D j - top D) * Ideal.div 1 (total D) := by
  obtain ⟨M, hM⟩ := top_real D r hD
  have hs : total D = ((∑ j, Real.exp (r j - M) : ℝ) : EReal) := by
    unfold total
    rw [← coe_sum]
    refine Finset.sum_congr rfl fun j _ => ?_
    rw [hM, hD j, ← EReal.coe_sub, Ideal.exp_coe]
  have hpos : 0 < ∑ j, Real.exp (r j - M) := Finset.sum_pos (fun j _ => Real.exp_pos _) Finset.univ_nonempty
  rw [hs, hM, hD j, Ideal.log_coe, if_neg hpos.not_ge, ← EReal.coe_add, ← EReal.coe_sub, ← EReal.coe_sub, Ideal.exp_coe, Ideal.exp_coe,
    Ideal.div_coe hpos.ne', one_mul, ← EReal.coe_mul, EReal.coe_eq_coe_iff, ← sub_sub, sub_right_comm, Real.exp_sub, Real.exp_log hpos]
  ring

theorem top_equiv (e : ι ≃ ι) (D : ι → EReal) : top (fun j => D (e j)) = top D := by
  unfold top
  conv_rhs => rw [← Finset.map_univ_equiv e, Finset.fold_map]
  rfl

theorem total_equiv (e : ι ≃ ι) (D : ι → EReal) : total (fun j => D (e j)) = total D := by
  unfold total
  rw [top_equiv e D]
  exact Equiv.sum_comp e fun j => Ideal.exp (D j - top D)

end Weights

/-! ## Windows -/

/-- A chunk's 64 entries and those of another after them. -/
def pair {α : Type} (a b : Fin 64 → α) (j : Fin 128) : α :=
  if h : j.val < 64 then a ⟨j.val, h⟩ else b ⟨j.val - 64, by omega⟩

/-- The two halves of a window, exchanged. -/
def swap : Fin 128 ≃ Fin 128 where
  toFun j := ⟨(j.val + 64) % 128, Nat.mod_lt _ (by decide)⟩
  invFun j := ⟨(j.val + 64) % 128, Nat.mod_lt _ (by decide)⟩
  left_inv j := Fin.ext (by show ((j.val + 64) % 128 + 64) % 128 = j.val; omega)
  right_inv j := Fin.ext (by show ((j.val + 64) % 128 + 64) % 128 = j.val; omega)

theorem pair_swap {α : Type} (a b : Fin 64 → α) (j : Fin 128) : pair a b (swap j) = pair b a j := by
  unfold pair swap
  by_cases h : j.val < 64
  · have h' : ¬ (j.val + 64) % 128 < 64 := by omega
    simp only [Equiv.coe_fn_mk, h', h, dite_true, dite_false]
    exact congrArg b (Fin.ext (by show (j.val + 64) % 128 - 64 = j.val; omega))
  · have h' : (j.val + 64) % 128 < 64 := by omega
    simp only [Equiv.coe_fn_mk, h', h, dite_true, dite_false]
    exact congrArg a (Fin.ext (by show (j.val + 64) % 128 = j.val - 64; omega))

/-! ## Scores -/

/-- A query over its norm. -/
def key (r : Fin 64 → EReal) (d : Fin 64) : EReal :=
  Ideal.div (r d) (max (Ideal.sqrt (∑ x, r x * r x)) (Ideal.ofBits .f32 0x2B8CBCCC#32))

/-- The score of a query with the key of another, of their numbers too: its own key scores a constant. -/
def score (q : Fin 64 → EReal) (t : BitVec 32) (k : Fin 64 → EReal) (t' : BitVec 32) : EReal :=
  if t = t' then Ideal.ofBits .f32 0xC7435000#32 else (∑ d, q d * key k d) * Ideal.ofBits .f32 0x3E000000#32

theorem select_eq (a b : BitVec 32) (x y : EReal) : Scalar.select (IntOp.cmpi .eq a b) x y = if a = b then x else y := by
  unfold Scalar.select IntOp.cmpi
  by_cases h : a = b
  · simp [h]
  · simp [h, show (a == b) = false from beq_eq_false_iff_ne.2 h]

/-- The columns of a row, in three parts. -/
theorem parts_eq (f : Fin 64 → EReal) (x : Fin 1 → EReal) (col : Fin 128) :
    (if h : col.val < 64 then f ⟨col.val, h⟩ else if h : col.val - 64 < 1 then x ⟨col.val - 64, h⟩ else 0)
      = if h : col.val < 64 then f ⟨col.val, h⟩ else if col.val < 65 then x 0 else 0 := by
  refine dite_congr rfl (fun _ => rfl) fun h => ?_
  by_cases h' : col.val < 65
  · rw [if_pos h', dif_pos (by omega)]
    exact congrArg x (Subsingleton.elim _ _)
  · rw [if_neg h', dif_neg (by omega)]

theorem smallest : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

theorem own : ∃ e : ℝ, Ideal.ofBits .f32 0xC7435000#32 = (e : EReal) :=
  ⟨_, by simp only [Ideal.ofBits, Ideal.ieee]; rfl⟩

theorem eighth : ∃ e : ℝ, Ideal.ofBits .f32 0x3E000000#32 = (e : EReal) :=
  ⟨_, by simp only [Ideal.ofBits, Ideal.ieee]; rfl⟩

/-- A real query's key is real. -/
theorem key_real (r : Fin 64 → EReal) (a : Fin 64 → ℝ) (h : ∀ d, r d = (a d : EReal)) (d : Fin 64) : ∃ e : ℝ, key r d = (e : EReal) := by
  obtain ⟨e, he, hb⟩ := smallest
  have hs : ∑ x, r x * r x = ((∑ x, a x * a x : ℝ) : EReal) := by
    rw [← coe_sum]
    exact Finset.sum_congr rfl fun x _ => by rw [h x, EReal.coe_mul]
  have hn : ¬ ∑ x, a x * a x < 0 := (Finset.sum_nonneg fun x _ => mul_self_nonneg (a x)).not_gt
  unfold key
  rw [hs, hb, Ideal.sqrt_coe, if_neg hn, ← EReal.coe_strictMono.monotone.map_max, Ideal.div_coe (lt_max_of_lt_right he).ne', h d, ← EReal.coe_mul]
  exact ⟨_, rfl⟩

theorem score_real (q : Fin 64 → EReal) (a : Fin 64 → ℝ) (h : ∀ d, q d = (a d : EReal)) (t : BitVec 32)
    (k : Fin 64 → EReal) (b : Fin 64 → ℝ) (hk : ∀ d, k d = (b d : EReal)) (t' : BitVec 32) : ∃ e : ℝ, score q t k t' = (e : EReal) := by
  unfold score
  split
  · exact own
  · obtain ⟨e, he⟩ := eighth
    choose f hf using key_real k b hk
    refine ⟨(∑ d, a d * f d) * e, ?_⟩
    rw [EReal.coe_mul, ← coe_sum, he]
    exact congrArg (· * (e : EReal)) (Finset.sum_congr rfl fun d _ => by rw [h d, hf d, EReal.coe_mul])

/-! ## The row of one query -/

/-- The weighted values, the logarithm of the sum, zeros: weights by the sum. -/
def attend (D : Fin 128 → EReal) (v : Fin 128 → Fin 64 → EReal) (col : Fin 128) : EReal :=
  if h : col.val < 64 then ∑ j, Ideal.exp (D j - top D) * Ideal.div 1 (total D) * v j ⟨col.val, h⟩
  else if col.val < 65 then top D + Ideal.log (total D) else 0

/-- The same, the weights by the logarithm. -/
def attendLog (D : Fin 128 → EReal) (v : Fin 128 → Fin 64 → EReal) (col : Fin 128) : EReal :=
  if h : col.val < 64 then ∑ j, Ideal.exp (D j - (Ideal.log (total D) + top D)) * v j ⟨col.val, h⟩
  else if col.val < 65 then Ideal.log (total D) + top D else 0

theorem attend_swap (D : Fin 128 → EReal) (v : Fin 128 → Fin 64 → EReal) (col : Fin 128) :
    attend (fun j => D (swap j)) (fun j => v (swap j)) col = attend D v col := by
  unfold attend
  rw [top_equiv swap D, total_equiv swap D]
  exact dite_congr rfl (fun h => Equiv.sum_comp swap fun j => Ideal.exp (D j - top D) * Ideal.div 1 (total D) * v j ⟨col.val, h⟩) fun _ => rfl

theorem attend_log (D : Fin 128 → EReal) (r : Fin 128 → ℝ) (hD : ∀ j, D j = (r j : EReal)) (v : Fin 128 → Fin 64 → EReal) (col : Fin 128) :
    attend D v col = attendLog D v col := by
  unfold attend attendLog
  exact dite_congr rfl (fun h => Finset.sum_congr rfl fun j _ => by rw [weight_eq D r hD j]) fun _ => by rw [add_comm]

/-- The row of a query of real rows, with the chunk before in front or behind, and the weights either way. -/
theorem row_eq (q : Fin 64 → EReal) (t : BitVec 32) (kc kp : Fin 64 → Fin 64 → EReal) (tc tp : Fin 64 → BitVec 32) (vc vp : Fin 64 → Fin 64 → EReal)
    (hq : ∀ d, ∃ e : ℝ, q d = (e : EReal)) (hc : ∀ j d, ∃ e : ℝ, kc j d = (e : EReal)) (hp : ∀ j d, ∃ e : ℝ, kp j d = (e : EReal)) (col : Fin 128) :
    attend (fun j => score q t (pair kp kc j) (pair tp tc j)) (pair vp vc) col
      = attendLog (fun j => score q t (pair kc kp j) (pair tc tp j)) (pair vc vp) col := by
  choose a ha using hq
  choose b hb using hc
  choose b' hb' using hp
  have hr : ∀ j, ∃ e : ℝ, score q t (pair kc kp j) (pair tc tp j) = (e : EReal) := fun j =>
    score_real q a ha t _ (pair b b' j) (fun d => by
      unfold pair
      split
      · exact hb _ d
      · exact hb' _ d) _
  choose r hr using hr
  rw [← attend_log _ r hr, ← attend_swap]
  simp only [pair_swap]

end Cert.Proof.AttMath

end
-- ==== Proof.AttTile.lean ====
/- The attention kernel's arithmetic on one block: its eight tiles of scores, their weights, and its eight stores. -/
module

public import proofs.«01_k».proof.Defs
public import proofs.«01_k».proof.Proof.AttMath
public import proofs.«01_k».proof.Proof.Gen.AttentionIdeal.Value
public import Idealize.ShloMosaic.Lib.Pointwise
public import Idealize.ShloMosaic.Lib.Tactic.CleanTypes
public import Idealize.ShloMosaic.Lib.Pipeline.ValueKit

@[expose] public section

noncomputable section

namespace Cert.Proof.AttTile

open Idealize.ShloMosaic Idealize.ShloMosaic.TcCoe
open Idealize.ShloMosaic.Pipeline Idealize.ShloMosaic.Pointwise
open Cert.AttentionIdeal Cert.AttentionIdeal.Gen Cert.Proof.AttMath

/-! ## Tiles of scores -/

/-- The scores of the chunk whose queries start at row `o`, its keys at the same row of the longer array. -/
def tile (o : ℕ) (ho : o ≤ 448) (q : FVec Ideal S512x64 .f32) (k : FVec Ideal S576x64 .f32) (n n' : Vec Ideal S1x1x1x64 .i32)
    (i : Fin 64) (j : Fin 128) : EReal :=
  if n (ix4 0 0 0 i) = pair (fun i => n' (ix4 0 0 0 i)) (fun i => n (ix4 0 0 0 i)) j then Ideal.ofBits .f32 0xC7435000#32
  else (∑ d : Fin 64, q (ix2 ⟨o + i.val, by omega⟩ d) * k (ix2 ⟨o + j.val, by omega⟩ d)) * Ideal.ofBits .f32 0x3E000000#32

variable (v0 : Vec Ideal S1x8x64x128 .f32) (v4 : Vec Ideal S1x1x64x128 .f32) (q : FVec Ideal S512x64 .f32) (k : FVec Ideal S576x64 .f32)
  (n n' : Vec Ideal S1x1x1x64 .i32) (i : Fin 64) (j : Fin 128)

theorem tile0 : k0_pay9 v0 v4 n n' (ix2 i j) = tile 0 (by decide) (k0_pay5 v0) (k0_pay8 v0 v4) n n' i j := by
  unfold k0_pay9 tile pair
  pointwise
  exact select_eq _ _ _ _

theorem tile1 : k0_pay12 (k0_pay10 v0) (k0_pay11 v0 v4) (constant S64x128 .f32 0x00000000#32) n n' (ix2 i j)
    = tile 64 (by decide) (k0_pay5 v0) (k0_pay8 v0 v4) n n' i j := by
  unfold k0_pay12 k0_pay10 k0_pay11 tile pair
  pointwise
  exact select_eq _ _ _ _

theorem tile2 : k0_pay13 q k n n' (ix2 i j) = tile 128 (by decide) q k n n' i j := by
  unfold k0_pay13 tile pair
  pointwise
  exact select_eq _ _ _ _

theorem tile3 : k0_pay15 (k0_pay14 q k) n n' (ix2 i j) = tile 192 (by decide) q k n n' i j := by
  unfold k0_pay15 k0_pay14 tile pair
  pointwise
  exact select_eq _ _ _ _

theorem tile4 : k0_pay16 q k n n' (ix2 i j) = tile 256 (by decide) q k n n' i j := by
  unfold k0_pay16 tile pair
  pointwise
  exact select_eq _ _ _ _

theorem tile5 : k0_pay18 (k0_pay17 q k) n n' (ix2 i j) = tile 320 (by decide) q k n n' i j := by
  unfold k0_pay18 k0_pay17 tile pair
  pointwise
  exact select_eq _ _ _ _

theorem tile6 : k0_pay19 q k n n' (ix2 i j) = tile 384 (by decide) q k n n' i j := by
  unfold k0_pay19 tile pair
  pointwise
  exact select_eq _ _ _ _

/-! ## Weights and stores -/

/-- One row of a store of the chunk that starts at row `o`. -/
def store (o : ℕ) (ho : o ≤ 448) (v : FVec Ideal S576x64 .f32) (l : FVec Ideal S512x1 .f32) (p : FVec Ideal S512x128 .f32)
    (i : Fin 64) (col : Fin 128) : EReal :=
  if h : col.val < 64 then ∑ j : Fin 128, p (ix2 ⟨o + i.val, by omega⟩ j) * v (ix2 ⟨o + j.val, by omega⟩ ⟨col.val, h⟩)
  else if col.val < 65 then l (ix2 ⟨o + i.val, by omega⟩ 0) else 0

variable (v : FVec Ideal S576x64 .f32) (l : FVec Ideal S512x1 .f32) (p : FVec Ideal S512x128 .f32) (x : S1x1x64x128.Idx)

section Parts

variable (s0 s1 s2 s3 s4 s5 s6 s7 : FVec Ideal S64x128 .f32) (w : IVec S64 32)

theorem store0 : k0_pay28 v s0 s1 s2 s3 s4 s5 s6 s7 w n' x
    = store 0 (by decide) v (k0_pay26 s0 s1 s2 s3 s4 s5 s6 s7 w n') (k0_pay27 s0 s1 s2 s3 s4 s5 s6 s7 w n')
      ⟨(x 2).val, (x 2).isLt⟩ ⟨(x 3).val, (x 3).isLt⟩ := by
  unfold k0_pay28 store
  generalize k0_pay26 s0 s1 s2 s3 s4 s5 s6 s7 w n' = l
  generalize k0_pay27 s0 s1 s2 s3 s4 s5 s6 s7 w n' = p
  pointwise
  have h2 : (x 2).val < 64 := (x 2).isLt
  exact parts_eq (fun e => ∑ j : Fin 128, p (ix2 ⟨(x 2).val, by omega⟩ j) * v (ix2 ⟨j.val, by omega⟩ e)) (fun z => l (ix2 ⟨(x 2).val, by omega⟩ z)) ⟨(x 3).val, (x 3).isLt⟩

theorem store1 : k0_pay30 (k0_pay29 v s0 s1 s2 s3 s4 s5 s6 s7 w n') x
    = store 64 (by decide) v (k0_pay26 s0 s1 s2 s3 s4 s5 s6 s7 w n') (k0_pay27 s0 s1 s2 s3 s4 s5 s6 s7 w n')
      ⟨(x 2).val, (x 2).isLt⟩ ⟨(x 3).val, (x 3).isLt⟩ := by
  unfold k0_pay30 k0_pay29 store
  generalize k0_pay26 s0 s1 s2 s3 s4 s5 s6 s7 w n' = l
  generalize k0_pay27 s0 s1 s2 s3 s4 s5 s6 s7 w n' = p
  pointwise
  have h2 : (x 2).val < 64 := (x 2).isLt
  exact parts_eq (fun e => ∑ j : Fin 128, p (ix2 ⟨64 + (x 2).val, by omega⟩ j) * v (ix2 ⟨64 + j.val, by omega⟩ e)) (fun z => l (ix2 ⟨64 + (x 2).val, by omega⟩ z)) ⟨(x 3).val, (x 3).isLt⟩

/-- The rows of all eight tiles, one below the other. -/
abbrev rows : FVec Ideal S512x128 .f32 := k0_pay22 s0 s1 s2 s3 s4 s5 s6 s7 w n'

theorem top_at (r : Fin 512) (z : Fin 1) : k0_pay23 s0 s1 s2 s3 s4 s5 s6 s7 w n' (ix2 r z) = top fun j => rows n' s0 s1 s2 s3 s4 s5 s6 s7 w (ix2 r j) := by
  unfold k0_pay23 top rows
  generalize k0_pay22 s0 s1 s2 s3 s4 s5 s6 s7 w n' = d
  pointwise

theorem exp_at (r : Fin 512) : k0_pay24 s0 s1 s2 s3 s4 s5 s6 s7 w n' (ix2 r j)
    = Ideal.exp (rows n' s0 s1 s2 s3 s4 s5 s6 s7 w (ix2 r j) - top fun j => rows n' s0 s1 s2 s3 s4 s5 s6 s7 w (ix2 r j)) := by
  rw [← top_at n' s0 s1 s2 s3 s4 s5 s6 s7 w r 0]
  unfold k0_pay24 rows
  generalize k0_pay22 s0 s1 s2 s3 s4 s5 s6 s7 w n' = d
  generalize k0_pay23 s0 s1 s2 s3 s4 s5 s6 s7 w n' = t
  pointwise

theorem total_at (r : Fin 512) (z : Fin 1) : k0_pay25 s0 s1 s2 s3 s4 s5 s6 s7 w n' (ix2 r z)
    = total fun j => rows n' s0 s1 s2 s3 s4 s5 s6 s7 w (ix2 r j) := by
  unfold total
  simp only [← exp_at]
  unfold k0_pay25
  generalize k0_pay24 s0 s1 s2 s3 s4 s5 s6 s7 w n' = d
  pointwise

theorem log_at (r : Fin 512) (z : Fin 1) : k0_pay26 s0 s1 s2 s3 s4 s5 s6 s7 w n' (ix2 r z)
    = (top fun j => rows n' s0 s1 s2 s3 s4 s5 s6 s7 w (ix2 r j)) + Ideal.log (total fun j => rows n' s0 s1 s2 s3 s4 s5 s6 s7 w (ix2 r j)) := by
  rw [← total_at n' s0 s1 s2 s3 s4 s5 s6 s7 w r z, ← top_at n' s0 s1 s2 s3 s4 s5 s6 s7 w r z]
  rfl

theorem weight_at (r : Fin 512) : k0_pay27 s0 s1 s2 s3 s4 s5 s6 s7 w n' (ix2 r j)
    = Ideal.exp (rows n' s0 s1 s2 s3 s4 s5 s6 s7 w (ix2 r j) - top fun j => rows n' s0 s1 s2 s3 s4 s5 s6 s7 w (ix2 r j))
      * Ideal.div 1 (total fun j => rows n' s0 s1 s2 s3 s4 s5 s6 s7 w (ix2 r j)) := by
  rw [← total_at n' s0 s1 s2 s3 s4 s5 s6 s7 w r 0, ← exp_at]
  unfold k0_pay27
  generalize k0_pay24 s0 s1 s2 s3 s4 s5 s6 s7 w n' = d
  generalize k0_pay25 s0 s1 s2 s3 s4 s5 s6 s7 w n' = t
  pointwise

theorem last_at : select (cmpi .eq (broadcastTo S64x128 (shapeCast S64x1 (k0_pay21 n) shapeCasts_S64_S64x1) broadcasts_S64x1_S64x128)
      (broadcastTo S64x128 (shapeCast S1x128 (concatenate S128 0 [⟨S64, shapeCast S64 n' shapeCasts_S1x1x1x64_S64⟩, ⟨S64, k0_pay21 n⟩] concatenates_S64_S64_S128_d0) shapeCasts_S128_S1x128) broadcasts_S1x128_S64x128))
      (broadcast S64x128 (Scalar.ofBits .f32 0xC7435000#32)) (k0_pay20 q k) (ix2 i j)
    = tile 448 (by decide) q k n n' i j := by
  unfold k0_pay21 k0_pay20 tile pair
  pointwise
  exact select_eq _ _ _ _

theorem stack_at (T : Fin 8 → FVec Ideal S64x128 .f32) (g : Fin 8) :
    concatenate S512x128 0 [⟨S64x128, T 0⟩, ⟨S64x128, T 1⟩, ⟨S64x128, T 2⟩, ⟨S64x128, T 3⟩, ⟨S64x128, T 4⟩, ⟨S64x128, T 5⟩, ⟨S64x128, T 6⟩, ⟨S64x128, T 7⟩]
      concatenates_S64x128_S64x128_S64x128_S64x128_S64x128_S64x128_S64x128_S64x128_S512x128_d0 (ix2 ⟨64 * g.val + i.val, by omega⟩ j) = T g (ix2 i j) := by
  refine concatenate_ofFn_apply (s₁ := S64x128) (t := S512x128) 0 T _ rfl 64 rfl _ g ?_ (ix2 i j) ?_ ?_
  · show (64 * g.val + i.val) / 64 = g.val
    omega
  · show i.val = (64 * g.val + i.val) % 64
    omega
  · intro b hb
    match b with
    | ⟨0, _⟩ => exact absurd rfl hb
    | ⟨1, _⟩ => rfl

/-- The numbers of the chunk before each. -/
abbrev earlier (N : Fin 8 → Vec Ideal S1x1x1x64 .i32) : Fin 8 → Vec Ideal S1x1x1x64 .i32 :=
  ![n', N 0, N 1, N 2, N 3, N 4, N 5, N 6]

/-- All scores of the block whose rows are `v0`, the chunk before them `v4`, their numbers `N`, and those of the chunk before `n'`. -/
abbrev scores (N : Fin 8 → Vec Ideal S1x1x1x64 .i32) : FVec Ideal S512x128 .f32 :=
  rows (N 6) (k0_pay9 v0 v4 (N 0) n') (k0_pay12 (k0_pay10 v0) (k0_pay11 v0 v4) (constant S64x128 .f32 0x00000000#32) (N 1) (N 0))
    (k0_pay13 (k0_pay5 v0) (k0_pay8 v0 v4) (N 2) (N 1)) (k0_pay15 (k0_pay14 (k0_pay5 v0) (k0_pay8 v0 v4)) (N 3) (N 2))
    (k0_pay16 (k0_pay5 v0) (k0_pay8 v0 v4) (N 4) (N 3)) (k0_pay18 (k0_pay17 (k0_pay5 v0) (k0_pay8 v0 v4)) (N 5) (N 4))
    (k0_pay19 (k0_pay5 v0) (k0_pay8 v0 v4) (N 6) (N 5)) (k0_pay20 (k0_pay5 v0) (k0_pay8 v0 v4)) (k0_pay21 (N 7))

theorem scores_at (N : Fin 8 → Vec Ideal S1x1x1x64 .i32) (g : Fin 8) :
    scores v0 v4 n' N (ix2 ⟨64 * g.val + i.val, by omega⟩ j)
      = tile (64 * g.val) (by omega) (k0_pay5 v0) (k0_pay8 v0 v4) (N g) (earlier n' N g) i j := by
  refine (stack_at i j ![_, _, _, _, _, _, _, _] g).trans ?_
  fin_cases g
  · exact tile0 v0 v4 (N 0) n' i j
  · exact tile1 v0 v4 (N 1) (N 0) i j
  · exact tile2 _ _ (N 2) (N 1) i j
  · exact tile3 _ _ (N 3) (N 2) i j
  · exact tile4 _ _ (N 4) (N 3) i j
  · exact tile5 _ _ (N 5) (N 4) i j
  · exact tile6 _ _ (N 6) (N 5) i j
  · exact last_at _ _ (N 7) (N 6) i j

/-- A row of a store, of the scores of its query. -/
theorem store_at (o : ℕ) (ho : o ≤ 448) (l : FVec Ideal S512x1 .f32) (p d : FVec Ideal S512x128 .f32)
    (hl : ∀ (r : Fin 512) (z : Fin 1), l (ix2 r z) = (top fun j => d (ix2 r j)) + Ideal.log (total fun j => d (ix2 r j)))
    (hp : ∀ (r : Fin 512) (j : Fin 128), p (ix2 r j) = Ideal.exp (d (ix2 r j) - top fun j => d (ix2 r j)) * Ideal.div 1 (total fun j => d (ix2 r j)))
    (col : Fin 128) : store o ho v l p i col
      = attend (fun j => d (ix2 ⟨o + i.val, by omega⟩ j)) (fun j e => v (ix2 ⟨o + j.val, by omega⟩ e)) col := by
  unfold store attend
  simp only [hl, hp]

end Parts

theorem store2 : k0_pay31 v l p x = store 128 (by decide) v l p ⟨(x 2).val, (x 2).isLt⟩ ⟨(x 3).val, (x 3).isLt⟩ := by
  unfold k0_pay31 store
  pointwise
  have h2 : (x 2).val < 64 := (x 2).isLt
  exact parts_eq (fun e => ∑ j : Fin 128, p (ix2 ⟨128 + (x 2).val, by omega⟩ j) * v (ix2 ⟨128 + j.val, by omega⟩ e)) (fun z => l (ix2 ⟨128 + (x 2).val, by omega⟩ z)) ⟨(x 3).val, (x 3).isLt⟩

theorem store3 : k0_pay32 v l p x = store 192 (by decide) v l p ⟨(x 2).val, (x 2).isLt⟩ ⟨(x 3).val, (x 3).isLt⟩ := by
  unfold k0_pay32 store
  pointwise
  have h2 : (x 2).val < 64 := (x 2).isLt
  exact parts_eq (fun e => ∑ j : Fin 128, p (ix2 ⟨192 + (x 2).val, by omega⟩ j) * v (ix2 ⟨192 + j.val, by omega⟩ e)) (fun z => l (ix2 ⟨192 + (x 2).val, by omega⟩ z)) ⟨(x 3).val, (x 3).isLt⟩

theorem store4 : k0_pay33 v l p x = store 256 (by decide) v l p ⟨(x 2).val, (x 2).isLt⟩ ⟨(x 3).val, (x 3).isLt⟩ := by
  unfold k0_pay33 store
  pointwise
  have h2 : (x 2).val < 64 := (x 2).isLt
  exact parts_eq (fun e => ∑ j : Fin 128, p (ix2 ⟨256 + (x 2).val, by omega⟩ j) * v (ix2 ⟨256 + j.val, by omega⟩ e)) (fun z => l (ix2 ⟨256 + (x 2).val, by omega⟩ z)) ⟨(x 3).val, (x 3).isLt⟩

theorem store5 : k0_pay1 (k0_pay34 v l p) x = store 320 (by decide) v l p ⟨(x 2).val, (x 2).isLt⟩ ⟨(x 3).val, (x 3).isLt⟩ := by
  unfold k0_pay1 k0_pay34 store
  pointwise
  have h2 : (x 2).val < 64 := (x 2).isLt
  exact parts_eq (fun e => ∑ j : Fin 128, p (ix2 ⟨320 + (x 2).val, by omega⟩ j) * v (ix2 ⟨320 + j.val, by omega⟩ e)) (fun z => l (ix2 ⟨320 + (x 2).val, by omega⟩ z)) ⟨(x 3).val, (x 3).isLt⟩

theorem store6 : k0_pay2 v l p x = store 384 (by decide) v l p ⟨(x 2).val, (x 2).isLt⟩ ⟨(x 3).val, (x 3).isLt⟩ := by
  unfold k0_pay2 store
  pointwise
  have h2 : (x 2).val < 64 := (x 2).isLt
  exact parts_eq (fun e => ∑ j : Fin 128, p (ix2 ⟨384 + (x 2).val, by omega⟩ j) * v (ix2 ⟨384 + j.val, by omega⟩ e)) (fun z => l (ix2 ⟨384 + (x 2).val, by omega⟩ z)) ⟨(x 3).val, (x 3).isLt⟩

theorem store7 : k0_pay3 v l p x = store 448 (by decide) v l p ⟨(x 2).val, (x 2).isLt⟩ ⟨(x 3).val, (x 3).isLt⟩ := by
  unfold k0_pay3 store
  pointwise
  have h2 : (x 2).val < 64 := (x 2).isLt
  exact parts_eq (fun e => ∑ j : Fin 128, p (ix2 ⟨448 + (x 2).val, by omega⟩ j) * v (ix2 ⟨448 + j.val, by omega⟩ e)) (fun z => l (ix2 ⟨448 + (x 2).val, by omega⟩ z)) ⟨(x 3).val, (x 3).isLt⟩

/-! ## The rows of a block -/

section Rows

variable (v0 : Vec Ideal S1x8x64x128 .f32) (v4 : Vec Ideal S1x1x64x128 .f32)

/-- Row `r` of a block's rows below those of the chunk before it. -/
def rowOf (r : Fin 576) (col : Fin 128) : EReal :=
  if h : r.val < 64 then v4 (ix4 0 0 ⟨r.val, h⟩ col) else v0 (ix4 0 ⟨(r.val - 64) / 64, by omega⟩ ⟨(r.val - 64) % 64, by omega⟩ col)

theorem query_at (r : Fin 512) (d : Fin 64) :
    k0_pay5 v0 (ix2 r d) = v0 (ix4 0 ⟨r.val / 64, by omega⟩ ⟨r.val % 64, by omega⟩ ⟨d.val, by omega⟩) := by
  unfold k0_pay5 k0_pay4
  pointwise

theorem row_at (r : Fin 576) (col : Fin 128) : k0_pay6 v0 v4 (ix2 r col) = rowOf v0 v4 r col := by
  unfold k0_pay6 k0_pay4 rowOf
  pointwise

theorem value_at (r : Fin 576) (d : Fin 64) : k0_pay7 v0 v4 (ix2 r d) = rowOf v0 v4 r ⟨64 + d.val, by omega⟩ := by
  rw [← row_at]
  unfold k0_pay7
  generalize k0_pay6 v0 v4 = f
  pointwise

theorem key_at (r : Fin 576) (d : Fin 64) : k0_pay8 v0 v4 (ix2 r d) = key (fun d => rowOf v0 v4 r ⟨d.val, by omega⟩) d := by
  simp only [← row_at]
  unfold k0_pay8 key
  generalize k0_pay6 v0 v4 = f
  pointwise

end Rows

end Cert.Proof.AttTile

end
-- ==== Proof.AttRef.lean ====
/- The plain attention within chunks: its stages as functions of the rows and their numbers, and its run. -/
module

public import proofs.«01_k».proof.Defs
public import proofs.«01_k».proof.Proof.Gen.AttentionReferenceIdeal
public import Idealize.ShloMosaic.Lib.Claim
public import Idealize.ShloMosaic.Lib.StableHlo.RunRead
public import Idealize.ShloMosaic.Lib.Pointwise

@[expose] public section

noncomputable section

namespace Cert.Proof.AttRef

open Idealize.ShloMosaic Idealize.ShloMosaic.TcCoe Idealize.SL.Sem
open Idealize.ShloMosaic.Pointwise
open Cert.AttentionReferenceIdeal Cert.AttentionReferenceIdeal.Gen

/-- The queries, by chunk. -/
def queries (a : FVec Ideal S4x16384x128 .f32) : FVec Ideal S4x256x64x64 .f32 :=
  shapeCast S4x256x64x64 (extractStridedSlice S4x16384x64 ![0, 0, 0] a slices_S4x16384x128_S4x16384x64_0_0_0) shapeCasts_S4x16384x64_S4x256x64x64

/-- The values, by chunk. -/
def values (a : FVec Ideal S4x16384x128 .f32) : FVec Ideal S4x256x64x64 .f32 :=
  shapeCast S4x256x64x64 (extractStridedSlice S4x16384x64 ![0, 0, 64] a slices_S4x16384x128_S4x16384x64_0_0_64) shapeCasts_S4x16384x64_S4x256x64x64

/-- The numbers, by chunk. -/
def numbers (s : IVec S4x16384 32) : IVec S4x256x64 32 := shapeCast S4x256x64 s shapeCasts_S4x16384_S4x256x64

/-- The queries over their norms. -/
def keys (q : FVec Ideal S4x256x64x64 .f32) : FVec Ideal S4x256x64x64 .f32 :=
  Host.divf q (broadcastInDim S4x256x64x64 ![0, 1, 2, 3] bcast_S4x256x64x1_S4x256x64x64_0_1_2_3
    (maximumf (Host.sqrt (broadcastInDim S4x256x64x1 ![0, 1, 2] bcast_S4x256x64_S4x256x64x1_0_1_2
      (Host.reduceAdd (mulf q q) (constant S_ .f32 0x00000000#32) reducesTo_S4x256x64x64_S4x256x64_d3 h_S_)))
      (broadcastInDim S4x256x64x1 ![] bcast_S_S4x256x64x1 (constant S_ .f32 0x2B8CBCCC#32))))

/-- Each chunk's rows, then those of the chunk before it. -/
def withBack (x : FVec Ideal S4x256x64x64 .f32) : FVec Ideal S4x256x128x64 .f32 :=
  concatenate S4x256x128x64 2 [⟨S4x256x64x64, x⟩, ⟨S4x256x64x64, concatenate S4x256x64x64 1
    [⟨S4x1x64x64, extractStridedSlice S4x1x64x64 ![0, 255, 0, 0] x slices_S4x256x64x64_S4x1x64x64_0_255_0_0⟩,
     ⟨S4x255x64x64, extractStridedSlice S4x255x64x64 ![0, 0, 0, 0] x slices_S4x256x64x64_S4x255x64x64_0_0_0_0⟩]
    concatenates_S4x1x64x64_S4x255x64x64_S4x256x64x64_d1⟩] concatenates_S4x256x64x64_S4x256x64x64_S4x256x128x64_d2

/-- The same of the numbers. -/
def withBackNumbers (x : IVec S4x256x64 32) : IVec S4x256x128 32 :=
  concatenate S4x256x128 2 [⟨S4x256x64, x⟩, ⟨S4x256x64, concatenate S4x256x64 1
    [⟨S4x1x64, extractStridedSlice S4x1x64 ![0, 255, 0] x slices_S4x256x64_S4x1x64_0_255_0⟩,
     ⟨S4x255x64, extractStridedSlice S4x255x64 ![0, 0, 0] x slices_S4x256x64_S4x255x64_0_0_0⟩]
    concatenates_S4x1x64_S4x255x64_S4x256x64_d1⟩] concatenates_S4x256x64_S4x256x64_S4x256x128_d2

/-- The scores of every query, its own key's replaced. -/
def scores (q : FVec Ideal S4x256x64x64 .f32) (k : FVec Ideal S4x256x128x64 .f32) (t : IVec S4x256x64 32) (t' : IVec S4x256x128 32) :
    FVec Ideal S4x256x64x128 .f32 :=
  select (cmpi .eq (broadcastInDim S4x256x64x128 ![0, 1, 2, 3] bcast_S4x256x64x1_S4x256x64x128_0_1_2_3
      (broadcastInDim S4x256x64x1 ![0, 1, 2] bcast_S4x256x64_S4x256x64x1_0_1_2 t))
    (broadcastInDim S4x256x64x128 ![0, 1, 2, 3] bcast_S4x256x1x128_S4x256x64x128_0_1_2_3
      (broadcastInDim S4x256x1x128 ![0, 1, 3] bcast_S4x256x128_S4x256x1x128_0_1_3 t')))
    (broadcastInDim S4x256x64x128 ![] bcast_S_S4x256x64x128 (constant S_ .f32 0xC7435000#32))
    (mulf (Host.dotGeneral dot_S4x256x64x64_S4x256x128x64_S4x256x64x128_3_3_2_2_01_01 none q k)
      (broadcastInDim S4x256x64x128 ![] bcast_S_S4x256x64x128 (constant S_ .f32 0x3E000000#32)))

/-- The greatest score of every query. -/
def tops (d : FVec Ideal S4x256x64x128 .f32) : FVec Ideal S4x256x64x1 .f32 :=
  broadcastInDim S4x256x64x1 ![0, 1, 2] bcast_S4x256x64_S4x256x64x1_0_1_2
    (Host.reduce FloatOps.maximumf d (constant S_ .f32 0xFF800000#32) reducesTo_S4x256x64x128_S4x256x64_d3 h_S_)

/-- The logarithm of the sum of the exponentials of every query's scores. -/
def logSums (d : FVec Ideal S4x256x64x128 .f32) : FVec Ideal S4x256x64x1 .f32 :=
  addf (Host.log (broadcastInDim S4x256x64x1 ![0, 1, 2] bcast_S4x256x64_S4x256x64x1_0_1_2
    (Host.reduceAdd (Host.exp (subf d (broadcastInDim S4x256x64x128 ![0, 1, 2, 3] bcast_S4x256x64x1_S4x256x64x128_0_1_2_3 (tops d))))
      (constant S_ .f32 0x00000000#32) reducesTo_S4x256x64x128_S4x256x64_d3 h_S_))) (tops d)

/-- The weighted values, the logarithm, and the padding. -/
def answer (d : FVec Ideal S4x256x64x128 .f32) (l : FVec Ideal S4x256x64x1 .f32) (v : FVec Ideal S4x256x128x64 .f32) : FVec Ideal S4x256x64x128 .f32 :=
  concatenate S4x256x64x128 3 [⟨S4x256x64x64, Host.dotGeneral dot_S4x256x64x128_S4x256x128x64_S4x256x64x64_3_2_2_3_01_01 none
      (Host.exp (subf d (broadcastInDim S4x256x64x128 ![0, 1, 2, 3] bcast_S4x256x64x1_S4x256x64x128_0_1_2_3 l))) v⟩,
    ⟨S4x256x64x1, l⟩,
    ⟨S4x256x64x63, broadcastInDim S4x256x64x63 ![] bcast_S_S4x256x64x63 (constant S_ .f32 0x00000000#32)⟩]
    concatenates_S4x256x64x64_S4x256x64x1_S4x256x64x63_S4x256x64x128_d3

/-- The scores of the whole. -/
def allScores (a : FVec Ideal S4x16384x128 .f32) (s : IVec S4x16384 32) : FVec Ideal S4x256x64x128 .f32 :=
  scores (queries a) (withBack (keys (queries a))) (numbers s) (withBackNumbers (numbers s))

/-- The whole, of the rows and their numbers. -/
def plain (a : FVec Ideal S4x16384x128 .f32) (s : IVec S4x16384 32) : FVec Ideal S4x256x64x128 .f32 :=
  answer (allScores a s) (logSums (allScores a s)) (withBack (values a))

/-- The operations of the program, in order. -/
def lineOf : { ops : List (HloOp τ sig (Elt Ideal)) // ∀ d : Dev nD, StableHlo.IsSeq (main (F := Ideal) d) ops } := by
  apply Subtype.mk
  hlo_seq

abbrev line : List (HloOp τ sig (Elt Ideal)) := lineOf.1

/-- The operations from the `a`th to before the `b`th. -/
abbrev stretch (a b : ℕ) : List (HloOp τ sig (Elt Ideal)) := (line.take b).drop a

theorem upto_stretch (V : Valuation τ sig (Elt Ideal)) {a b : ℕ} (h : a ≤ b) :
    StableHlo.upto line V b = StableHlo.after (stretch a b) (StableHlo.upto line V a) := by
  unfold StableHlo.upto
  conv_lhs => rw [← List.take_append_drop a (line.take b), StableHlo.after_append, List.take_take, Nat.min_eq_left h]

theorem after_stretch (V : Valuation τ sig (Elt Ideal)) (a : ℕ) :
    StableHlo.after line V = StableHlo.after (line.drop a) (StableHlo.upto line V a) := by
  conv_lhs => rw [← List.take_append_drop a line, StableHlo.after_append]
  rfl

section Stages

variable (W : Valuation τ sig (Elt Ideal))

theorem first_v3 : StableHlo.after (stretch 0 15) W (Proc.devRef .tc main_v3) = queries (W (Proc.devRef .tc main_arg0)) := by
  after_reads_simp
  rfl

theorem first_v4 : StableHlo.after (stretch 0 15) W (Proc.devRef .tc main_v4) = values (W (Proc.devRef .tc main_arg0)) := by
  after_reads_simp
  rfl

theorem first_v2 : StableHlo.after (stretch 0 15) W (Proc.devRef .tc main_v2) = numbers (W (Proc.devRef .tc main_arg1)) := by
  after_reads_simp
  rfl

theorem first_v9 : StableHlo.after (stretch 0 15) W (Proc.devRef .tc main_v9) = keys (queries (W (Proc.devRef .tc main_arg0))) := by
  after_reads_simp
  rfl

theorem second_v2 : StableHlo.after (stretch 15 27) W (Proc.devRef .tc main_v2) = W (Proc.devRef .tc main_v2) := by
  after_reads_simp

theorem second_v3 : StableHlo.after (stretch 15 27) W (Proc.devRef .tc main_v3) = W (Proc.devRef .tc main_v3) := by
  after_reads_simp

theorem second_v13 : StableHlo.after (stretch 15 27) W (Proc.devRef .tc main_v13) = withBack (W (Proc.devRef .tc main_v9)) := by
  after_reads_simp
  rfl

theorem second_v17 : StableHlo.after (stretch 15 27) W (Proc.devRef .tc main_v17) = withBack (W (Proc.devRef .tc main_v4)) := by
  after_reads_simp
  rfl

theorem second_v21 : StableHlo.after (stretch 15 27) W (Proc.devRef .tc main_v21) = withBackNumbers (W (Proc.devRef .tc main_v2)) := by
  after_reads_simp
  rfl

theorem third_v30 : StableHlo.after (stretch 27 40) W (Proc.devRef .tc main_v30)
    = scores (W (Proc.devRef .tc main_v3)) (W (Proc.devRef .tc main_v13)) (W (Proc.devRef .tc main_v2)) (W (Proc.devRef .tc main_v21)) := by
  after_reads_simp
  rfl

theorem third_v17 : StableHlo.after (stretch 27 40) W (Proc.devRef .tc main_v17) = W (Proc.devRef .tc main_v17) := by
  after_reads_simp

theorem fourth_v30 : StableHlo.after (stretch 40 51) W (Proc.devRef .tc main_v30) = W (Proc.devRef .tc main_v30) := by
  after_reads_simp

theorem fourth_v17 : StableHlo.after (stretch 40 51) W (Proc.devRef .tc main_v17) = W (Proc.devRef .tc main_v17) := by
  after_reads_simp

theorem fourth_v39 : StableHlo.after (stretch 40 51) W (Proc.devRef .tc main_v39) = logSums (W (Proc.devRef .tc main_v30)) := by
  after_reads_simp
  rfl

theorem last_v45 : StableHlo.after (line.drop 51) W (Proc.devRef .tc main_v45)
    = answer (W (Proc.devRef .tc main_v30)) (W (Proc.devRef .tc main_v39)) (W (Proc.devRef .tc main_v17)) := by
  after_reads_simp
  rfl

theorem line_v45 : StableHlo.after line W (Proc.devRef .tc main_v45) = plain (W (Proc.devRef .tc main_arg0)) (W (Proc.devRef .tc main_arg1)) := by
  rw [after_stretch W 51, last_v45, upto_stretch W (show 40 ≤ 51 by decide), fourth_v30, fourth_v17, fourth_v39,
    upto_stretch W (show 27 ≤ 40 by decide), third_v30, third_v17, upto_stretch W (show 15 ≤ 27 by decide), second_v2, second_v3, second_v13,
    second_v17, second_v21, upto_stretch W (show 0 ≤ 15 by decide), first_v3, first_v4, first_v2, first_v9, StableHlo.upto_zero]
  rfl

end Stages

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
    r.2.mem ((c.tc : Thread nD τ).loc main_v45) = plain (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine θ_run_mono (StableHlo.run_hlo defs main lineOf.2 (by decide) (by decide) (by unfold lineOf; simp)
    (by intro _ h; (repeat (cases h with | head => rfl | tail _ h => ?_)); exact nomatch h) m ρ) fun r h c => ⟨?_, ?_, ?_⟩
  · rw [h c main_v45]
    exact line_v45 _
  · rw [h c main_arg0]
    after_reads_simp
  · rw [h c main_arg1]
    after_reads_simp

end Cert.Proof.AttRef

end
-- ==== Proof.AttRefVal.lean ====
/- The plain attention, read at one query: its row is `attendLog` of the query's scores over its chunk and the one before. -/
module

public import proofs.«01_k».proof.Proof.AttRef
public import proofs.«01_k».proof.Proof.AttMath

@[expose] public section

noncomputable section

namespace Cert.Proof.AttRef

open Idealize.ShloMosaic Idealize.ShloMosaic.TcCoe
open Idealize.ShloMosaic.Pointwise
open Cert.AttentionReferenceIdeal Cert.AttentionReferenceIdeal.Gen
open Cert.Proof.AttMath

/-- The chunk before, around the end. -/
def before (c : Fin 256) : Fin 256 := ⟨(c.val + 255) % 256, Nat.mod_lt _ (by decide)⟩

/-- The place of a chunk's row. -/
def place (c : Fin 256) (i : Fin 64) : Fin 16384 := ⟨c.val * 64 + i.val, by omega⟩

/-- The first 64 columns, and the last. -/
def low (d : Fin 64) : Fin 128 := ⟨d.val, by omega⟩
def high (d : Fin 64) : Fin 128 := ⟨64 + d.val, by omega⟩

variable (b : Fin 4) (c : Fin 256) (i : Fin 64)

theorem queries_at (a : FVec Ideal S4x16384x128 .f32) (d : Fin 64) : queries a (ix4 b c i d) = a (ix3 b (place c i) (low d)) := by
  unfold queries place low
  pointwise

theorem values_at (a : FVec Ideal S4x16384x128 .f32) (d : Fin 64) : values a (ix4 b c i d) = a (ix3 b (place c i) (high d)) := by
  unfold values place high
  pointwise

theorem numbers_at (s : IVec S4x16384 32) : numbers s (ix3 b c i) = s (ix2 b (place c i)) := by
  unfold numbers place
  pointwise

theorem keys_at (q : FVec Ideal S4x256x64x64 .f32) (d : Fin 64) : keys q (ix4 b c i d) = key (fun d => q (ix4 b c i d)) d := by
  unfold keys key
  pointwise

theorem withBack_at (x : FVec Ideal S4x256x64x64 .f32) (j : Fin 128) (d : Fin 64) :
    withBack x (ix4 b c j d) = pair (fun i => x (ix4 b c i d)) (fun i => x (ix4 b (before c) i d)) j := by
  unfold withBack pair before
  pointwise
  refine dite_congr rfl (fun _ => rfl) fun _ => ?_
  split
  · exact congrArg (fun c' => x (ix4 b c' _ d)) (Fin.ext (by show 255 + c.val = (c.val + 255) % 256; omega))
  · exact congrArg (fun c' => x (ix4 b c' _ d)) (Fin.ext (by show c.val - 1 = (c.val + 255) % 256; omega))

theorem withBackNumbers_at (x : IVec S4x256x64 32) (j : Fin 128) :
    withBackNumbers x (ix3 b c j) = pair (fun i => x (ix3 b c i)) (fun i => x (ix3 b (before c) i)) j := by
  unfold withBackNumbers pair before
  pointwise
  refine dite_congr rfl (fun _ => rfl) fun _ => ?_
  split
  · exact congrArg (fun c' => x (ix3 b c' _)) (Fin.ext (by show 255 + c.val = (c.val + 255) % 256; omega))
  · exact congrArg (fun c' => x (ix3 b c' _)) (Fin.ext (by show c.val - 1 = (c.val + 255) % 256; omega))

theorem scores_at (q : FVec Ideal S4x256x64x64 .f32) (k : FVec Ideal S4x256x128x64 .f32) (t : IVec S4x256x64 32) (t' : IVec S4x256x128 32) (j : Fin 128) :
    scores q k t t' (ix4 b c i j) = if t (ix3 b c i) = t' (ix3 b c j) then Ideal.ofBits .f32 0xC7435000#32
      else (∑ d : Fin 64, q (ix4 b c i d) * k (ix4 b c j d)) * Ideal.ofBits .f32 0x3E000000#32 := by
  unfold scores
  pointwise
  exact select_eq _ _ _ _

theorem tops_at (d : FVec Ideal S4x256x64x128 .f32) (z : Fin 1) : tops d (ix4 b c i z) = top fun j => d (ix4 b c i j) := by
  unfold tops top
  pointwise

theorem logSums_at (d : FVec Ideal S4x256x64x128 .f32) (z : Fin 1) : logSums d (ix4 b c i z)
    = Ideal.log (total fun j => d (ix4 b c i j)) + top fun j => d (ix4 b c i j) := by
  unfold logSums total
  pointwise [tops_at]

theorem answer_at (d : FVec Ideal S4x256x64x128 .f32) (l : FVec Ideal S4x256x64x1 .f32) (v : FVec Ideal S4x256x128x64 .f32) (col : Fin 128) :
    answer d l v (ix4 b c i col) = if h : col.val < 64 then ∑ j : Fin 128, Ideal.exp (d (ix4 b c i j) - l (ix4 b c i 0)) * v (ix4 b c j ⟨col.val, h⟩)
      else if col.val < 65 then l (ix4 b c i 0) else 0 := by
  unfold answer
  pointwise
  exact parts_eq (fun e => ∑ x : Fin 128, Ideal.exp (d (ix4 b c i x) - l (ix4 b c i 0)) * v (ix4 b c x e)) (fun z => l (ix4 b c i z)) col

/-- The scores of one query over its window. -/
def window (a : FVec Ideal S4x16384x128 .f32) (s : IVec S4x16384 32) (j : Fin 128) : EReal :=
  score (fun d => a (ix3 b (place c i) (low d))) (s (ix2 b (place c i)))
    (pair (fun i d => a (ix3 b (place c i) (low d))) (fun i d => a (ix3 b (place (before c) i) (low d))) j)
    (pair (fun i => s (ix2 b (place c i))) (fun i => s (ix2 b (place (before c) i))) j)

theorem pair_apply {α β : Type} (f g : Fin 64 → α → β) (j : Fin 128) (d : α) : pair (fun i => f i d) (fun i => g i d) j = pair f g j d := by
  unfold pair
  split <;> rfl

theorem pair_key (f g : Fin 64 → Fin 64 → EReal) (j : Fin 128) (d : Fin 64) : pair (fun i => key (f i) d) (fun i => key (g i) d) j = key (pair f g j) d := by
  unfold pair
  split <;> rfl

theorem allScores_at (a : FVec Ideal S4x16384x128 .f32) (s : IVec S4x16384 32) (j : Fin 128) : allScores a s (ix4 b c i j) = window b c i a s j := by
  unfold allScores window score
  rw [scores_at, withBackNumbers_at]
  simp only [withBack_at, keys_at, numbers_at, queries_at, pair_key]

theorem plain_at (a : FVec Ideal S4x16384x128 .f32) (s : IVec S4x16384 32) (col : Fin 128) : plain a s (ix4 b c i col)
    = attendLog (window b c i a s) (pair (fun i d => a (ix3 b (place c i) (high d))) (fun i d => a (ix3 b (place (before c) i) (high d)))) col := by
  unfold plain attendLog
  rw [answer_at, logSums_at]
  simp only [allScores_at, withBack_at, values_at, pair_apply (fun i d => a (ix3 b (place c i) (high d)))]
  rfl

end Cert.Proof.AttRef

end
-- ==== Proof.AttVal.lean ====
/- The attention kernel and the plain attention leave the same array where the queries are finite: the kernel's blocks,
   row by row, and the claims about the two. -/
module

public import proofs.«01_k».proof.Proof.AttTile
public import proofs.«01_k».proof.Proof.AttRefVal
public import proofs.«01_k».proof.Proof.Gen.Pre_finite_queries
public import proofs.«01_k».proof.Proof.Gen.Attention.Frame
public import proofs.«01_k».proof.Proof.Gen.AttentionIdeal.Value

@[expose] public section

noncomputable section

namespace Cert.Proof.AttVal

open Idealize.ShloMosaic Idealize.ShloMosaic.TcCoe Idealize.SL.Sem
open Idealize.ShloMosaic.Pipeline Idealize.ShloMosaic.Pointwise
open Cert.AttentionIdeal Cert.AttentionIdeal.Gen Cert.Proof.AttMath Cert.Proof.AttTile
open Cert.Proof.AttRef (before place low high window plain plain_at)

/-- Chunk `g` of the eight that block `c` holds. -/
def chunk (c : Fin 32) (g : Fin 8) : Fin 256 := ⟨c.val * 8 + g.val, by omega⟩

/-! ## One block -/

section Block

variable (a : FVec Ideal S4x16384x128 .f32) (s : IVec S4x16384 32) (b : Fin 4) (c : Fin 32)
  (v0 : Vec Ideal S1x8x64x128 .f32) (v4 : Vec Ideal S1x1x64x128 .f32) (n' : Vec Ideal S1x1x1x64 .i32) (N : Fin 8 → Vec Ideal S1x1x1x64 .i32)

/-- The block's inputs are block `c` of the rows and numbers of batch `b`, and the chunk before it. -/
structure Reads : Prop where
  rows : ∀ g i col, v0 (ix4 0 g i col) = a (ix3 b (place (chunk c g) i) col)
  back : ∀ i col, v4 (ix4 0 0 i col) = a (ix3 b (place (before (chunk c 0)) i) col)
  numbers : ∀ g i, N g (ix4 0 0 0 i) = s (ix2 b (place (chunk c g) i))
  backNumbers : ∀ i, n' (ix4 0 0 0 i) = s (ix2 b (place (before (chunk c 0)) i))

variable {a s b c v0 v4 n' N} (H : Reads a s b c v0 v4 n' N)
include H

theorem query_read (g : Fin 8) (i : Fin 64) (d : Fin 64) :
    k0_pay5 v0 (ix2 ⟨64 * g.val + i.val, by omega⟩ d) = a (ix3 b (place (chunk c g) i) (low d)) := by
  rw [query_at, ← H.rows]
  refine congrArg v0 (funext fun q => Fin.ext ?_)
  match q with
  | ⟨0, _⟩ => rfl
  | ⟨1, _⟩ => show (64 * g.val + i.val) / 64 = g.val; omega
  | ⟨2, _⟩ => show (64 * g.val + i.val) % 64 = i.val; omega
  | ⟨3, _⟩ => rfl

theorem row_read (g : Fin 8) (j : Fin 128) (col : Fin 128) :
    rowOf v0 v4 ⟨64 * g.val + j.val, by omega⟩ col
      = pair (fun i => a (ix3 b (place (before (chunk c g)) i) col)) (fun i => a (ix3 b (place (chunk c g) i) col)) j := by
  unfold rowOf pair
  by_cases hj : j.val < 64
  · rw [dif_pos hj]
    by_cases hg : g.val = 0
    · obtain rfl : g = 0 := Fin.ext hg
      rw [dif_pos (show 64 * (0 : Fin 8).val + j.val < 64 by show 64 * 0 + j.val < 64; omega), H.back]
      refine congrArg (fun i => a (ix3 b (place (before (chunk c 0)) i) col)) (Fin.ext ?_)
      show 64 * 0 + j.val = j.val
      omega
    · rw [dif_neg (by show ¬ 64 * g.val + j.val < 64; omega), H.rows]
      refine congrArg (fun r => a (ix3 b r col)) (Fin.ext ?_)
      show (c.val * 8 + (64 * g.val + j.val - 64) / 64) * 64 + (64 * g.val + j.val - 64) % 64 = (c.val * 8 + g.val + 255) % 256 * 64 + j.val
      omega
  · rw [dif_neg hj, dif_neg (by show ¬ 64 * g.val + j.val < 64; omega), H.rows]
    refine congrArg (fun r => a (ix3 b r col)) (Fin.ext ?_)
    show (c.val * 8 + (64 * g.val + j.val - 64) / 64) * 64 + (64 * g.val + j.val - 64) % 64 = (c.val * 8 + g.val) * 64 + (j.val - 64)
    omega

theorem earlier_read (g : Fin 8) (i : Fin 64) :
    earlier n' N g (ix4 0 0 0 i) = s (ix2 b (place (before (chunk c g)) i)) := by
  have step : ∀ g g' : Fin 8, g'.val = g.val + 1 → N g (ix4 0 0 0 i) = s (ix2 b (place (before (chunk c g')) i)) := by
    intro g g' h
    rw [H.numbers]
    refine congrArg (fun r => s (ix2 b (place r i))) (Fin.ext ?_)
    show c.val * 8 + g.val = (c.val * 8 + g'.val + 255) % 256
    omega
  fin_cases g
  · exact H.backNumbers i
  · exact step 0 1 rfl
  · exact step 1 2 rfl
  · exact step 2 3 rfl
  · exact step 3 4 rfl
  · exact step 4 5 rfl
  · exact step 5 6 rfl
  · exact step 6 7 rfl

theorem score_read (g : Fin 8) (i : Fin 64) (j : Fin 128) :
    scores v0 v4 n' N (ix2 ⟨64 * g.val + i.val, by omega⟩ j)
      = score (fun d => a (ix3 b (place (chunk c g) i) (low d))) (s (ix2 b (place (chunk c g) i)))
          (pair (fun i d => a (ix3 b (place (before (chunk c g)) i) (low d))) (fun i d => a (ix3 b (place (chunk c g) i) (low d))) j)
          (pair (fun i => s (ix2 b (place (before (chunk c g)) i))) (fun i => s (ix2 b (place (chunk c g) i))) j) := by
  have e : (fun d : Fin 64 => rowOf v0 v4 ⟨64 * g.val + j.val, by omega⟩ ⟨d.val, by omega⟩)
      = pair (fun i d => a (ix3 b (place (before (chunk c g)) i) (low d))) (fun i d => a (ix3 b (place (chunk c g) i) (low d))) j := by
    funext d
    rw [row_read H]
    unfold pair low
    split <;> rfl
  rw [scores_at]
  unfold tile score
  simp only [key_at, query_read H, earlier_read H, H.numbers, e]

theorem value_read (g : Fin 8) (j : Fin 128) (d : Fin 64) :
    k0_pay7 v0 v4 (ix2 ⟨64 * g.val + j.val, by omega⟩ d)
      = pair (fun i d => a (ix3 b (place (before (chunk c g)) i) (high d))) (fun i d => a (ix3 b (place (chunk c g) i) (high d))) j d := by
  rw [value_at, row_read H]
  unfold pair high
  split <;> rfl

/-- A store's row is the plain attention's. -/
theorem stored (o : ℕ) (g : Fin 8) (ho : o ≤ 448) (eo : o = 64 * g.val) (hf : ∀ (r : Fin 16384) (d : Fin 64), ∃ e : ℝ, a (ix3 b r (low d)) = (e : EReal))
    (l : FVec Ideal S512x1 .f32) (p : FVec Ideal S512x128 .f32)
    (hl : ∀ (r : Fin 512) (z : Fin 1), l (ix2 r z) = (top fun j => scores v0 v4 n' N (ix2 r j)) + Ideal.log (total fun j => scores v0 v4 n' N (ix2 r j)))
    (hp : ∀ (r : Fin 512) (j : Fin 128), p (ix2 r j) = Ideal.exp (scores v0 v4 n' N (ix2 r j) - top fun j => scores v0 v4 n' N (ix2 r j))
      * Ideal.div 1 (total fun j => scores v0 v4 n' N (ix2 r j)))
    (i : Fin 64) (col : Fin 128) :
    store o ho (k0_pay7 v0 v4) l p i col = plain a s (ix4 b (chunk c g) i col) := by
  subst eo
  rw [store_at _ _ _ _ l p _ hl hp, plain_at]
  simp only [score_read H, value_read H]
  exact row_eq _ _ _ _ _ _ _ _ (fun d => hf _ d) (fun j d => hf _ d) (fun j d => hf _ d) col

end Block

/-! ## The blocks' reads -/

variable (m : (ℓ : Loc nD τ sig) → Buf (Elt Ideal) ℓ)

theorem entry_rows (c : Dev nD) : V m c main_v0
    = shapeCast S4x256x64x128 (m ((c : Thread nD τ).loc main_arg0)) shapeCasts_S4x16384x128_S4x256x64x128 := by
  unfold V hostOps0
  after_results <;> rfl

theorem entry_numbers (c : Dev nD) : V m c main_v1
    = shapeCast S4x256x1x64 (m ((c : Thread nD τ).loc main_arg1)) shapeCasts_S4x16384_S4x256x1x64 := by
  unfold V hostOps0
  after_results <;> rfl

theorem rows_split (a : FVec Ideal S4x16384x128 .f32) (j : S4x256x64x128.Idx) (b : Fin 4) (C : Fin 256) (i : Fin 64) (d : Fin 128)
    (h0 : (j 0).val = b.val) (h1 : (j 1).val = C.val) (h2 : (j 2).val = i.val) (h3 : (j 3).val = d.val) :
    shapeCast S4x256x64x128 a shapeCasts_S4x16384x128_S4x256x64x128 j = a (ix3 b (place C i) d) := by
  refine shapeCast_apply _ _ j _ ?_
  rw [Shape.rowMajor_val_three, Shape.rowMajor_val_four]
  show (b.val * 16384 + (C.val * 64 + i.val)) * 128 + d.val = (((j 0).val * 256 + (j 1).val) * 64 + (j 2).val) * 128 + (j 3).val
  omega

theorem numbers_split (s : IVec S4x16384 32) (j : S4x256x1x64.Idx) (b : Fin 4) (C : Fin 256) (i : Fin 64)
    (h0 : (j 0).val = b.val) (h1 : (j 1).val = C.val) (h3 : (j 3).val = i.val) :
    shapeCast S4x256x1x64 s shapeCasts_S4x16384_S4x256x1x64 j = s (ix2 b (place C i)) := by
  have h2 : (j 2).val < 1 := (j 2).isLt
  refine shapeCast_apply _ _ j _ ?_
  rw [Shape.rowMajor_val_two, Shape.rowMajor_val_four]
  show b.val * 16384 + (C.val * 64 + i.val) = (((j 0).val * 256 + (j 1).val) * 1 + (j 2).val) * 64 + (j 3).val
  omega

/-- The eight chunks' numbers in a block. -/
abbrev eight (x : Vec Ideal S1x8x1x64 .i32) : Fin 8 → Vec Ideal S1x1x1x64 .i32 :=
  ![View.ld x r0_2, View.ld x r0_4, View.ld x r0_5, View.ld x r0_6, View.ld x r0_7, View.ld x r0_8, View.ld x r0_9, View.ld x r0_10]

theorem eight_at (x : Vec Ideal S1x8x1x64 .i32) (g : Fin 8) (i : Fin 64) : eight x g (ix4 0 0 0 i) = x (ix4 0 g 0 i) := by
  fin_cases g <;> exact View.ld_unit_apply_of (S := S1x8x1x64) x _ _ _ _ _ fun q => match q with
    | ⟨0, _⟩ => rfl
    | ⟨1, _⟩ => rfl
    | ⟨2, _⟩ => rfl
    | ⟨3, _⟩ => (Nat.zero_add _).symm

theorem reads (d : Dev nD) (t : Fin cfg0.N) :
    Reads (m ((d : Thread nD τ).loc main_arg0)) (m ((d : Thread nD τ).loc main_arg1)) (grid0.coords t 0) (grid0.coords t 1)
      (View.ld (iblk m d 0 t) r0_0) (View.ld (iblk m d 1 t) r0_1) (View.ld (iblk m d 3 t) r0_3) (eight (iblk m d 2 t)) := by
  have e0 : ∀ t : Fin cfg0.N, win0_0.index t = ![(grid0.coords t 0).val, (grid0.coords t 1).val, 0, 0] :=
    (by decide +kernel : ∀ t : Fin grid0.N, _)
  have e1 : ∀ t : Fin cfg0.N, win0_1.index t = ![(grid0.coords t 0).val, ((grid0.coords t 1).val * 8 + 255) % 256, 0, 0] :=
    (by decide +kernel : ∀ t : Fin grid0.N, _)
  have e2 : ∀ t : Fin cfg0.N, win0_2.index t = ![(grid0.coords t 0).val, (grid0.coords t 1).val, 0, 0] :=
    (by decide +kernel : ∀ t : Fin grid0.N, _)
  have e3 : ∀ t : Fin cfg0.N, win0_3.index t = ![(grid0.coords t 0).val, ((grid0.coords t 1).val * 8 + 255) % 256, 0, 0] :=
    (by decide +kernel : ∀ t : Fin grid0.N, _)
  refine ⟨fun g i col => ?_, fun i col => ?_, fun g i => ?_, fun i => ?_⟩
  · have h : View.ld (iblk m d 0 t) r0_0 = iblk m d 0 t := View.ld_unit_lit (S := S1x8x64x128) _ _ (by decide)
    rw [h]
    show V m d main_v0 ((win0_0.blk t).view.emb (ix4 0 g i col)) = _
    rw [entry_rows]
    refine rows_split _ _ _ _ _ _ ?_ ?_ ?_ ?_
    · blk_simp [e0]; exact Nat.add_zero _
    · blk_simp [e0]; rfl
    · blk_simp [e0]
    · blk_simp [e0]
  · have h : View.ld (iblk m d 1 t) r0_1 = iblk m d 1 t := View.ld_unit_lit (S := S1x1x64x128) _ _ (by decide)
    rw [h]
    show V m d main_v0 ((win0_1.blk t).view.emb (ix4 0 0 i col)) = _
    rw [entry_rows]
    refine rows_split _ _ _ _ _ _ ?_ ?_ ?_ ?_
    · blk_simp [e1]; exact Nat.add_zero _
    · blk_simp [e1]; rfl
    · blk_simp [e1]
    · blk_simp [e1]
  · rw [eight_at]
    show V m d main_v1 ((win0_2.blk t).view.emb (ix4 0 g 0 i)) = _
    rw [entry_numbers]
    refine numbers_split _ _ _ _ _ ?_ ?_ ?_
    · blk_simp [e2]; exact Nat.add_zero _
    · blk_simp [e2]; rfl
    · blk_simp [e2]
  · have h : View.ld (iblk m d 3 t) r0_3 = iblk m d 3 t := View.ld_unit_lit (S := S1x1x1x64) _ _ (by decide)
    rw [h]
    show V m d main_v1 ((win0_3.blk t).view.emb (ix4 0 0 0 i)) = _
    rw [entry_numbers]
    refine numbers_split _ _ _ _ _ ?_ ?_ ?_
    · blk_simp [e3]; exact Nat.add_zero _
    · blk_simp [e3]; rfl
    · blk_simp [e3]

/-! ## The array -/

section Sums

variable (x0 : Vec Ideal S1x8x64x128 .f32) (x1 : Vec Ideal S1x1x64x128 .f32) (x2 : Vec Ideal S1x8x1x64 .i32) (x3 : Vec Ideal S1x1x1x64 .i32)

/-- The block's scores, of the four windows' contents. -/
def allScores : FVec Ideal S512x128 .f32 := scores (View.ld x0 r0_0) (View.ld x1 r0_1) (View.ld x3 r0_3) (eight x2)

theorem sums_at (r : Fin 512) (z : Fin 1) : k0_pay47 x0 x1 x2 x3 (ix2 r z)
    = (top fun j => allScores x0 x1 x2 x3 (ix2 r j)) + Ideal.log (total fun j => allScores x0 x1 x2 x3 (ix2 r j)) :=
  log_at _ _ _ _ _ _ _ _ _ _ r z

theorem weights_at (r : Fin 512) (j : Fin 128) : k0_pay48 x0 x1 x2 x3 (ix2 r j)
    = Ideal.exp (allScores x0 x1 x2 x3 (ix2 r j) - top fun j => allScores x0 x1 x2 x3 (ix2 r j))
      * Ideal.div 1 (total fun j => allScores x0 x1 x2 x3 (ix2 r j)) :=
  weight_at _ j _ _ _ _ _ _ _ _ _ r

theorem first_store (x : S1x1x64x128.Idx) : k0_pay28 (k0_pay36 x0 x1 x2 x3) (k0_pay38 x0 x1 x2 x3) (k0_pay39 x0 x1 x2 x3) (k0_pay40 x0 x1 x2 x3) (k0_pay41 x0 x1 x2 x3) (k0_pay42 x0 x1 x2 x3) (k0_pay43 x0 x1 x2 x3) (k0_pay44 x0 x1 x2 x3) (k0_pay45 x0 x1 x2 x3) (k0_pay46 x0 x1 x2 x3) (View.ld x2 r0_9) x
    = store 0 (by decide) (k0_pay36 x0 x1 x2 x3) (k0_pay47 x0 x1 x2 x3) (k0_pay48 x0 x1 x2 x3) ⟨(x 2).val, (x 2).isLt⟩ ⟨(x 3).val, (x 3).isLt⟩ :=
  store0 _ _ x _ _ _ _ _ _ _ _ _

theorem second_store (x : S1x1x64x128.Idx) : k0_pay30 (k0_pay29 (k0_pay36 x0 x1 x2 x3) (k0_pay38 x0 x1 x2 x3) (k0_pay39 x0 x1 x2 x3) (k0_pay40 x0 x1 x2 x3) (k0_pay41 x0 x1 x2 x3) (k0_pay42 x0 x1 x2 x3) (k0_pay43 x0 x1 x2 x3) (k0_pay44 x0 x1 x2 x3) (k0_pay45 x0 x1 x2 x3) (k0_pay46 x0 x1 x2 x3) (View.ld x2 r0_9)) x
    = store 64 (by decide) (k0_pay36 x0 x1 x2 x3) (k0_pay47 x0 x1 x2 x3) (k0_pay48 x0 x1 x2 x3) ⟨(x 2).val, (x 2).isLt⟩ ⟨(x 3).val, (x 3).isLt⟩ :=
  store1 _ _ x _ _ _ _ _ _ _ _ _

end Sums

theorem array_eq (d : Dev nD)
    (hf : ∀ (b : Fin 4) (r : Fin 16384) (k : Fin 64), ∃ e : ℝ, m ((d : Thread nD τ).loc main_arg0) (ix3 b r (low k)) = (e : EReal)) :
    (dats m 0 d).arrAt 4 cfg0.N = plain (m ((d : Thread nD τ).loc main_arg0)) (m ((d : Thread nD τ).loc main_arg1)) := by
  have e4 : ∀ t : Fin cfg0.N, win0_4.index t = ![(grid0.coords t 0).val, (grid0.coords t 1).val, 0, 0] :=
    (by decide +kernel : ∀ t : Fin grid0.N, _)
  refine (dats m 0 d).arrAt_eq_of_covers 4 _ (by decide +kernel) fun t _ y => ?_
  blk_simp
  rw [after0_4]
  unfold out0_4
  have at_tile : ∀ (g : Fin 8) (x : S1x1x64x128.Idx), (∀ q, (y q : ℕ) = (![0, g.val, 0, 0] : Fin 4 → Nat) q + (x q).val) →
      plain (m ((d : Thread nD τ).loc main_arg0)) (m ((d : Thread nD τ).loc main_arg1))
        (ix4 (grid0.coords t 0) (chunk (grid0.coords t 1) g) ⟨(x 2).val, (x 2).isLt⟩ ⟨(x 3).val, (x 3).isLt⟩)
      = plain (m ((d : Thread nD τ).loc main_arg0)) (m ((d : Thread nD τ).loc main_arg1)) ((win0_4.blk t).view.emb y) := by
    intro g x hx
    have h1 := hx 1
    have h2 := hx 2
    have h3 := hx 3
    have x1 : (x 1).val < 1 := (x 1).isLt
    refine congrArg _ (funext fun q => Fin.ext ?_)
    match q with
    | ⟨0, _⟩ =>
      show (grid0.coords t 0).val = ((win0_4.blk t).view.emb y 0).val
      blk_simp [e4]
    | ⟨1, _⟩ =>
      show (grid0.coords t 1).val * 8 + g.val = ((win0_4.blk t).view.emb y 1).val
      blk_simp [e4]
      change (y 1).val = g.val + (x 1).val at h1
      omega
    | ⟨2, _⟩ =>
      show (x 2).val = ((win0_4.blk t).view.emb y 2).val
      blk_simp [e4]
      change (y 2).val = 0 + (x 2).val at h2
      omega
    | ⟨3, _⟩ =>
      show (x 3).val = ((win0_4.blk t).view.emb y 3).val
      blk_simp [e4]
      change (y 3).val = 0 + (x 3).val at h3
      omega
  have at_store := fun (o : ℕ) (g : Fin 8) (ho : o ≤ 448) (eo : o = 64 * g.val) => stored (reads m d t) o g ho eo (hf (grid0.coords t 0))
    (k0_pay47 (iblk m d 0 t) (iblk m d 1 t) (iblk m d 2 t) (iblk m d 3 t)) (k0_pay48 (iblk m d 0 t) (iblk m d 1 t) (iblk m d 2 t) (iblk m d 3 t))
    (sums_at _ _ _ _) (weights_at _ _ _ _)
  refine View.canon_eq_of_allAt _ y _ (cover0_4 _ _ _ _ _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))))
  · exact (store7 _ _ _ x).trans ((at_store 448 7 (by decide) rfl _ _).trans (at_tile 7 x hx))
  · exact (store6 _ _ _ x).trans ((at_store 384 6 (by decide) rfl _ _).trans (at_tile 6 x hx))
  · exact (store5 _ _ _ x).trans ((at_store 320 5 (by decide) rfl _ _).trans (at_tile 5 x hx))
  · exact (store4 _ _ _ x).trans ((at_store 256 4 (by decide) rfl _ _).trans (at_tile 4 x hx))
  · exact (store3 _ _ _ x).trans ((at_store 192 3 (by decide) rfl _ _).trans (at_tile 3 x hx))
  · exact (store2 _ _ _ x).trans ((at_store 128 2 (by decide) rfl _ _).trans (at_tile 2 x hx))
  · exact (second_store _ _ _ _ x).trans ((at_store 64 1 (by decide) rfl _ _).trans (at_tile 1 x hx))
  · exact (first_store _ _ _ _ x).trans ((at_store 0 0 (by decide) rfl _ _).trans (at_tile 0 x hx))

/-! ## The claims -/

theorem infinite : Ideal.ofBits .f32 0x7F800000#32 = ⊤ := by
  simp [Ideal.ofBits, Ideal.ieee]

/-- The precondition says that the queries are real. -/
theorem finite_of_pre (a : FVec Ideal S4x16384x128 .f32) (s : IVec S4x16384 32)
    (e : Cert.Pre_finite_queries.fn (F := Ideal) a s = fun _ => 1#1) (b : Fin 4) (r : Fin 16384) (k : Fin 64) :
    ∃ x : ℝ, a (ix3 b r (low k)) = (x : EReal) := by
  have h := congrFun e (ix3 b r k)
  have h' : Cert.Pre_finite_queries.fn (F := Ideal) a s (ix3 b r k)
      = Ideal.cmp .olt (max (a (ix3 b r (low k))) (-a (ix3 b r (low k)))) (Ideal.ofBits .f32 0x7F800000#32) := by
    unfold Cert.Pre_finite_queries.fn low
    pointwise
    rfl
  rw [h', infinite] at h
  unfold Ideal.cmp at h
  generalize a (ix3 b r (low k)) = z at h
  induction z using EReal.rec with
  | bot => simp at h
  | coe x => exact ⟨x, rfl⟩
  | top => simp at h

theorem frame_kernel : Cert.quiescent_Attention (hAttention := Cert.Attention.Gen.facts) :=
  fun m ρ _ => Cert.Attention.Gen.frame m ρ

theorem frame_ideal : Cert.quiescent_AttentionIdeal (hAttentionIdeal := Cert.AttentionIdeal.Gen.facts) :=
  fun m ρ _ => Cert.AttentionIdeal.Gen.frame m ρ

theorem frame_reference :
    Cert.quiescent_AttentionReferenceIdeal (hAttentionReferenceIdeal := Cert.AttentionReferenceIdeal.Gen.facts) := fun m ρ _ =>
  (θ_run Cert.AttentionReferenceIdeal.defs _ _).mono (fun r h => ⟨fun c => (h c).2, sem_eq_zero_of_no_sems (by decide) r.2⟩)
    (AttRef.run m ρ)

theorem algebraic : Cert.algebraic_AttentionIdeal_AttentionReferenceIdeal_pre_finite_queries (hAttentionIdeal := Cert.AttentionIdeal.Gen.facts)
    (hAttentionReferenceIdeal := Cert.AttentionReferenceIdeal.Gen.facts) (hPre_finite_queries := Cert.Pre_finite_queries.Gen.facts) := by
  intro m g m' g' hpre hagree
  refine ⟨fun c => plain (m ((c.tc : Thread _ _).loc Cert.AttentionIdeal.main_arg0)) (m ((c.tc : Thread _ _).loc Cert.AttentionIdeal.main_arg1)),
    (θ_run Cert.AttentionIdeal.defs _ _).mono (fun _ h c => ⟨(h c).1.trans (array_eq m c (finite_of_pre _ _ (hpre c))), (h c).2⟩)
      (Cert.AttentionIdeal.Value.run_blocks (F := Ideal) m g), ?_⟩
  refine (θ_run Cert.AttentionReferenceIdeal.defs _ _).mono (fun _ h c => ⟨(h c).1.trans ?_, (h c).2⟩) (AttRef.run m' g')
  exact congrArg₂ plain (hagree c).1 (hagree c).2

end Cert.Proof.AttVal

end
-- ==== Proof.CombineVal.lean ====
/- The merge of the four hash rounds: the kernel of the combine call, block by block, and the plain formula over
   the whole array come to one function of a key's four rows. -/
module

public import proofs.«01_k».proof.Defs
public import proofs.«01_k».proof.Proof.Gen.Combine.Frame
public import proofs.«01_k».proof.Proof.Gen.CombineIdeal.Value
public import proofs.«01_k».proof.Proof.Gen.CombineReferenceIdeal.Run
public import Idealize.ShloMosaic.Lib.Pointwise
public import Idealize.ShloMosaic.Lib.Tactic.CleanTypes
public import Idealize.ShloMosaic.Lib.Pipeline.ValueKit

@[expose] public section

noncomputable section

namespace Cert.Proof.CombineVal

open Idealize.ShloMosaic Idealize.ShloMosaic.TcCoe Idealize.SL.Sem
open Idealize.ShloMosaic.Pipeline Idealize.ShloMosaic.Pointwise

/-- The greatest of a key's four logits (each row carries its logit in column 64). -/
def top (r : Fin 4 → Fin 128 → EReal) : EReal :=
  Finset.fold max (Ideal.ofBits .f32 0xFF800000#32) (fun x => r x ⟨64, by decide⟩) Finset.univ

/-- The rows of the four rounds, weighted by the softmax of their logits and added up, at column `d`. -/
def mix (r : Fin 4 → Fin 128 → EReal) (d : Fin 64) : EReal :=
  ∑ x : Fin 4, r x ⟨d.val, by omega⟩
    * Ideal.exp (r x ⟨64, by decide⟩ - (top r + Ideal.log (∑ x' : Fin 4, Ideal.exp (r x' ⟨64, by decide⟩ - top r))))

section Kernel

open Cert.CombineIdeal Cert.CombineIdeal.Gen Cert.CombineIdeal.Value

theorem block_at (P : Vec Ideal S1x4x512x128 .f32) (y : S1x512x64.Idx) :
    E1 P y = mix (fun x d => P (ix4 0 x ⟨(y 1).val, (y 1).isLt⟩ d)) ⟨(y 2).val, (y 2).isLt⟩ := by
  unfold E1 mix top
  pointwise
  first | done | rfl

end Kernel

section Reference

open Cert.CombineReferenceIdeal Cert.CombineReferenceIdeal.Gen

/-- The reference's result, of the array of rows. -/
def plain (a : FVec Ideal S4x16384x128 .f32) : FVec Ideal S4x4096x64 .f32 :=
  Host.reduceAdd (mulf (shapeCast _ (extractStridedSlice S4x16384x64 ![0, 0, 0] a slices_S4x16384x128_S4x16384x64_0_0_0) shapeCasts_S4x16384x64_S4x4x4096x64) (broadcastInDim S4x4x4096x64 ![0, 1, 2, 3] bcast_S4x4x4096x1_S4x4x4096x64_0_1_2_3 (Host.exp (subf (shapeCast _ (shapeCast _ (extractStridedSlice S4x16384x1 ![0, 0, 64] a slices_S4x16384x128_S4x16384x1_0_0_64) shapeCasts_S4x16384x1_S4x16384) shapeCasts_S4x16384_S4x4x4096x1) (broadcastInDim S4x4x4096x1 ![0, 1, 2, 3] bcast_S4x1x4096x1_S4x4x4096x1_0_1_2_3 (addf (Host.log (broadcastInDim S4x1x4096x1 ![0, 2, 3] bcast_S4x4096x1_S4x1x4096x1_0_2_3 (Host.reduceAdd (Host.exp (subf (shapeCast _ (shapeCast _ (extractStridedSlice S4x16384x1 ![0, 0, 64] a slices_S4x16384x128_S4x16384x1_0_0_64) shapeCasts_S4x16384x1_S4x16384) shapeCasts_S4x16384_S4x4x4096x1) (broadcastInDim S4x4x4096x1 ![0, 1, 2, 3] bcast_S4x1x4096x1_S4x4x4096x1_0_1_2_3 (broadcastInDim S4x1x4096x1 ![0, 2, 3] bcast_S4x4096x1_S4x1x4096x1_0_2_3 (Host.reduce FloatOps.maximumf (shapeCast _ (shapeCast _ (extractStridedSlice S4x16384x1 ![0, 0, 64] a slices_S4x16384x128_S4x16384x1_0_0_64) shapeCasts_S4x16384x1_S4x16384) shapeCasts_S4x16384_S4x4x4096x1) (constant S_ .f32 0xFF800000#32) reducesTo_S4x4x4096x1_S4x4096x1_d1 h_S_))))) (constant S_ .f32 0x00000000#32) reducesTo_S4x4x4096x1_S4x4096x1_d1 h_S_))) (broadcastInDim S4x1x4096x1 ![0, 2, 3] bcast_S4x4096x1_S4x1x4096x1_0_2_3 (Host.reduce FloatOps.maximumf (shapeCast _ (shapeCast _ (extractStridedSlice S4x16384x1 ![0, 0, 64] a slices_S4x16384x128_S4x16384x1_0_0_64) shapeCasts_S4x16384x1_S4x16384) shapeCasts_S4x16384_S4x4x4096x1) (constant S_ .f32 0xFF800000#32) reducesTo_S4x4x4096x1_S4x4096x1_d1 h_S_)))))))) (constant S_ .f32 0x00000000#32) reducesTo_S4x4x4096x64_S4x4096x64_d1 h_S_

theorem plain_at (a : FVec Ideal S4x16384x128 .f32) (i : S4x4096x64.Idx) :
    plain a i = mix (fun x d => a (ix3 ⟨(i 0).val, (i 0).isLt⟩
      ⟨x.val * 4096 + (i 1).val, by have h : (i 1).val < 4096 := (i 1).isLt; omega⟩ d)) ⟨(i 2).val, (i 2).isLt⟩ := by
  unfold plain mix top
  pointwise
  refine Finset.sum_congr rfl fun x _ => ?_
  rw [add_comm (Ideal.log _)]
  first | done | rfl

end Reference

/-! ## The whole array -/

section Array

open Cert.CombineIdeal Cert.CombineIdeal.Gen Cert.CombineIdeal.Value

variable (m : (ℓ : Loc nD τ sig) → Buf (Elt Ideal) ℓ)

theorem entry_eq (c : Dev nD) : V m c main_v1
    = shapeCast S4x4x4096x128 (m ((c : Thread nD τ).loc main_arg0)) shapeCasts_S4x16384x128_S4x4x4096x128 := by
  unfold V hostOps0
  after_results <;> rfl

theorem split_at (a : FVec Ideal S4x16384x128 .f32) (j : S4x4x4096x128.Idx) :
    shapeCast S4x4x4096x128 a shapeCasts_S4x16384x128_S4x4x4096x128 j
      = a (ix3 ⟨(j 0).val, (j 0).isLt⟩ ⟨(j 1).val * 4096 + (j 2).val, by
          have h1 : (j 1).val < 4 := (j 1).isLt
          have h2 : (j 2).val < 4096 := (j 2).isLt
          omega⟩ ⟨(j 3).val, (j 3).isLt⟩) := by
  refine shapeCast_apply _ _ j _ ?_
  rw [Shape.rowMajor_val_three, Shape.rowMajor_val_four]
  show ((j 0).val * 16384 + ((j 1).val * 4096 + (j 2).val)) * 128 + (j 3).val
    = (((j 0).val * 4 + (j 1).val) * 4096 + (j 2).val) * 128 + (j 3).val
  omega

/-- The block of point `t`, read at a round, a key and a column. -/
theorem block_read (c : Dev nD) (t : Fin cfg0.N) (x : Fin 4) (k : Fin 512) (d : Fin 128) :
    View.ld (iblk m c 0 t) r0_0 (ix4 0 x k d) = m ((c : Thread nD τ).loc main_arg0)
      (ix3 (grid0.coords t 0) ⟨x.val * 4096 + ((grid0.coords t 1).val * 512 + k.val), by
        have h : (grid0.coords t 1).val < 8 := (grid0.coords t 1).isLt
        omega⟩ d) := by
  have e0 : ∀ t : Fin cfg0.N, win0_0.index t = ![(grid0.coords t 0).val, 0, (grid0.coords t 1).val, 0] :=
    (by decide +kernel : ∀ t : Fin grid0.N, _)
  have h : View.ld (iblk m c 0 t) r0_0 = iblk m c 0 t := View.ld_unit_lit (S := S1x4x512x128) _ _ (by decide)
  rw [h]
  show V m c main_v1 ((win0_0.blk t).view.emb (ix4 0 x k d)) = _
  rw [entry_eq, split_at]
  refine congrArg _ (funext fun q => Fin.ext ?_)
  match q with
  | ⟨0, _⟩ => show ((win0_0.blk t).view.emb (ix4 0 x k d) 0).val = _; blk_simp [e0]; simp
  | ⟨1, _⟩ =>
    show ((win0_0.blk t).view.emb (ix4 0 x k d) 1).val * 4096 + ((win0_0.blk t).view.emb (ix4 0 x k d) 2).val = _
    blk_simp [e0]
    first | done | simp
  | ⟨2, _⟩ => show ((win0_0.blk t).view.emb (ix4 0 x k d) 3).val = _; blk_simp [e0]

theorem array_eq (c : Dev nD) : (dats m 0 c).arrAt 1 cfg0.N = plain (m ((c : Thread nD τ).loc main_arg0)) := by
  have e1 : ∀ t : Fin cfg0.N, win0_1.index t = ![(grid0.coords t 0).val, (grid0.coords t 1).val, 0] :=
    (by decide +kernel : ∀ t : Fin grid0.N, _)
  refine (dats m 0 c).arrAt_eq_of_covers 1 _ (by decide +kernel) fun t hf y => ?_
  blk_simp
  rw [after0_1]
  unfold out0_1
  rw [canon1_eq, block_at, plain_at]
  have h2 : (⟨((win0_1.blk t).view.emb y 2).val, ((win0_1.blk t).view.emb y 2).isLt⟩ : Fin 64) = ⟨(y 2).val, (y 2).isLt⟩ := by
    apply Fin.ext
    blk_simp [e1]
  rw [h2]
  refine congrArg (fun r => mix r _) (funext fun x => funext fun d => (block_read m c t x ⟨(y 1).val, (y 1).isLt⟩ d).trans ?_)
  refine congrArg _ (funext fun q => Fin.ext ?_)
  match q with
  | ⟨0, _⟩ =>
    show (grid0.coords t 0).val = ((win0_1.blk t).view.emb y 0).val
    blk_simp [e1]
  | ⟨1, _⟩ =>
    show x.val * 4096 + ((grid0.coords t 1).val * 512 + (y 1).val) = x.val * 4096 + ((win0_1.blk t).view.emb y 1).val
    blk_simp [e1]
  | ⟨2, _⟩ => rfl

end Array

/-! ## The claims -/

theorem frame_kernel : Cert.quiescent_Combine (hCombine := Cert.Combine.Gen.facts) :=
  fun m ρ _ => Cert.Combine.Gen.frame m ρ

theorem frame_ideal : Cert.quiescent_CombineIdeal (hCombineIdeal := Cert.CombineIdeal.Gen.facts) :=
  fun m ρ _ => Cert.CombineIdeal.Gen.frame m ρ

theorem frame_reference :
    Cert.quiescent_CombineReferenceIdeal (hCombineReferenceIdeal := Cert.CombineReferenceIdeal.Gen.facts) := fun m ρ _ =>
  (θ_run Cert.CombineReferenceIdeal.defs _ _).mono
    (fun r h => ⟨fun c => (h c).2.2, sem_eq_zero_of_no_sems (by decide) r.2⟩)
    (CombineReferenceIdeal.Value.run (F := Ideal) m ρ)

/-- Any two empty arrays are equal. -/
theorem empty_eq {α : Type} (a b : (⟨1, ![0]⟩ : Shape).Idx → α) : a = b :=
  funext fun j => absurd (j 0).isLt (Nat.not_lt_zero _)

theorem algebraic : Cert.algebraic_CombineIdeal_CombineReferenceIdeal (hCombineIdeal := Cert.CombineIdeal.Gen.facts)
    (hCombineReferenceIdeal := Cert.CombineReferenceIdeal.Gen.facts) := by
  intro m g m' g' _ hagree
  refine ⟨fun c => plain (m ((c.tc : Thread _ _).loc Cert.CombineIdeal.main_arg0)), fun _ => fun _ => (0 : EReal),
    (θ_run Cert.CombineIdeal.defs _ _).mono (fun _ h c => ⟨(h c).1.trans (array_eq m c), empty_eq _ _, (h c).2⟩)
      (Cert.CombineIdeal.Value.run_blocks (F := Ideal) m g), ?_⟩
  refine (θ_run Cert.CombineReferenceIdeal.defs _ _).mono (fun _ h c => ⟨(h c).1.trans ?_, empty_eq _ _, (h c).2.2⟩)
    (CombineReferenceIdeal.Value.run (F := Ideal) m' g')
  exact congrArg plain (hagree c)

end Cert.Proof.CombineVal

end
-- ==== Proof.lean ====
/-
  The claims about the SparseCore's three calls with the host lines between them: they run on any memory whose buckets are those of
  their hashes, the arguments end unchanged and every counter ends at zero; and over the extended reals they leave the sorted numbers,
  the places and the two tables of rows that the reference's sorts and indexings leave. And the claims about the hash call and the
  combination call (`HashRef`, `CombineVal`), all of them together in `claim`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_buckets
public import proofs.«01_k».proof.Proof.Main
public import proofs.«01_k».proof.Proof.RefSort
public import proofs.«01_k».proof.Proof.RefRows
public import proofs.«01_k».proof.Proof.HashRef
public import proofs.«01_k».proof.Proof.AttVal
public import proofs.«01_k».proof.Proof.CombineVal
public import proofs.«01_k».proof.Proof.Gen.Hash
public import proofs.«01_k».proof.Proof.Gen.Hash.Skeleton
public import proofs.«01_k».proof.Proof.Gen.Hash.Value
public import proofs.«01_k».proof.Proof.Gen.HashIdeal
public import proofs.«01_k».proof.Proof.Gen.HashIdeal.Skeleton
public import proofs.«01_k».proof.Proof.Gen.HashIdeal.Value
public import proofs.«01_k».proof.Proof.Gen.HashReferenceIdeal
public import proofs.«01_k».proof.Proof.Gen.Attention
public import proofs.«01_k».proof.Proof.Gen.Attention.Skeleton
public import proofs.«01_k».proof.Proof.Gen.Attention.Value
public import proofs.«01_k».proof.Proof.Gen.AttentionIdeal
public import proofs.«01_k».proof.Proof.Gen.AttentionIdeal.Skeleton
public import proofs.«01_k».proof.Proof.Gen.AttentionIdeal.Value
public import proofs.«01_k».proof.Proof.Gen.AttentionReferenceIdeal
public import proofs.«01_k».proof.Proof.Gen.Pre_finite_queries
public import proofs.«01_k».proof.Proof.Gen.Combine
public import proofs.«01_k».proof.Proof.Gen.Combine.Skeleton
public import proofs.«01_k».proof.Proof.Gen.Combine.Value
public import proofs.«01_k».proof.Proof.Gen.CombineIdeal
public import proofs.«01_k».proof.Proof.Gen.CombineIdeal.Skeleton
public import proofs.«01_k».proof.Proof.Gen.CombineIdeal.Value
public import proofs.«01_k».proof.Proof.Gen.CombineReferenceIdeal
public import proofs.«01_k».proof.Proof.Gen.CombineReferenceIdeal.Run
public import Idealize.ShloMosaic.Lib.Pipeline.Value
public import Idealize.ShloMosaic.Adequacy
public import Idealize.ShloMosaic.Init

@[expose] public section

noncomputable section

namespace Cert.Proof

open Idealize.ShloMosaic Idealize.ShloMosaic.Pipeline Idealize.SL.Sem Idealize.ShloMosaic.ValueIdx
open Cert.KernelIdeal (S4x16384 S4x4x4096 S4x4096x128 S4x16384x128)

/-- A word that the precondition's two comparisons admit is one of the sixty-four buckets from `64 h` on. -/
theorem bucket (v : BitVec 32) (h : Fin 4)
    (e : IntOp.andi (IntOp.cmpi .sge v (BitVec.ofNat 32 h.val * 64#32)) (IntOp.cmpi .slt v (BitVec.ofNat 32 h.val * 64#32 + 64#32)) = 1#1) :
    h.val * 64 ≤ v.toNat ∧ v.toNat < h.val * 64 + 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hl := h.isLt
  rw [show BitVec.ofNat 32 h.val * 64#32 = BitVec.ofNat 32 (h.val * 64) by
      refine BitVec.eq_of_toNat_eq ?_
      simp only [BitVec.toNat_mul, BitVec.toNat_ofNat, Nat.reducePow, Nat.reduceMod]; omega,
    show BitVec.ofNat 32 (h.val * 64) + 64#32 = BitVec.ofNat 32 (h.val * 64 + 64) by
      refine BitVec.eq_of_toNat_eq ?_
      simp only [BitVec.toNat_add, BitVec.toNat_ofNat, Nat.reducePow, Nat.reduceMod]; omega] at e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow] at e
  have := v.isLt
  omega

/-- What the precondition says of the buckets. -/
theorem buckets_of_pre {F : FTy → Type} [FloatOps F] (a : S4x4096x128.Idx → F .f32) (fb : S4x4x4096.Idx → BitVec 32) (so : S4x16384x128.Idx → F .f32)
    (e : Cert.Pre_in_buckets.fn (F := F) a fb so = fun _ => 1#1) : Rows.InBuckets fb := by
  intro b h j
  exact bucket _ h (congrFun e (ValueIdx.ix3 b h (j 0)))

theorem frame_kernel : Cert.quiescent_Kernel := fun m ρ h =>
  (θ_run Cert.KernelIdeal.defs _ _).mono (fun _ h => ⟨fun c => (h.1 c).1, h.2⟩)
    (Rows.run_main (F := Bits) m ρ fun d => buckets_of_pre _ _ _ (h d))

theorem frame_ideal : Cert.quiescent_KernelIdeal := fun m ρ h =>
  (θ_run Cert.KernelIdeal.defs _ _).mono (fun _ h => ⟨fun c => (h.1 c).1, h.2⟩)
    (Rows.run_main (F := Ideal) m ρ fun d => buckets_of_pre _ _ _ (h d))

theorem frame_reference : Cert.quiescent_ReferenceIdeal := fun m ρ _ =>
  (θ_run Cert.ReferenceIdeal.defs _ _).mono (fun r h => ⟨fun c => (h c).2.2.2.2, sem_eq_zero_of_no_sems (by decide) r.2⟩)
    (ReferenceIdeal.Value.run (F := Ideal) m ρ)

theorem algebraic : Cert.algebraic_KernelIdeal_ReferenceIdeal := by
  intro m g m' g' hpre hagree
  have hb := fun d => buckets_of_pre (F := Ideal) _ _ _ (hpre d)
  refine ⟨fun c => Rows.sorted (Rows.bOf m c), fun c => Rows.places (Rows.bOf m c), fun c => Rows.rows1 m c, fun c => Rows.rows2 m c,
    (θ_run Cert.KernelIdeal.defs _ _).mono (fun _ h c => ⟨(h.1 c).2.1, (h.1 c).2.2.1, (h.1 c).2.2.2.1, (h.1 c).2.2.2.2, (h.1 c).1⟩)
      (Rows.run_main (F := Ideal) m g hb), ?_⟩
  refine (θ_run Cert.ReferenceIdeal.defs _ _).mono (fun _ h c => ?_) (ReferenceIdeal.Value.run (F := Ideal) m' g')
  obtain ⟨hst, hun, hr1, hr2, hargs⟩ := h c
  obtain ⟨h0, h1, h2⟩ := hagree c
  have hs := RefSort.st_eq (hb c)
  have hu := RefSort.undo_eq (hb c)
  refine ⟨hst.trans ?_, hun.trans ?_, hr1.trans ?_, hr2.trans ?_, hargs⟩
  · unfold ReferenceIdeal.Value.res_main_v10
    rw [h1]
    exact hs
  · rw [h1]
    exact hu
  · unfold ReferenceIdeal.Value.res_main_v17
    rw [h0, h1]
    have e := RefRows.first_rows (F := Ideal) (m ((SparseCore.T c).loc KernelIdeal.main_arg0)) _ (Rows.sorted_lt (Rows.bOf m c))
    rw [← hs] at e
    refine Eq.trans ?_ (e.trans ?_)
    · rfl
    · rw [hs]; rfl
  · unfold ReferenceIdeal.Value.res_main_v24
    rw [h1, h2]
    have e := RefRows.second_rows (F := Ideal) (m ((SparseCore.T c).loc KernelIdeal.main_arg2)) _ (Rows.places_lt (Rows.bOf m c))
    rw [← hu] at e
    refine Eq.trans ?_ (e.trans ?_)
    · rfl
    · rw [hu]; rfl

theorem claim : Cert.Claim := ⟨Cert.Kernel.Gen.facts, Cert.KernelIdeal.Gen.facts, Cert.ReferenceIdeal.Gen.facts,
  Cert.Hash.Gen.facts, Cert.HashIdeal.Gen.facts, Cert.HashReferenceIdeal.Gen.facts,
  Cert.Attention.Gen.facts, Cert.AttentionIdeal.Gen.facts, Cert.AttentionReferenceIdeal.Gen.facts,
  Cert.Combine.Gen.facts, Cert.CombineIdeal.Gen.facts, Cert.CombineReferenceIdeal.Gen.facts,
  Cert.Pre_in_buckets.Gen.facts, Cert.Pre_finite_queries.Gen.facts,
  frame_kernel, frame_ideal, frame_reference, fun m ρ _ => frame_reference m ρ True.intro,
  HashRef.frame_kernel, HashRef.frame_ideal, HashRef.frame_reference,
  AttVal.frame_kernel, AttVal.frame_ideal, fun m ρ _ => AttVal.frame_ideal m ρ True.intro,
  AttVal.frame_reference, fun m ρ _ => AttVal.frame_reference m ρ True.intro,
  CombineVal.frame_kernel, CombineVal.frame_ideal, CombineVal.frame_reference,
  trivial, algebraic, trivial, HashRef.algebraic, trivial, AttVal.algebraic, trivial, CombineVal.algebraic⟩

end Cert.Proof

end
